-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_v56) = v4 c
          ∧ r.2.mem ((c.tc : Thread Cert.Reference2Ideal.nD Cert.Reference2Ideal.τ).loc Cert.Reference2Ideal.main_v61) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x8448x384 : Shape := ⟨3, ![2, 8448, 384]⟩
abbrev S2x8448x256 : Shape := ⟨3, ![2, 8448, 256]⟩
abbrev S2x8448x32 : Shape := ⟨3, ![2, 8448, 32]⟩
abbrev S384 : Shape := ⟨1, ![384]⟩
abbrev S384x576 : Shape := ⟨2, ![384, 576]⟩
abbrev S256 : Shape := ⟨1, ![256]⟩
abbrev S256x768 : Shape := ⟨2, ![256, 768]⟩
abbrev S_ : Shape := ⟨0, ![]⟩

class Facts : Prop where
  bcast_S_S2x8448x384 : S_.BroadcastsInDim S2x8448x384 (![] : Fin 0 → Fin S2x8448x384.rank)
  bcast_S_S2x8448x256 : S_.BroadcastsInDim S2x8448x256 (![] : Fin 0 → Fin S2x8448x256.rank)
  bcast_S_S2x8448x32 : S_.BroadcastsInDim S2x8448x32 (![] : Fin 0 → Fin S2x8448x32.rank)
  bcast_S_S384 : S_.BroadcastsInDim S384 (![] : Fin 0 → Fin S384.rank)
  bcast_S_S384x576 : S_.BroadcastsInDim S384x576 (![] : Fin 0 → Fin S384x576.rank)
  bcast_S_S256 : S_.BroadcastsInDim S256 (![] : Fin 0 → Fin S256.rank)
  bcast_S_S256x768 : S_.BroadcastsInDim S256x768 (![] : Fin 0 → Fin S256x768.rank)

variable [Facts]

def fn_part1 {F : FTy → Type} [FloatOps F] (main_arg6 : FVec F S256x768 .f32) (main_v2 : IVec S2x8448x384 1) (main_v5 : IVec S2x8448x256 1) (main_v8 : IVec S2x8448x32 1) (main_v11 : IVec S384 1) (main_v14 : IVec S384x576 1) (main_v17 : IVec S256 1) : IVec S2x8448x384 1 × IVec S2x8448x256 1 × IVec S2x8448x32 1 × IVec S384 1 × IVec S384x576 1 × IVec S256 1 × IVec S256x768 1 :=
  let main_v18 : FVec F S256x768 .f32 := Host.absf main_arg6
  let main_cst_5 : FVec F S_ .f32 := constant S_ .f32 0x7F800000#32
  let main_v19 : FVec F S256x768 .f32 := broadcastInDim S256x768 ![] bcast_S_S256x768 main_cst_5
  let main_v20 : IVec S256x768 1 := cmpf .olt main_v18 main_v19
  (main_v2, main_v5, main_v8, main_v11, main_v14, main_v17, main_v20)

def fn {F : FTy → Type} [FloatOps F] (main_arg0 : FVec F S2x8448x384 .f32) (main_arg1 : FVec F S2x8448x256 .f32) (main_arg2 : FVec F S2x8448x32 .f32) (main_arg3 : FVec F S384 .f32) (main_arg4 : FVec F S384x576 .f32) (main_arg5 : FVec F S256 .f32) (main_arg6 : FVec F S256x768 .f32) : IVec S2x8448x384 1 × IVec S2x8448x256 1 × IVec S2x8448x32 1 × IVec S384 1 × IVec S384x576 1 × IVec S256 1 × IVec S256x768 1 :=
  let main_v0 : FVec F S2x8448x384 .f32 := Host.absf main_arg0
  let main_cst : FVec F S_ .f32 := constant S_ .f32 0x7F800000#32
  let main_v1 : FVec F S2x8448x384 .f32 := broadcastInDim S2x8448x384 ![] bcast_S_S2x8448x384 main_cst
  let main_v2 : IVec S2x8448x384 1 := cmpf .olt main_v0 main_v1
  let main_v3 : FVec F S2x8448x256 .f32 := Host.absf main_arg1
  let main_cst_0 : FVec F S_ .f32 := constant S_ .f32 0x7F800000#32
  let main_v4 : FVec F S2x8448x256 .f32 := broadcastInDim S2x8448x256 ![] bcast_S_S2x8448x256 main_cst_0
  let main_v5 : IVec S2x8448x256 1 := cmpf .olt main_v3 main_v4
  let main_v6 : FVec F S2x8448x32 .f32 := Host.absf main_arg2
  let main_cst_1 : FVec F S_ .f32 := constant S_ .f32 0x7F800000#32
  let main_v7 : FVec F S2x8448x32 .f32 := broadcastInDim S2x8448x32 ![] bcast_S_S2x8448x32 main_cst_1
  let main_v8 : IVec S2x8448x32 1 := cmpf .olt main_v6 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_v12 : FVec F S384x576 .f32 := Host.absf main_arg4
  let main_cst_3 : FVec F S_ .f32 := constant S_ .f32 0x7F800000#32
  let main_v13 : FVec F S384x576 .f32 := broadcastInDim S384x576 ![] bcast_S_S384x576 main_cst_3
  let main_v14 : IVec S384x576 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg6 main_v2 main_v5 main_v8 main_v11 main_v14 main_v17
-- ==== Kernel.lean ====
abbrev S2x8448x384 : Shape := ⟨3, ![2, 8448, 384]⟩
abbrev S2x8448x256 : Shape := ⟨3, ![2, 8448, 256]⟩
abbrev S2x8448x32 : Shape := ⟨3, ![2, 8448, 32]⟩
abbrev S384 : Shape := ⟨1, ![384]⟩
abbrev S384x576 : Shape := ⟨2, ![384, 576]⟩
abbrev S256 : Shape := ⟨1, ![256]⟩
abbrev S256x768 : Shape := ⟨2, ![256, 768]⟩
abbrev S32 : Shape := ⟨1, ![32]⟩
abbrev S_ : Shape := ⟨0, ![]⟩
abbrev S32x1 : Shape := ⟨2, ![32, 1]⟩
abbrev S2x8448x64 : Shape := ⟨3, ![2, 8448, 64]⟩
abbrev S384x6x96 : Shape := ⟨3, ![384, 6, 96]⟩
abbrev S384x6x32 : Shape := ⟨3, ![384, 6, 32]⟩
abbrev S384x6x128 : Shape := ⟨3, ![384, 6, 128]⟩
abbrev S384x768 : Shape := ⟨2, ![384, 768]⟩
abbrev S384x6x64 : Shape := ⟨3, ![384, 6, 64]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x32 : Shape := ⟨2, ![8192, 32]⟩
abbrev S8192x64 : Shape := ⟨2, ![8192, 64]⟩
abbrev S8192x128 : Shape := ⟨2, ![8192, 128]⟩
abbrev S256x96 : Shape := ⟨2, ![256, 96]⟩
abbrev S256x32 : Shape := ⟨2, ![256, 32]⟩
abbrev S256x128 : Shape := ⟨2, ![256, 128]⟩
abbrev S8448x128 : Shape := ⟨2, ![8448, 128]⟩
abbrev S1x384 : Shape := ⟨2, ![1, 384]⟩
abbrev S1x256 : Shape := ⟨2, ![1, 256]⟩
abbrev S2x6x8448x128 : Shape := ⟨4, ![2, 6, 8448, 128]⟩
abbrev S1x256x384 : Shape := ⟨3, ![1, 256, 384]⟩
abbrev S1x256x256 : Shape := ⟨3, ![1, 256, 256]⟩
abbrev S1x256x64 : Shape := ⟨3, ![1, 256, 64]⟩
abbrev S1x6x256x128 : Shape := ⟨4, ![1, 6, 256, 128]⟩
abbrev S256x384 : Shape := ⟨2, ![256, 384]⟩
abbrev S256x1 : Shape := ⟨2, ![256, 1]⟩
abbrev S256x256 : Shape := ⟨2, ![256, 256]⟩
abbrev S256x64 : Shape := ⟨2, ![256, 64]⟩
abbrev S1x1x256x128 : Shape := ⟨4, ![1, 1, 256, 128]⟩
abbrev S2x8192x384 : Shape := ⟨3, ![2, 8192, 384]⟩
abbrev S1x2x256x128 : Shape := ⟨4, ![1, 2, 256, 128]⟩
abbrev S1x2x8448x128 : Shape := ⟨4, ![1, 2, 8448, 128]⟩
abbrev S1x256x128 : Shape := ⟨3, ![1, 256, 128]⟩
abbrev S1x1x2816x128 : Shape := ⟨4, ![1, 1, 2816, 128]⟩
abbrev S2816x128 : Shape := ⟨2, ![2816, 128]⟩
abbrev S256x2816 : Shape := ⟨2, ![256, 2816]⟩

abbrev nBuf : Space → Nat
  | .hbm => 98
  | .vmem => 29
  | .smem => 0
  | _ => 0

abbrev bufTy : (tb : Table) → Fin (tcTables nBuf tb) → BufTy
  | .hbm, ⟨0, _⟩ => ⟨S2x8448x384, .f32⟩
  | .hbm, ⟨1, _⟩ => ⟨S2x8448x256, .f32⟩
  | .hbm, ⟨2, _⟩ => ⟨S2x8448x32, .f32⟩
  | .hbm, ⟨3, _⟩ => ⟨S384, .f32⟩
  | .hbm, ⟨4, _⟩ => ⟨S384x576, .f32⟩
  | .hbm, ⟨5, _⟩ => ⟨S256, .f32⟩
  | .hbm, ⟨6, _⟩ => ⟨S256x768, .f32⟩
  | .hbm, ⟨7, _⟩ => ⟨S32, .i32⟩
  | .hbm, ⟨8, _⟩ => ⟨S32, .i1⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S2x8448x32, .f32⟩
  | .hbm, ⟨16, _⟩ => ⟨S2x8448x64, .f32⟩
  | .hbm, ⟨17, _⟩ => ⟨S384x6x96, .f32⟩
  | .hbm, ⟨18, _⟩ => ⟨S_, .f32⟩
  | .hbm, ⟨19, _⟩ => ⟨S384x6x32, .f32⟩
  | .hbm, ⟨20, _⟩ => ⟨S384x6x128, .f32⟩
  | .hbm, ⟨21, _⟩ => ⟨S384x768, .f32⟩
  | .hbm, ⟨22, _⟩ => ⟨S384x768, .bf16⟩
  | .hbm, ⟨23, _⟩ => ⟨S_, .f32⟩
  | .hbm, ⟨24, _⟩ => ⟨S384x6x64, .f32⟩
  | .hbm, ⟨25, _⟩ => ⟨S384x6x32, .f32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S32x1, .i32⟩
  | .hbm, ⟨31, _⟩ => ⟨S384x6x32, .f32⟩
  | .hbm, ⟨32, _⟩ => ⟨S384x6x128, .f32⟩
  | .hbm, ⟨33, _⟩ => ⟨S384x768, .f32⟩
  | .hbm, ⟨34, _⟩ => ⟨S384x768, .bf16⟩
  | .hbm, ⟨35, _⟩ => ⟨S128, .f32⟩
  | .hbm, ⟨36, _⟩ => ⟨S128x64, .f32⟩
  | .hbm, ⟨37, _⟩ => ⟨S8192, .f32⟩
  | .hbm, ⟨38, _⟩ => ⟨S64, .f32⟩
  | .hbm, ⟨39, _⟩ => ⟨S1x64, .f32⟩
  | .hbm, ⟨40, _⟩ => ⟨S128x64, .f32⟩
  | .hbm, ⟨41, _⟩ => ⟨S8192, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S8192x1, .f32⟩
  | .hbm, ⟨51, _⟩ => ⟨S1x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x1, .f32⟩
  | .hbm, ⟨56, _⟩ => ⟨S1x8, .f32⟩
  | .hbm, ⟨57, _⟩ => ⟨S8192x8, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S8192x8, .f32⟩
  | .hbm, ⟨63, _⟩ => ⟨S8192x8, .f32⟩
  | .hbm, ⟨64, _⟩ => ⟨S8192x32, .f32⟩
  | .hbm, ⟨65, _⟩ => ⟨S8192x8, .f32⟩
  | .hbm, ⟨66, _⟩ => ⟨S8192x8, .f32⟩
  | .hbm, ⟨67, _⟩ => ⟨S8192x8, .f32⟩
  | .hbm, ⟨68, _⟩ => ⟨S8192x8, .f32⟩
  | .hbm, ⟨69, _⟩ => ⟨S8192x8, .f32⟩
  | .hbm, ⟨70, _⟩ => ⟨S8192x8, .f32⟩
  | .hbm, ⟨71, _⟩ => ⟨S8192x32, .f32⟩
  | .hbm, ⟨72, _⟩ => ⟨S_, .f32⟩
  | .hbm, ⟨73, _⟩ => ⟨S8192x64, .f32⟩
  | .hbm, ⟨74, _⟩ => ⟨S_, .f32⟩
  | .hbm, ⟨75, _⟩ => ⟨S8192x32, .f32⟩
  | .hbm, ⟨76, _⟩ => ⟨S8192x128, .f32⟩
  | .hbm, ⟨77, _⟩ => ⟨S_, .f32⟩
  | .hbm, ⟨78, _⟩ => ⟨S8192x64, .f32⟩
  | .hbm, ⟨79, _⟩ => ⟨S_, .f32⟩
  | .hbm, ⟨80, _⟩ => ⟨S8192x32, .f32⟩
  | .hbm, ⟨81, _⟩ => ⟨S8192x128, .f32⟩
  | .hbm, ⟨82, _⟩ => ⟨S_, .f32⟩
  | .hbm, ⟨83, _⟩ => ⟨S256x96, .f32⟩
  | .hbm, ⟨84, _⟩ => ⟨S_, .f32⟩
  | .hbm, ⟨85, _⟩ => ⟨S256x32, .f32⟩
  | .hbm, ⟨86, _⟩ => ⟨S256x128, .f32⟩
  | .hbm, ⟨87, _⟩ => ⟨S8448x128, .f32⟩
  | .hbm, ⟨88, _⟩ => ⟨S_, .f32⟩
  | .hbm, ⟨89, _⟩ => ⟨S256x128, .f32⟩
  | .hbm, ⟨90, _⟩ => ⟨S8448x128, .f32⟩
  | .hbm, ⟨91, _⟩ => ⟨S1x384, .f32⟩
  | .hbm, ⟨92, _⟩ => ⟨S1x256, .f32⟩
  | .hbm, ⟨93, _⟩ => ⟨S256x768, .bf16⟩
  | .hbm, ⟨94, _⟩ => ⟨S2x6x8448x128, .bf16⟩
  | .hbm, ⟨95, _⟩ => ⟨S2x6x8448x128, .bf16⟩
  | .hbm, ⟨96, _⟩ => ⟨S2x6x8448x128, .bf16⟩
  | .hbm, ⟨97, _⟩ => ⟨S2x8192x384, .f32⟩
  | .local _ .vmem, ⟨0, _⟩ => ⟨S1x256x384, .f32⟩
  | .local _ .vmem, ⟨1, _⟩ => ⟨S1x256x384, .f32⟩
  | .local _ .vmem, ⟨2, _⟩ => ⟨S1x256x256, .f32⟩
  | .local _ .vmem, ⟨3, _⟩ => ⟨S1x256x256, .f32⟩
  | .local _ .vmem, ⟨4, _⟩ => ⟨S1x256x64, .f32⟩
  | .local _ .vmem, ⟨5, _⟩ => ⟨S1x256x64, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x384, .f32⟩
  | .local _ .vmem, ⟨11, _⟩ => ⟨S384x768, .bf16⟩
  | .local _ .vmem, ⟨12, _⟩ => ⟨S384x768, .bf16⟩
  | .local _ .vmem, ⟨13, _⟩ => ⟨S1x256, .f32⟩
  | .local _ .vmem, ⟨14, _⟩ => ⟨S256x768, .bf16⟩
  | .local _ .vmem, ⟨15, _⟩ => ⟨S1x6x256x128, .bf16⟩
  | .local _ .vmem, ⟨16, _⟩ => ⟨S1x6x256x128, .bf16⟩
  | .local _ .vmem, ⟨17, _⟩ => ⟨S1x6x256x128, .bf16⟩
  | .local _ .vmem, ⟨18, _⟩ => ⟨S1x6x256x128, .bf16⟩
  | .local _ .vmem, ⟨19, _⟩ => ⟨S1x6x256x128, .bf16⟩
  | .local _ .vmem, ⟨20, _⟩ => ⟨S1x6x256x128, .bf16⟩
  | .local _ .vmem, ⟨21, _⟩ => ⟨S1x2x256x128, .bf16⟩
  | .local _ .vmem, ⟨22, _⟩ => ⟨S1x2x256x128, .bf16⟩
  | .local _ .vmem, ⟨23, _⟩ => ⟨S1x2x8448x128, .bf16⟩
  | .local _ .vmem, ⟨24, _⟩ => ⟨S1x2x8448x128, .bf16⟩
  | .local _ .vmem, ⟨25, _⟩ => ⟨S1x2x8448x128, .bf16⟩
  | .local _ .vmem, ⟨26, _⟩ => ⟨S1x2x8448x128, .bf16⟩
  | .local _ .vmem, ⟨27, _⟩ => ⟨S1x256x128, .f32⟩
  | .local _ .vmem, ⟨28, _⟩ => ⟨S1x256x128, .f32⟩
  | _, _ => ⟨S2x8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71_0 : Ref sig .tc := ⟨.hbm, 94, rfl⟩
abbrev main_v71_1 : Ref sig .tc := ⟨.hbm, 95, rfl⟩
abbrev main_v71_2 : Ref sig .tc := ⟨.hbm, 96, rfl⟩
abbrev main_v72 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x6x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x6x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x6x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨3, ![2, 3, 32], ![false, false, false]⟩

def k1_mult1 : BitVec 32 :=
  let c0_i32 : BitVec 32 := 0#32
  let c2816_i32 : BitVec 32 := 2816#32
  let v8 : BitVec 32 := Scalar.muli c0_i32 c2816_i32
  v8
def k1_off1 (c0_i32 : BitVec 32) : Fin 4 → Nat :=
  let c0_9 : Index := 0#32
  let c0_10 : Index := 0#32
  let c2816_i32 : BitVec 32 := 2816#32
  let v8 : BitVec 32 := Scalar.muli c0_i32 c2816_i32
  let v9 : BitVec 32 := v8
  let v10 : Index := Scalar.indexCast v9
  let c0_11 : Index := 0#32
  ![0, 0, v10.toNat, 0]
def k1_off2 (c0_i32 : BitVec 32) : Fin 4 → Nat :=
  let c0_18 : Index := 0#32
  let c1_19 : Index := 1#32
  let c2816_i32 : BitVec 32 := 2816#32
  let v8 : BitVec 32 := Scalar.muli c0_i32 c2816_i32
  let v9 : BitVec 32 := v8
  let v30 : Index := Scalar.indexCast v9
  let c0_20 : Index := 0#32
  ![0, 1, v30.toNat, 0]
def k1_mult2 : BitVec 32 :=
  let c1_i32 : BitVec 32 := 1#32
  let c2816_i32_27 : BitVec 32 := 2816#32
  let v50 : BitVec 32 := Scalar.muli c1_i32 c2816_i32_27
  v50
def k1_mult3 : BitVec 32 :=
  let c2_i32 : BitVec 32 := 2#32
  let c2816_i32_46 : BitVec 32 := 2816#32
  let v92 : BitVec 32 := Scalar.muli c2_i32 c2816_i32_46
  v92
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c1_i32_0 : BitVec 32 := 1#32
  let v2 : BitVec 32 := Scalar.addi v1 c1_i32_0
  let c0_i32_1 : BitVec 32 := 0#32
  let c0_i32_2 : BitVec 32 := 0#32
  ![arg0.toNat, arg1.toNat, v2.toNat, c0_i32_1.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2x8448x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2x8448x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== ReferenceIdeal.lean ====
abbrev S2x8448x384 : Shape := ⟨3, ![2, 8448, 384]⟩
abbrev S2x8448x256 : Shape := ⟨3, ![2, 8448, 256]⟩
abbrev S2x8448x32 : Shape := ⟨3, ![2, 8448, 32]⟩
abbrev S384 : Shape := ⟨1, ![384]⟩
abbrev S384x576 : Shape := ⟨2, ![384, 576]⟩
abbrev S256 : Shape := ⟨1, ![256]⟩
abbrev S256x768 : Shape := ⟨2, ![256, 768]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S2x8192x384 : Shape := ⟨3, ![2, 8192, 384]⟩
abbrev S2x8192x256 : Shape := ⟨3, ![2, 8192, 256]⟩
abbrev S2x8192x32 : Shape := ⟨3, ![2, 8192, 32]⟩
abbrev S2x8192 : Shape := ⟨2, ![2, 8192]⟩
abbrev S2x8192x1 : Shape := ⟨3, ![2, 8192, 1]⟩
abbrev S1x1x384 : Shape := ⟨3, ![1, 1, 384]⟩
abbrev S2x8192x576 : Shape := ⟨3, ![2, 8192, 576]⟩
abbrev S2x8192x6x96 : Shape := ⟨4, ![2, 8192, 6, 96]⟩
abbrev S1x1x256 : Shape := ⟨3, ![1, 1, 256]⟩
abbrev S2x8192x768 : Shape := ⟨3, ![2, 8192, 768]⟩
abbrev S2x8192x6x128 : Shape := ⟨4, ![2, 8192, 6, 128]⟩
abbrev S2x8192x6x64 : Shape := ⟨4, ![2, 8192, 6, 64]⟩
abbrev S2x8192x6x32 : Shape := ⟨4, ![2, 8192, 6, 32]⟩
abbrev S8192x1x8 : Shape := ⟨3, ![8192, 1, 8]⟩
abbrev S2x8192x6x16 : Shape := ⟨4, ![2, 8192, 6, 16]⟩
abbrev S2x8192x6x8 : Shape := ⟨4, ![2, 8192, 6, 8]⟩
abbrev S1x8192x1x8 : Shape := ⟨4, ![1, 8192, 1, 8]⟩
abbrev S2x8192x16 : Shape := ⟨3, ![2, 8192, 16]⟩
abbrev S2x8192x8 : Shape := ⟨3, ![2, 8192, 8]⟩
abbrev S1x8192x8 : Shape := ⟨3, ![1, 8192, 8]⟩
abbrev S2x8192x1x32 : Shape := ⟨4, ![2, 8192, 1, 32]⟩
abbrev S2x256x384 : Shape := ⟨3, ![2, 256, 384]⟩
abbrev S2x256x256 : Shape := ⟨3, ![2, 256, 256]⟩
abbrev S2x256x32 : Shape := ⟨3, ![2, 256, 32]⟩
abbrev S2x256 : Shape := ⟨2, ![2, 256]⟩
abbrev S2x256x1 : Shape := ⟨3, ![2, 256, 1]⟩
abbrev S2x256x576 : Shape := ⟨3, ![2, 256, 576]⟩
abbrev S2x256x6x96 : Shape := ⟨4, ![2, 256, 6, 96]⟩
abbrev S2x256x768 : Shape := ⟨3, ![2, 256, 768]⟩
abbrev S2x256x6x128 : Shape := ⟨4, ![2, 256, 6, 128]⟩
abbrev S2x256x6x64 : Shape := ⟨4, ![2, 256, 6, 64]⟩
abbrev S2x256x6x32 : Shape := ⟨4, ![2, 256, 6, 32]⟩
abbrev S2x256x1x32 : Shape := ⟨4, ![2, 256, 1, 32]⟩
abbrev S2x8448x6x96 : Shape := ⟨4, ![2, 8448, 6, 96]⟩
abbrev S2x8448x6x64 : Shape := ⟨4, ![2, 8448, 6, 64]⟩
abbrev S2x6x8192x8448 : Shape := ⟨4, ![2, 6, 8192, 8448]⟩
abbrev S2x6x8192 : Shape := ⟨3, ![2, 6, 8192]⟩
abbrev S2x6x8192x1 : Shape := ⟨4, ![2, 6, 8192, 1]⟩
abbrev S2x6x64x8192 : Shape := ⟨4, ![2, 6, 64, 8192]⟩

abbrev nBuf : Space → Nat
  | .hbm => 233
  | .vmem => 0
  | .smem => 0
  | _ => 0

abbrev hbmTy0_0 (i : Nat) : BufTy := match i % 128 with
  | 0 => ⟨S2x8448x384, .f32⟩
  | 1 => ⟨S2x8448x256, .f32⟩
  | 2 => ⟨S2x8448x32, .f32⟩
  | 3 => ⟨S384, .f32⟩
  | 4 => ⟨S384x576, .f32⟩
  | 5 => ⟨S256, .f32⟩
  | 6 => ⟨S256x768, .f32⟩
  | 7 => ⟨S128, .f32⟩
  | 8 => ⟨S128x64, .f32⟩
  | 9 => ⟨S8192, .f32⟩
  | 10 => ⟨S64, .f32⟩
  | 11 => ⟨S1x64, .f32⟩
  | 12 => ⟨S128x64, .f32⟩
  | 13 => ⟨S8192, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8192x1, .f32⟩
  | 23 => ⟨S1x8, .f32⟩
  | 24 => ⟨S8192x8, .f32⟩
  | 25 => ⟨S8192x8, .f32⟩
  | 26 => ⟨S8192x8, .f32⟩
  | 27 => ⟨S8192x1, .f32⟩
  | 28 => ⟨S1x8, .f32⟩
  | 29 => ⟨S8192x8, .f32⟩
  | 30 => ⟨S8192x8, .f32⟩
  | 31 => ⟨S8192x8, .f32⟩
  | 32 => ⟨S2x8192x384, .f32⟩
  | 33 => ⟨S2x8192x256, .f32⟩
  | 34 => ⟨S2x8192x32, .f32⟩
  | 35 => ⟨S2x8192x384, .f32⟩
  | 36 => ⟨S_, .f32⟩
  | 37 => ⟨S2x8192, .f32⟩
  | 38 => ⟨S2x8192x1, .f32⟩
  | 39 => ⟨S_, .f32⟩
  | 40 => ⟨S2x8192x1, .f32⟩
  | 41 => ⟨S2x8192x1, .f32⟩
  | 42 => ⟨S_, .f32⟩
  | 43 => ⟨S2x8192x1, .f32⟩
  | 44 => ⟨S2x8192x1, .f32⟩
  | 45 => ⟨S2x8192x1, .f32⟩
  | 46 => ⟨S2x8192x384, .f32⟩
  | 47 => ⟨S2x8192x384, .f32⟩
  | 48 => ⟨S1x1x384, .f32⟩
  | 49 => ⟨S2x8192x384, .f32⟩
  | 50 => ⟨S2x8192x384, .f32⟩
  | 51 => ⟨S2x8192x576, .f32⟩
  | 52 => ⟨S2x8192x6x96, .f32⟩
  | 53 => ⟨S2x8192x256, .f32⟩
  | 54 => ⟨S_, .f32⟩
  | 55 => ⟨S2x8192, .f32⟩
  | 56 => ⟨S2x8192x1, .f32⟩
  | 57 => ⟨S_, .f32⟩
  | 58 => ⟨S2x8192x1, .f32⟩
  | 59 => ⟨S2x8192x1, .f32⟩
  | 60 => ⟨S_, .f32⟩
  | 61 => ⟨S2x8192x1, .f32⟩
  | 62 => ⟨S2x8192x1, .f32⟩
  | 63 => ⟨S2x8192x1, .f32⟩
  | 64 => ⟨S2x8192x256, .f32⟩
  | 65 => ⟨S2x8192x256, .f32⟩
  | 66 => ⟨S1x1x256, .f32⟩
  | 67 => ⟨S2x8192x256, .f32⟩
  | 68 => ⟨S2x8192x256, .f32⟩
  | 69 => ⟨S2x8192x768, .f32⟩
  | 70 => ⟨S2x8192x6x128, .f32⟩
  | 71 => ⟨S2x8192x6x64, .f32⟩
  | 72 => ⟨S2x8192x6x32, .f32⟩
  | 73 => ⟨S2x8192x6x64, .f32⟩
  | 74 => ⟨S2x8192x6x64, .f32⟩
  | 75 => ⟨S8192x1x8, .f32⟩
  | 76 => ⟨S8192x1x8, .f32⟩
  | 77 => ⟨S2x8192x6x16, .f32⟩
  | 78 => ⟨S2x8192x6x8, .f32⟩
  | 79 => ⟨S2x8192x6x8, .f32⟩
  | 80 => ⟨S8192x1x8, .f32⟩
  | 81 => ⟨S8192x1x8, .f32⟩
  | 82 => ⟨S1x8192x1x8, .f32⟩
  | 83 => ⟨S2x8192x6x8, .f32⟩
  | 84 => ⟨S2x8192x6x8, .f32⟩
  | 85 => ⟨S1x8192x1x8, .f32⟩
  | 86 => ⟨S2x8192x6x8, .f32⟩
  | 87 => ⟨S2x8192x6x8, .f32⟩
  | 88 => ⟨S2x8192x6x8, .f32⟩
  | 89 => ⟨S1x8192x1x8, .f32⟩
  | 90 => ⟨S2x8192x6x8, .f32⟩
  | 91 => ⟨S2x8192x6x8, .f32⟩
  | 92 => ⟨S1x8192x1x8, .f32⟩
  | 93 => ⟨S2x8192x6x8, .f32⟩
  | 94 => ⟨S2x8192x6x8, .f32⟩
  | 95 => ⟨S2x8192x6x8, .f32⟩
  | 96 => ⟨S2x8192x6x16, .f32⟩
  | 97 => ⟨S2x8192x6x16, .f32⟩
  | 98 => ⟨S2x8192x6x8, .f32⟩
  | 99 => ⟨S2x8192x6x8, .f32⟩
  | 100 => ⟨S8192x1x8, .f32⟩
  | 101 => ⟨S8192x1x8, .f32⟩
  | 102 => ⟨S1x8192x1x8, .f32⟩
  | 103 => ⟨S2x8192x6x8, .f32⟩
  | 104 => ⟨S2x8192x6x8, .f32⟩
  | 105 => ⟨S1x8192x1x8, .f32⟩
  | 106 => ⟨S2x8192x6x8, .f32⟩
  | 107 => ⟨S2x8192x6x8, .f32⟩
  | 108 => ⟨S2x8192x6x8, .f32⟩
  | 109 => ⟨S1x8192x1x8, .f32⟩
  | 110 => ⟨S2x8192x6x8, .f32⟩
  | 111 => ⟨S2x8192x6x8, .f32⟩
  | 112 => ⟨S1x8192x1x8, .f32⟩
  | 113 => ⟨S2x8192x6x8, .f32⟩
  | 114 => ⟨S2x8192x6x8, .f32⟩
  | 115 => ⟨S2x8192x6x8, .f32⟩
  | 116 => ⟨S2x8192x6x16, .f32⟩
  | 117 => ⟨S2x8192x6x32, .f32⟩
  | 118 => ⟨S2x8192x16, .f32⟩
  | 119 => ⟨S2x8192x8, .f32⟩
  | 120 => ⟨S2x8192x8, .f32⟩
  | 121 => ⟨S8192x8, .f32⟩
  | 122 => ⟨S8192x8, .f32⟩
  | 123 => ⟨S1x8192x8, .f32⟩
  | 124 => ⟨S2x8192x8, .f32⟩
  | 125 => ⟨S2x8192x8, .f32⟩
  | 126 => ⟨S1x8192x8, .f32⟩
  | 127 => ⟨S2x8192x8, .f32⟩
  | _ => ⟨S2x8448x384, .f32⟩

abbrev hbmTy0_1 (i : Nat) : BufTy := match i % 128 with
  | 0 => ⟨S2x8192x8, .f32⟩
  | 1 => ⟨S2x8192x8, .f32⟩
  | 2 => ⟨S1x8192x8, .f32⟩
  | 3 => ⟨S2x8192x8, .f32⟩
  | 4 => ⟨S2x8192x8, .f32⟩
  | 5 => ⟨S1x8192x8, .f32⟩
  | 6 => ⟨S2x8192x8, .f32⟩
  | 7 => ⟨S2x8192x8, .f32⟩
  | 8 => ⟨S2x8192x8, .f32⟩
  | 9 => ⟨S2x8192x16, .f32⟩
  | 10 => ⟨S2x8192x16, .f32⟩
  | 11 => ⟨S2x8192x8, .f32⟩
  | 12 => ⟨S2x8192x8, .f32⟩
  | 13 => ⟨S8192x8, .f32⟩
  | 14 => ⟨S8192x8, .f32⟩
  | 15 => ⟨S1x8192x8, .f32⟩
  | 16 => ⟨S2x8192x8, .f32⟩
  | 17 => ⟨S2x8192x8, .f32⟩
  | 18 => ⟨S1x8192x8, .f32⟩
  | 19 => ⟨S2x8192x8, .f32⟩
  | 20 => ⟨S2x8192x8, .f32⟩
  | 21 => ⟨S2x8192x8, .f32⟩
  | 22 => ⟨S1x8192x8, .f32⟩
  | 23 => ⟨S2x8192x8, .f32⟩
  | 24 => ⟨S2x8192x8, .f32⟩
  | 25 => ⟨S1x8192x8, .f32⟩
  | 26 => ⟨S2x8192x8, .f32⟩
  | 27 => ⟨S2x8192x8, .f32⟩
  | 28 => ⟨S2x8192x8, .f32⟩
  | 29 => ⟨S2x8192x16, .f32⟩
  | 30 => ⟨S2x8192x32, .f32⟩
  | 31 => ⟨S2x8192x1x32, .f32⟩
  | 32 => ⟨S2x8192x6x32, .f32⟩
  | 33 => ⟨S2x8192x6x96, .f32⟩
  | 34 => ⟨S2x8192x6x96, .f32⟩
  | 35 => ⟨S2x256x384, .f32⟩
  | 36 => ⟨S2x256x256, .f32⟩
  | 37 => ⟨S2x256x32, .f32⟩
  | 38 => ⟨S2x256x384, .f32⟩
  | 39 => ⟨S_, .f32⟩
  | 40 => ⟨S2x256, .f32⟩
  | 41 => ⟨S2x256x1, .f32⟩
  | 42 => ⟨S_, .f32⟩
  | 43 => ⟨S2x256x1, .f32⟩
  | 44 => ⟨S2x256x1, .f32⟩
  | 45 => ⟨S_, .f32⟩
  | 46 => ⟨S2x256x1, .f32⟩
  | 47 => ⟨S2x256x1, .f32⟩
  | 48 => ⟨S2x256x1, .f32⟩
  | 49 => ⟨S2x256x384, .f32⟩
  | 50 => ⟨S2x256x384, .f32⟩
  | 51 => ⟨S1x1x384, .f32⟩
  | 52 => ⟨S2x256x384, .f32⟩
  | 53 => ⟨S2x256x384, .f32⟩
  | 54 => ⟨S2x256x576, .f32⟩
  | 55 => ⟨S2x256x6x96, .f32⟩
  | 56 => ⟨S2x256x256, .f32⟩
  | 57 => ⟨S_, .f32⟩
  | 58 => ⟨S2x256, .f32⟩
  | 59 => ⟨S2x256x1, .f32⟩
  | 60 => ⟨S_, .f32⟩
  | 61 => ⟨S2x256x1, .f32⟩
  | 62 => ⟨S2x256x1, .f32⟩
  | 63 => ⟨S_, .f32⟩
  | 64 => ⟨S2x256x1, .f32⟩
  | 65 => ⟨S2x256x1, .f32⟩
  | 66 => ⟨S2x256x1, .f32⟩
  | 67 => ⟨S2x256x256, .f32⟩
  | 68 => ⟨S2x256x256, .f32⟩
  | 69 => ⟨S1x1x256, .f32⟩
  | 70 => ⟨S2x256x256, .f32⟩
  | 71 => ⟨S2x256x256, .f32⟩
  | 72 => ⟨S2x256x768, .f32⟩
  | 73 => ⟨S2x256x6x128, .f32⟩
  | 74 => ⟨S2x256x6x64, .f32⟩
  | 75 => ⟨S2x256x6x32, .f32⟩
  | 76 => ⟨S2x256x6x64, .f32⟩
  | 77 => ⟨S2x256x6x64, .f32⟩
  | 78 => ⟨S2x256x1x32, .f32⟩
  | 79 => ⟨S2x256x6x32, .f32⟩
  | 80 => ⟨S2x256x6x96, .f32⟩
  | 81 => ⟨S2x256x6x96, .f32⟩
  | 82 => ⟨S2x8448x6x96, .f32⟩
  | 83 => ⟨S2x8448x6x64, .f32⟩
  | 84 => ⟨S2x6x8192x8448, .f32⟩
  | 85 => ⟨S_, .f32⟩
  | 86 => ⟨S2x6x8192x8448, .f32⟩
  | 87 => ⟨S2x6x8192x8448, .f32⟩
  | 88 => ⟨S_, .f32⟩
  | 89 => ⟨S2x6x8192, .f32⟩
  | 90 => ⟨S_, .f32⟩
  | 91 => ⟨S2x6x8192, .f32⟩
  | 92 => ⟨S2x6x8192, .f32⟩
  | 93 => ⟨S2x6x8192x1, .f32⟩
  | 94 => ⟨S2x6x8192x8448, .f32⟩
  | 95 => ⟨S2x6x8192x8448, .f32⟩
  | 96 => ⟨S2x6x8192x8448, .f32⟩
  | 97 => ⟨S_, .f32⟩
  | 98 => ⟨S2x6x8192, .f32⟩
  | 99 => ⟨S2x6x8192x1, .f32⟩
  | 100 => ⟨S2x6x8192x8448, .f32⟩
  | 101 => ⟨S2x6x8192x8448, .f32⟩
  | 102 => ⟨S2x6x64x8192, .f32⟩
  | 103 => ⟨S2x8192x6x64, .f32⟩
  | 104 => ⟨S2x8192x384, .f32⟩
  | _ => ⟨S2x8448x384, .f32⟩

abbrev hbmTy (i : Nat) : BufTy := match i / 128 with
  | 0 => hbmTy0_0 i
  | 1 => hbmTy0_1 i
  | _ => ⟨S2x8448x384, .f32⟩

abbrev bufTy : (tb : Table) → Fin (tcTables nBuf tb) → BufTy
  | .hbm, ⟨i, _⟩ => hbmTy i
  | _, _ => ⟨S2x8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_cst_7 : Ref sig .tc := ⟨.hbm, 167, rfl⟩
abbrev main_v152 : Ref sig .tc := ⟨.hbm, 168, rfl⟩
abbrev main_v153 : Ref sig .tc := ⟨.hbm, 169, rfl⟩
abbrev main_cst_8 : Ref sig .tc := ⟨.hbm, 170, rfl⟩
abbrev main_v154 : Ref sig .tc := ⟨.hbm, 171, rfl⟩
abbrev main_v155 : Ref sig .tc := ⟨.hbm, 172, rfl⟩
abbrev main_cst_9 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_cst_10 : Ref sig .tc := ⟨.hbm, 185, rfl⟩
abbrev main_v167 : Ref sig .tc := ⟨.hbm, 186, rfl⟩
abbrev main_v168 : Ref sig .tc := ⟨.hbm, 187, rfl⟩
abbrev main_cst_11 : Ref sig .tc := ⟨.hbm, 188, rfl⟩
abbrev main_v169 : Ref sig .tc := ⟨.hbm, 189, rfl⟩
abbrev main_v170 : Ref sig .tc := ⟨.hbm, 190, rfl⟩
abbrev main_cst_12 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_cst_13 : Ref sig .tc := ⟨.hbm, 213, rfl⟩
abbrev main_v192 : Ref sig .tc := ⟨.hbm, 214, rfl⟩
abbrev main_v193 : Ref sig .tc := ⟨.hbm, 215, rfl⟩
abbrev main_cst_14 : Ref sig .tc := ⟨.hbm, 216, rfl⟩
abbrev main_v194 : Ref sig .tc := ⟨.hbm, 217, rfl⟩
abbrev main_cst_15 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_cst_16 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩

abbrev nD : Nat := 1
abbrev τ : Topo := Topo.v7x

variable {F : FTy → Type} [FloatOps F]
-- ==== Kernel2.lean ====
abbrev S2x8448x1024 : Shape := ⟨3, ![2, 8448, 1024]⟩
abbrev S2x2x6x1024 : Shape := ⟨4, ![2, 2, 6, 1024]⟩
abbrev S1024 : Shape := ⟨1, ![1024]⟩
abbrev S1024x2208 : Shape := ⟨2, ![1024, 2208]⟩
abbrev S32 : Shape := ⟨1, ![32]⟩
abbrev S1024x32 : Shape := ⟨2, ![1024, 32]⟩
abbrev S1024x1408 : Shape := ⟨2, ![1024, 1408]⟩
abbrev S1024x768 : Shape := ⟨2, ![1024, 768]⟩
abbrev S_ : Shape := ⟨0, ![]⟩
abbrev S32x1 : Shape := ⟨2, ![32, 1]⟩
abbrev S1024x2240 : Shape := ⟨2, ![1024, 2240]⟩
abbrev S1x1024 : Shape := ⟨2, ![1, 1024]⟩
abbrev S2x8448x384 : Shape := ⟨3, ![2, 8448, 384]⟩
abbrev S2x8448x256 : Shape := ⟨3, ![2, 8448, 256]⟩
abbrev S2x8448x768 : Shape := ⟨3, ![2, 8448, 768]⟩
abbrev S2x8448x64 : Shape := ⟨3, ![2, 8448, 64]⟩
abbrev S1x256x1024 : Shape := ⟨3, ![1, 256, 1024]⟩
abbrev S1x1x6x1024 : Shape := ⟨4, ![1, 1, 6, 1024]⟩
abbrev S1x256x384 : Shape := ⟨3, ![1, 256, 384]⟩
abbrev S1x256x256 : Shape := ⟨3, ![1, 256, 256]⟩
abbrev S1x256x768 : Shape := ⟨3, ![1, 256, 768]⟩
abbrev S1x256x64 : Shape := ⟨3, ![1, 256, 64]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S256x2240 : Shape := ⟨2, ![256, 2240]⟩
abbrev S256x384 : Shape := ⟨2, ![256, 384]⟩
abbrev S256x256 : Shape := ⟨2, ![256, 256]⟩
abbrev S256x768 : Shape := ⟨2, ![256, 768]⟩
abbrev S256x64 : Shape := ⟨2, ![256, 64]⟩

abbrev nBuf : Space → Nat
  | .hbm => 24
  | .vmem => 18
  | .smem => 0
  | _ => 0

abbrev bufTy : (tb : Table) → Fin (tcTables nBuf tb) → BufTy
  | .hbm, ⟨0, _⟩ => ⟨S2x8448x1024, .f32⟩
  | .hbm, ⟨1, _⟩ => ⟨S2x2x6x1024, .f32⟩
  | .hbm, ⟨2, _⟩ => ⟨S1024, .f32⟩
  | .hbm, ⟨3, _⟩ => ⟨S1024x2208, .f32⟩
  | .hbm, ⟨4, _⟩ => ⟨S32, .i32⟩
  | .hbm, ⟨5, _⟩ => ⟨S32, .i1⟩
  | .hbm, ⟨6, _⟩ => ⟨S1024x32, .f32⟩
  | .hbm, ⟨7, _⟩ => ⟨S1024x1408, .f32⟩
  | .hbm, ⟨8, _⟩ => ⟨S1024x768, .f32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S32x1, .i32⟩
  | .hbm, ⟨14, _⟩ => ⟨S1024x32, .f32⟩
  | .hbm, ⟨15, _⟩ => ⟨S1024x2240, .f32⟩
  | .hbm, ⟨16, _⟩ => ⟨S1024x2240, .bf16⟩
  | .hbm, ⟨17, _⟩ => ⟨S1x1024, .f32⟩
  | .hbm, ⟨18, _⟩ => ⟨S2x8448x384, .f32⟩
  | .hbm, ⟨19, _⟩ => ⟨S2x8448x384, .f32⟩
  | .hbm, ⟨20, _⟩ => ⟨S2x8448x384, .f32⟩
  | .hbm, ⟨21, _⟩ => ⟨S2x8448x256, .f32⟩
  | .hbm, ⟨22, _⟩ => ⟨S2x8448x768, .f32⟩
  | .hbm, ⟨23, _⟩ => ⟨S2x8448x64, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x2240, .bf16⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x256, .f32⟩
  | .local _ .vmem, ⟨13, _⟩ => ⟨S1x256x256, .f32⟩
  | .local _ .vmem, ⟨14, _⟩ => ⟨S1x256x768, .f32⟩
  | .local _ .vmem, ⟨15, _⟩ => ⟨S1x256x768, .f32⟩
  | .local _ .vmem, ⟨16, _⟩ => ⟨S1x256x64, .f32⟩
  | .local _ .vmem, ⟨17, _⟩ => ⟨S1x256x64, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S2x8448x1024 : Shape := ⟨3, ![2, 8448, 1024]⟩
abbrev S2x2x6x1024 : Shape := ⟨4, ![2, 2, 6, 1024]⟩
abbrev S1024 : Shape := ⟨1, ![1024]⟩
abbrev S1024x2208 : Shape := ⟨2, ![1024, 2208]⟩
abbrev S2x256x1024 : Shape := ⟨3, ![2, 256, 1024]⟩
abbrev S2x8192x1024 : Shape := ⟨3, ![2, 8192, 1024]⟩
abbrev S2x1x1x1024 : Shape := ⟨4, ![2, 1, 1, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256 : Shape := ⟨2, ![2, 256]⟩
abbrev S2x256x1 : Shape := ⟨3, ![2, 256, 1]⟩
abbrev S2x256x2208 : Shape := ⟨3, ![2, 256, 2208]⟩
abbrev S2x8192x2208 : Shape := ⟨3, ![2, 8192, 2208]⟩
abbrev S2x8448x2208 : Shape := ⟨3, ![2, 8448, 2208]⟩
abbrev S2x8448x384 : Shape := ⟨3, ![2, 8448, 384]⟩
abbrev S2x8448x256 : Shape := ⟨3, ![2, 8448, 256]⟩
abbrev S2x8448x32 : Shape := ⟨3, ![2, 8448, 32]⟩
abbrev S2x8448x768 : Shape := ⟨3, ![2, 8448, 768]⟩
abbrev S2x8448x8 : Shape := ⟨3, ![2, 8448, 8]⟩
abbrev S2x8448x64 : Shape := ⟨3, ![2, 8448, 64]⟩

abbrev nBuf : Space → Nat
  | .hbm => 74
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x2x6x1024, .f32⟩
  | .hbm, ⟨2, _⟩ => ⟨S1024, .f32⟩
  | .hbm, ⟨3, _⟩ => ⟨S1024x2208, .f32⟩
  | .hbm, ⟨4, _⟩ => ⟨S2x256x1024, .f32⟩
  | .hbm, ⟨5, _⟩ => ⟨S2x8192x1024, .f32⟩
  | .hbm, ⟨6, _⟩ => ⟨S2x1x1x1024, .f32⟩
  | .hbm, ⟨7, _⟩ => ⟨S2x1x1024, .f32⟩
  | .hbm, ⟨8, _⟩ => ⟨S2x1x1x1024, .f32⟩
  | .hbm, ⟨9, _⟩ => ⟨S2x1x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x1x1x1024, .f32⟩
  | .hbm, ⟨34, _⟩ => ⟨S2x1x1024, .f32⟩
  | .hbm, ⟨35, _⟩ => ⟨S2x1x1x1024, .f32⟩
  | .hbm, ⟨36, _⟩ => ⟨S2x1x1024, .f32⟩
  | .hbm, ⟨37, _⟩ => ⟨S2x256x1024, .f32⟩
  | .hbm, ⟨38, _⟩ => ⟨S_, .f32⟩
  | .hbm, ⟨39, _⟩ => ⟨S2x256, .f32⟩
  | .hbm, ⟨40, _⟩ => ⟨S2x256x1, .f32⟩
  | .hbm, ⟨41, _⟩ => ⟨S_, .f32⟩
  | .hbm, ⟨42, _⟩ => ⟨S2x256x1, .f32⟩
  | .hbm, ⟨43, _⟩ => ⟨S2x256x1, .f32⟩
  | .hbm, ⟨44, _⟩ => ⟨S_, .f32⟩
  | .hbm, ⟨45, _⟩ => ⟨S2x256x1, .f32⟩
  | .hbm, ⟨46, _⟩ => ⟨S2x256x1, .f32⟩
  | .hbm, ⟨47, _⟩ => ⟨S2x256x1, .f32⟩
  | .hbm, ⟨48, _⟩ => ⟨S2x256x1024, .f32⟩
  | .hbm, ⟨49, _⟩ => ⟨S2x256x1024, .f32⟩
  | .hbm, ⟨50, _⟩ => ⟨S1x1x1024, .f32⟩
  | .hbm, ⟨51, _⟩ => ⟨S2x256x1024, .f32⟩
  | .hbm, ⟨52, _⟩ => ⟨S2x256x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x256x1024, .f32⟩
  | .hbm, ⟨57, _⟩ => ⟨S2x256x1024, .f32⟩
  | .hbm, ⟨58, _⟩ => ⟨S2x256x1024, .f32⟩
  | .hbm, ⟨59, _⟩ => ⟨S2x256x1024, .f32⟩
  | .hbm, ⟨60, _⟩ => ⟨S2x256x2208, .f32⟩
  | .hbm, ⟨61, _⟩ => ⟨S2x8192x2208, .f32⟩
  | .hbm, ⟨62, _⟩ => ⟨S2x8448x2208, .f32⟩
  | .hbm, ⟨63, _⟩ => ⟨S2x8448x384, .f32⟩
  | .hbm, ⟨64, _⟩ => ⟨S2x8448x384, .f32⟩
  | .hbm, ⟨65, _⟩ => ⟨S2x8448x384, .f32⟩
  | .hbm, ⟨66, _⟩ => ⟨S2x8448x256, .f32⟩
  | .hbm, ⟨67, _⟩ => ⟨S2x8448x32, .f32⟩
  | .hbm, ⟨68, _⟩ => ⟨S2x8448x768, .f32⟩
  | .hbm, ⟨69, _⟩ => ⟨S2x8448x8, .f32⟩
  | .hbm, ⟨70, _⟩ => ⟨S2x8448x8, .f32⟩
  | .hbm, ⟨71, _⟩ => ⟨S2x8448x8, .f32⟩
  | .hbm, ⟨72, _⟩ => ⟨S2x8448x8, .f32⟩
  | .hbm, ⟨73, _⟩ => ⟨S2x8448x64, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩

abbrev nD : Nat := 1
abbrev τ : Topo := Topo.v7x

variable {F : FTy → Type} [FloatOps F]
-- ==== Kernel3.lean ====
abbrev S2x8448x1024 : Shape := ⟨3, ![2, 8448, 1024]⟩
abbrev S2x2x6x1024 : Shape := ⟨4, ![2, 2, 6, 1024]⟩
abbrev S1024 : Shape := ⟨1, ![1024]⟩
abbrev S2x8448x384 : Shape := ⟨3, ![2, 8448, 384]⟩
abbrev S2x8192x384 : Shape := ⟨3, ![2, 8192, 384]⟩
abbrev S2x256x384 : Shape := ⟨3, ![2, 256, 384]⟩
abbrev S2x8448x256 : Shape := ⟨3, ![2, 8448, 256]⟩
abbrev S1024x1024 : Shape := ⟨2, ![1024, 1024]⟩
abbrev S1x1024 : Shape := ⟨2, ![1, 1024]⟩
abbrev S1024x16896 : Shape := ⟨2, ![1024, 16896]⟩
abbrev S1x256x1024 : Shape := ⟨3, ![1, 256, 1024]⟩
abbrev S1x1x6x1024 : Shape := ⟨4, ![1, 1, 6, 1024]⟩
abbrev S1x256x384 : Shape := ⟨3, ![1, 256, 384]⟩
abbrev S1x256x256 : Shape := ⟨3, ![1, 256, 256]⟩
abbrev S1024x256 : Shape := ⟨2, ![1024, 256]⟩
abbrev S256x384 : Shape := ⟨2, ![256, 384]⟩
abbrev S384x1024 : Shape := ⟨2, ![384, 1024]⟩
abbrev S256x1024 : Shape := ⟨2, ![256, 1024]⟩
abbrev S256x256 : Shape := ⟨2, ![256, 256]⟩
abbrev S6x1024 : Shape := ⟨2, ![6, 1024]⟩
abbrev S256 : Shape := ⟨1, ![256]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S2x8448x1024, .f32⟩
  | .hbm, ⟨1, _⟩ => ⟨S2x2x6x1024, .f32⟩
  | .hbm, ⟨2, _⟩ => ⟨S1024, .f32⟩
  | .hbm, ⟨3, _⟩ => ⟨S2x8448x384, .f32⟩
  | .hbm, ⟨4, _⟩ => ⟨S2x8192x384, .f32⟩
  | .hbm, ⟨5, _⟩ => ⟨S2x256x384, .f32⟩
  | .hbm, ⟨6, _⟩ => ⟨S2x8448x256, .f32⟩
  | .hbm, ⟨7, _⟩ => ⟨S1024x1024, .f32⟩
  | .hbm, ⟨8, _⟩ => ⟨S1x1024, .f32⟩
  | .hbm, ⟨9, _⟩ => ⟨S1024x1024, .bf16⟩
  | .hbm, ⟨10, _⟩ => ⟨S2x8448x1024, .f32⟩
  | .hbm, ⟨11, _⟩ => ⟨S1024x16896, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x256, .f32⟩
  | .local _ .vmem, ⟨12, _⟩ => ⟨S1x256x256, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1024x256, .bf16⟩
  | .local _ .vmem, ⟨17, _⟩ => ⟨S1024x256, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S2x8448x1024 : Shape := ⟨3, ![2, 8448, 1024]⟩
abbrev S2x2x6x1024 : Shape := ⟨4, ![2, 2, 6, 1024]⟩
abbrev S1024 : Shape := ⟨1, ![1024]⟩
abbrev S2x8448x384 : Shape := ⟨3, ![2, 8448, 384]⟩
abbrev S2x8192x384 : Shape := ⟨3, ![2, 8192, 384]⟩
abbrev S2x256x384 : Shape := ⟨3, ![2, 256, 384]⟩
abbrev S2x8448x256 : Shape := ⟨3, ![2, 8448, 256]⟩
abbrev S1024x1024 : Shape := ⟨2, ![1024, 1024]⟩
abbrev S2x256x1024 : Shape := ⟨3, ![2, 256, 1024]⟩
abbrev S2x8192x1024 : Shape := ⟨3, ![2, 8192, 1024]⟩
abbrev S2x8192x256 : Shape := ⟨3, ![2, 8192, 256]⟩
abbrev S2x256x256 : Shape := ⟨3, ![2, 256, 256]⟩
abbrev S2x1x1x1024 : Shape := ⟨4, ![2, 1, 1, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256 : Shape := ⟨2, ![2, 256]⟩
abbrev S2x256x1 : Shape := ⟨3, ![2, 256, 1]⟩
abbrev S16896x1024 : Shape := ⟨2, ![16896, 1024]⟩
abbrev S1024x16896 : Shape := ⟨2, ![1024, 16896]⟩

abbrev nBuf : Space → Nat
  | .hbm => 87
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x2x6x1024, .f32⟩
  | .hbm, ⟨2, _⟩ => ⟨S1024, .f32⟩
  | .hbm, ⟨3, _⟩ => ⟨S2x8448x384, .f32⟩
  | .hbm, ⟨4, _⟩ => ⟨S2x8192x384, .f32⟩
  | .hbm, ⟨5, _⟩ => ⟨S2x256x384, .f32⟩
  | .hbm, ⟨6, _⟩ => ⟨S2x8448x256, .f32⟩
  | .hbm, ⟨7, _⟩ => ⟨S1024x1024, .f32⟩
  | .hbm, ⟨8, _⟩ => ⟨S2x256x1024, .f32⟩
  | .hbm, ⟨9, _⟩ => ⟨S2x8192x1024, .f32⟩
  | .hbm, ⟨10, _⟩ => ⟨S2x8192x384, .f32⟩
  | .hbm, ⟨11, _⟩ => ⟨S2x8192x256, .f32⟩
  | .hbm, ⟨12, _⟩ => ⟨S2x8192x1024, .f32⟩
  | .hbm, ⟨13, _⟩ => ⟨S2x8192x1024, .f32⟩
  | .hbm, ⟨14, _⟩ => ⟨S2x256x384, .f32⟩
  | .hbm, ⟨15, _⟩ => ⟨S2x256x256, .f32⟩
  | .hbm, ⟨16, _⟩ => ⟨S2x256x1024, .f32⟩
  | .hbm, ⟨17, _⟩ => ⟨S2x256x1024, .f32⟩
  | .hbm, ⟨18, _⟩ => ⟨S2x1x1x1024, .f32⟩
  | .hbm, ⟨19, _⟩ => ⟨S2x1x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x1x1x1024, .f32⟩
  | .hbm, ⟨24, _⟩ => ⟨S2x1x1024, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S2x1x1x1024, .f32⟩
  | .hbm, ⟨29, _⟩ => ⟨S2x1x1024, .f32⟩
  | .hbm, ⟨30, _⟩ => ⟨S2x1x1x1024, .f32⟩
  | .hbm, ⟨31, _⟩ => ⟨S2x1x1024, .f32⟩
  | .hbm, ⟨32, _⟩ => ⟨S2x8192x1024, .f32⟩
  | .hbm, ⟨33, _⟩ => ⟨S_, .f32⟩
  | .hbm, ⟨34, _⟩ => ⟨S2x8192, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S2x8192x1, .f32⟩
  | .hbm, ⟨43, _⟩ => ⟨S2x8192x1024, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x1x1024, .f32⟩
  | .hbm, ⟨50, _⟩ => ⟨S2x1x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x1x1x1024, .f32⟩
  | .hbm, ⟨56, _⟩ => ⟨S2x1x1024, .f32⟩
  | .hbm, ⟨57, _⟩ => ⟨S2x1x1x1024, .f32⟩
  | .hbm, ⟨58, _⟩ => ⟨S2x1x1024, .f32⟩
  | .hbm, ⟨59, _⟩ => ⟨S2x256x1024, .f32⟩
  | .hbm, ⟨60, _⟩ => ⟨S_, .f32⟩
  | .hbm, ⟨61, _⟩ => ⟨S2x256, .f32⟩
  | .hbm, ⟨62, _⟩ => ⟨S2x256x1, .f32⟩
  | .hbm, ⟨63, _⟩ => ⟨S_, .f32⟩
  | .hbm, ⟨64, _⟩ => ⟨S2x256x1, .f32⟩
  | .hbm, ⟨65, _⟩ => ⟨S2x256x1, .f32⟩
  | .hbm, ⟨66, _⟩ => ⟨S_, .f32⟩
  | .hbm, ⟨67, _⟩ => ⟨S2x256x1, .f32⟩
  | .hbm, ⟨68, _⟩ => ⟨S2x256x1, .f32⟩
  | .hbm, ⟨69, _⟩ => ⟨S2x256x1, .f32⟩
  | .hbm, ⟨70, _⟩ => ⟨S2x256x1024, .f32⟩
  | .hbm, ⟨71, _⟩ => ⟨S2x256x1024, .f32⟩
  | .hbm, ⟨72, _⟩ => ⟨S1x1x1024, .f32⟩
  | .hbm, ⟨73, _⟩ => ⟨S2x256x1024, .f32⟩
  | .hbm, ⟨74, _⟩ => ⟨S2x256x1024, .f32⟩
  | .hbm, ⟨75, _⟩ => ⟨S_, .f32⟩
  | .hbm, ⟨76, _⟩ => ⟨S2x1x1024, .f32⟩
  | .hbm, ⟨77, _⟩ => ⟨S2x1x1024, .f32⟩
  | .hbm, ⟨78, _⟩ => ⟨S2x256x1024, .f32⟩
  | .hbm, ⟨79, _⟩ => ⟨S2x256x1024, .f32⟩
  | .hbm, ⟨80, _⟩ => ⟨S2x256x1024, .f32⟩
  | .hbm, ⟨81, _⟩ => ⟨S2x256x1024, .f32⟩
  | .hbm, ⟨82, _⟩ => ⟨S2x8448x1024, .f32⟩
  | .hbm, ⟨83, _⟩ => ⟨S2x8448x1024, .f32⟩
  | .hbm, ⟨84, _⟩ => ⟨S16896x1024, .f32⟩
  | .hbm, ⟨85, _⟩ => ⟨S1024x16896, .f32⟩
  | .hbm, ⟨86, _⟩ => ⟨S1024x16896, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_3 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== Kernel4.lean ====
abbrev S2x8448x1024 : Shape := ⟨3, ![2, 8448, 1024]⟩
abbrev S1024 : Shape := ⟨1, ![1024]⟩
abbrev S1x1024 : Shape := ⟨2, ![1, 1024]⟩
abbrev S2x8192x1024 : Shape := ⟨3, ![2, 8192, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x8448x1024, .f32⟩
  | .hbm, ⟨1, _⟩ => ⟨S1024, .f32⟩
  | .hbm, ⟨2, _⟩ => ⟨S1x1024, .f32⟩
  | .hbm, ⟨3, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x8448x1024 : Shape := ⟨3, ![2, 8448, 1024]⟩
abbrev S1024 : Shape := ⟨1, ![1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S1024, .f32⟩
  | .hbm, ⟨2, _⟩ => ⟨S2x8192x1024, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S1024x16896 : Shape := ⟨2, ![1024, 16896]⟩
abbrev S1024x2048 : Shape := ⟨2, ![1024, 2048]⟩
abbrev S2x128x128 : Shape := ⟨3, ![2, 128, 128]⟩
abbrev S2048x1024 : Shape := ⟨2, ![2048, 1024]⟩
abbrev S8x128x16896 : Shape := ⟨3, ![8, 128, 16896]⟩
abbrev S1024x768 : Shape := ⟨2, ![1024, 768]⟩
abbrev S1x128x768 : Shape := ⟨3, ![1, 128, 768]⟩
abbrev S2048x768 : Shape := ⟨2, ![2048, 768]⟩
abbrev S128x768 : Shape := ⟨2, ![128, 768]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S16x128 : Shape := ⟨2, ![16, 128]⟩
abbrev S8x128 : Shape := ⟨2, ![8, 128]⟩
abbrev S80x128 : Shape := ⟨2, ![80, 128]⟩

abbrev nBuf : Space → Nat
  | .hbm => 10
  | .vmem => 15
  | .smem => 0
  | _ => 0

abbrev bufTy : (tb : Table) → Fin (tcTables nBuf tb) → BufTy
  | .hbm, ⟨0, _⟩ => ⟨S1024x16896, .bf16⟩
  | .hbm, ⟨1, _⟩ => ⟨S1024x2048, .f32⟩
  | .hbm, ⟨2, _⟩ => ⟨S2x128x128, .f32⟩
  | .hbm, ⟨3, _⟩ => ⟨S2048x1024, .f32⟩
  | .hbm, ⟨4, _⟩ => ⟨S2048x1024, .bf16⟩
  | .hbm, ⟨5, _⟩ => ⟨S2x128x128, .bf16⟩
  | .hbm, ⟨6, _⟩ => ⟨S8x128x16896, .bf16⟩
  | .hbm, ⟨7, _⟩ => ⟨S8x128x16896, .bf16⟩
  | .hbm, ⟨8, _⟩ => ⟨S8x128x16896, .f32⟩
  | .hbm, ⟨9, _⟩ => ⟨S8x128x16896, .f32⟩
  | .local _ .vmem, ⟨0, _⟩ => ⟨S1024x768, .bf16⟩
  | .local _ .vmem, ⟨1, _⟩ => ⟨S1024x768, .bf16⟩
  | .local _ .vmem, ⟨2, _⟩ => ⟨S2048x1024, .bf16⟩
  | .local _ .vmem, ⟨3, _⟩ => ⟨S2x128x128, .bf16⟩
  | .local _ .vmem, ⟨4, _⟩ => ⟨S1x128x768, .bf16⟩
  | .local _ .vmem, ⟨5, _⟩ => ⟨S1x128x768, .bf16⟩
  | .local _ .vmem, ⟨6, _⟩ => ⟨S1x128x768, .bf16⟩
  | .local _ .vmem, ⟨7, _⟩ => ⟨S1x128x768, .bf16⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S2048x768, .f32⟩
  | .local _ .vmem, ⟨13, _⟩ => ⟨S128x768, .f32⟩
  | .local _ .vmem, ⟨14, _⟩ => ⟨S128x768, .f32⟩
  | _, _ => ⟨S1024x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![22, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let c128_i32 : BitVec 32 := 128#32
  let v8 : BitVec 32 := Scalar.addi v4 c128_i32
  let v9 : Index := Scalar.indexCast v8
  let c0_1 : Index := 0#32
  ![v9.toNat, 0]
@[reducible] def k0_t1_loop : Scf.Loop 32 :=
  let c0_i32_12 : BitVec 32 := 0#32
  let c6_i32 : BitVec 32 := 6#32
  let v24 : BitVec 32 := Scalar.addi c0_i32_12 c6_i32
  let c1_i32 : BitVec 32 := 1#32
  ⟨c0_i32_12, v24, c1_i32⟩
def k0_mult2 (k0_t1 : Fin k0_t1_loop.trips) : BitVec 32 :=
  let c0_i32_12 : BitVec 32 := 0#32
  let c1_i32 : BitVec 32 := 1#32
  let arg12 : BitVec 32 := Scf.iv c0_i32_12 c1_i32 k0_t1
  let c128_i32_14 : BitVec 32 := 128#32
  let v25 : BitVec 32 := Scalar.muli arg12 c128_i32_14
  v25
def k0_off3 (k0_t1 : Fin k0_t1_loop.trips) : Fin 2 → Nat :=
  let c0_15 : Index := 0#32
  let c0_i32_12 : BitVec 32 := 0#32
  let c1_i32 : BitVec 32 := 1#32
  let arg12 : BitVec 32 := Scf.iv c0_i32_12 c1_i32 k0_t1
  let c128_i32_14 : BitVec 32 := 128#32
  let v25 : BitVec 32 := Scalar.muli arg12 c128_i32_14
  let v26 : BitVec 32 := v25
  let v27 : Index := Scalar.indexCast v26
  ![0, v27.toNat]
def k0_off4 (k0_t1 : Fin k0_t1_loop.trips) : Fin 3 → Nat :=
  let c0_210 : Index := 0#32
  let c0_211 : Index := 0#32
  let c0_i32_12 : BitVec 32 := 0#32
  let c1_i32 : BitVec 32 := 1#32
  let arg12 : BitVec 32 := Scf.iv c0_i32_12 c1_i32 k0_t1
  let c128_i32_14 : BitVec 32 := 128#32
  let v25 : BitVec 32 := Scalar.muli arg12 c128_i32_14
  let v26 : BitVec 32 := v25
  let v687 : Index := Scalar.indexCast v26
  ![0, 0, v687.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S1024x16896 : Shape := ⟨2, ![1024, 16896]⟩
abbrev S1024x2048 : Shape := ⟨2, ![1024, 2048]⟩
abbrev S2x128x128 : Shape := ⟨3, ![2, 128, 128]⟩
abbrev S16896x1024 : Shape := ⟨2, ![16896, 1024]⟩
abbrev S16896x2048 : Shape := ⟨2, ![16896, 2048]⟩
abbrev S16896x8x256 : Shape := ⟨3, ![16896, 8, 256]⟩
abbrev S16896x8x128 : Shape := ⟨3, ![16896, 8, 128]⟩
abbrev S1x128x128 : Shape := ⟨3, ![1, 128, 128]⟩
abbrev S128x128 : Shape := ⟨2, ![128, 128]⟩
abbrev S_ : Shape := ⟨0, ![]⟩
abbrev S16896x8 : Shape := ⟨2, ![16896, 8]⟩
abbrev S16896x8x1 : Shape := ⟨3, ![16896, 8, 1]⟩
abbrev S8x128x16896 : Shape := ⟨3, ![8, 128, 16896]⟩

abbrev nBuf : Space → Nat
  | .hbm => 19
  | .vmem => 0
  | .smem => 0
  | _ => 0

abbrev bufTy : (tb : Table) → Fin (tcTables nBuf tb) → BufTy
  | .hbm, ⟨0, _⟩ => ⟨S1024x16896, .bf16⟩
  | .hbm, ⟨1, _⟩ => ⟨S1024x2048, .f32⟩
  | .hbm, ⟨2, _⟩ => ⟨S2x128x128, .f32⟩
  | .hbm, ⟨3, _⟩ => ⟨S16896x1024, .bf16⟩
  | .hbm, ⟨4, _⟩ => ⟨S16896x1024, .f32⟩
  | .hbm, ⟨5, _⟩ => ⟨S16896x2048, .f32⟩
  | .hbm, ⟨6, _⟩ => ⟨S16896x8x256, .f32⟩
  | .hbm, ⟨7, _⟩ => ⟨S16896x8x128, .f32⟩
  | .hbm, ⟨8, _⟩ => ⟨S1x128x128, .f32⟩
  | .hbm, ⟨9, _⟩ => ⟨S128x128, .f32⟩
  | .hbm, ⟨10, _⟩ => ⟨S16896x8x128, .f32⟩
  | .hbm, ⟨11, _⟩ => ⟨S_, .f32⟩
  | .hbm, ⟨12, _⟩ => ⟨S16896x8, .f32⟩
  | .hbm, ⟨13, _⟩ => ⟨S16896x8x1, .f32⟩
  | .hbm, ⟨14, _⟩ => ⟨S16896x8x128, .f32⟩
  | .hbm, ⟨15, _⟩ => ⟨S16896x8x128, .f32⟩
  | .hbm, ⟨16, _⟩ => ⟨S16896x8x128, .f32⟩
  | .hbm, ⟨17, _⟩ => ⟨S8x128x16896, .f32⟩
  | .hbm, ⟨18, _⟩ => ⟨S8x128x16896, .bf16⟩
  | _, _ => ⟨S1024x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proof.Softmax.lean ====
/- The arithmetic of a softmax over real scores, as sums over the extended reals: what one step of the running
   (maximum, weighted sum) pair does, and the quotient both programs end with. Nothing here mentions a program. -/
module

public import Idealize.ShloMosaic.PureOps.Ideal.Laws
public import Idealize.ShloMosaic.Lib.ValueIdx

@[expose] public section

noncomputable section

namespace Cert.Attn

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem sum_coe_mul {ι : Type} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

theorem coe_max (a b : ℝ) : ((max a b : ℝ) : EReal) = max (a : EReal) (b : EReal) :=
  EReal.coe_strictMono.monotone.map_max

/-- The maximum of finitely many reals, at least one, is a real. -/
theorem fold_max_real {ι : Type} (s : Finset ι) (hs : s.Nonempty) (f : ι → ℝ) :
    ∃ r : ℝ, s.fold max (⊥ : EReal) (fun k => (f k : EReal)) = r := by
  classical
  induction s using Finset.induction_on with
  | empty => exact absurd hs (by simp)
  | insert a s ha ih =>
    rw [Finset.fold_insert ha]
    by_cases h : s.Nonempty
    · obtain ⟨r, hr⟩ := ih h
      exact ⟨max (f a) r, by rw [hr]; exact (coe_max _ _).symm⟩
    · rw [Finset.not_nonempty_iff_eq_empty] at h
      subst h
      exact ⟨f a, by simp⟩

theorem ofBits_neg_inf : Ideal.ofBits .f32 0xFF800000#32 = ⊥ := by simp [Ideal.ofBits, Ideal.ieee]

/-- The literal the running maximum starts from is a real. -/
theorem ofBits_start_real : ∃ r : ℝ, Ideal.ofBits .f32 0xFF61B1E6#32 = r := by
  refine ⟨-(14791142 * 2 ^ 104), ?_⟩
  simp [Ideal.ofBits, Ideal.ieee]

/-- One step of the running maximum: the old one against the largest of the chunk's scores. -/
def stepM {n : Nat} (m : EReal) (s : Fin n → EReal) : EReal :=
  max m ((Finset.univ : Finset (Fin n)).fold max (⊥ : EReal) s)

/-- One step of the weighted sum: the old one rescaled to the new maximum, plus the chunk's terms. -/
def stepA {n : Nat} (m : EReal) (s : Fin n → EReal) (acc : EReal) (v : Fin n → EReal) : EReal :=
  Ideal.exp (m - stepM m s) * acc + ∑ k, Ideal.exp (s k - stepM m s) * v k

/-- Over real scores the new maximum is real and, when the old sum was `exp (-m)` times a real `T`, the new one is `exp (-m')` times
    `T` plus the chunk's own sum of `exp` of a score times its value. -/
theorem step_real {n : Nat} (hn : 0 < n) (m : ℝ) (s : Fin n → ℝ) :
    ∃ m' : ℝ, stepM (m : EReal) (fun k => (s k : EReal)) = m' ∧
      ∀ (T : ℝ) (v : Fin n → ℝ),
        stepA (m : EReal) (fun k => (s k : EReal)) ((Real.exp (-m) * T : ℝ) : EReal) (fun k => (v k : EReal))
          = ((Real.exp (-m') * (T + ∑ k, Real.exp (s k) * v k) : ℝ) : EReal) := by
  obtain ⟨r, hr⟩ := fold_max_real (Finset.univ : Finset (Fin n)) ⟨⟨0, hn⟩, Finset.mem_univ _⟩ s
  refine ⟨max m r, ?_, fun T v => ?_⟩
  · unfold stepM; rw [hr]; exact (coe_max _ _).symm
  · have hM : stepM (m : EReal) (fun k => (s k : EReal)) = ((max m r : ℝ) : EReal) := by
      unfold stepM; rw [hr]; exact (coe_max _ _).symm
    unfold stepA
    rw [hM]
    simp only [← EReal.coe_sub, Ideal.exp_coe]
    rw [sum_coe_mul, ← EReal.coe_mul, ← EReal.coe_add]
    congr 1
    rw [mul_add, ← mul_assoc, ← Real.exp_add, Finset.mul_sum]
    congr 1
    · congr 2; ring
    · refine Finset.sum_congr rfl fun k _ => ?_
      rw [← mul_assoc, ← Real.exp_add]; congr 2; ring

/-- The attention of one query: the values weighted by `exp` of the scores, over the sum of the weights. -/
def attn {ι : Type} [Fintype ι] (s v : ι → ℝ) : ℝ := (∑ k, Real.exp (s k) * v k) / ∑ k, Real.exp (s k)

theorem sum_exp_pos {ι : Type} [Fintype ι] [Nonempty ι] (s : ι → ℝ) : 0 < ∑ k, Real.exp (s k) :=
  Finset.sum_pos (fun _ _ => Real.exp_pos _) Finset.univ_nonempty

/-- Three chunks of running maximum and weighted sum, for the values and for a column of ones, and the quotient of the two sums. -/
theorem three_steps {n : Nat} (hn : 0 < n) (m : ℝ) (s v : Fin 3 → Fin n → ℝ) :
    let S := fun c k => ((s c k : ℝ) : EReal)
    let m1 := stepM (m : EReal) (S 0)
    let m2 := stepM m1 (S 1)
    let fin := fun w : Fin 3 → Fin n → EReal => stepA m2 (S 2) (stepA m1 (S 1) (stepA (m : EReal) (S 0) 0 (w 0)) (w 1)) (w 2)
    Ideal.div (fin fun c k => ((v c k : ℝ) : EReal)) (fin fun _ _ => 1)
      = ((attn (fun p : Fin 3 × Fin n => s p.1 p.2) (fun p => v p.1 p.2) : ℝ) : EReal) := by
  intro S m1 m2 fin
  obtain ⟨a1, h1, e1⟩ := step_real hn m (s 0)
  obtain ⟨a2, h2, e2⟩ := step_real hn a1 (s 1)
  obtain ⟨a3, h3, e3⟩ := step_real hn a2 (s 2)
  have g1 : m1 = a1 := h1
  have g2 : m2 = a2 := by show stepM m1 (S 1) = a2; rw [g1]; exact h2
  have key : ∀ w : Fin 3 → Fin n → ℝ, fin (fun c k => ((w c k : ℝ) : EReal))
      = ((Real.exp (-a3) * ∑ p : Fin 3 × Fin n, Real.exp (s p.1 p.2) * w p.1 p.2 : ℝ) : EReal) := by
    intro w
    have z : (0 : EReal) = ((Real.exp (-m) * 0 : ℝ) : EReal) := by simp
    show stepA m2 (S 2) (stepA m1 (S 1) (stepA (m : EReal) (S 0) 0 _) _) _ = _
    rw [g1, g2, z, e1 0 (w 0), e2 _ (w 1), e3 _ (w 2)]
    congr 2
    rw [Fintype.sum_prod_type, Fin.sum_univ_three, zero_add]
  have hone : fin (fun _ _ => (1 : EReal)) = ((Real.exp (-a3) * ∑ p : Fin 3 × Fin n, Real.exp (s p.1 p.2) : ℝ) : EReal) := by
    have := key (fun _ _ => 1)
    simp only [mul_one] at this
    exact this
  haveI : Nonempty (Fin 3 × Fin n) := ⟨(0, ⟨0, hn⟩)⟩
  have hp := sum_exp_pos (fun p : Fin 3 × Fin n => s p.1 p.2)
  rw [key v, hone, Ideal.div_coe (mul_ne_zero (Real.exp_ne_zero _) hp.ne'), ← EReal.coe_mul]
  congr 1
  unfold attn
  rw [mul_one_div, mul_div_mul_left _ _ (Real.exp_ne_zero _)]

/-- The softmax of a reference: weights `exp (s - M)` for any real `M`, each divided by their sum, then weighted values summed. -/
theorem softmax_sum {ι : Type} [Fintype ι] [Nonempty ι] (s v : ι → ℝ) (M : ℝ) :
    ∑ k, Ideal.div (Ideal.exp ((s k : EReal) - (M : EReal))) (∑ j, Ideal.exp ((s j : EReal) - (M : EReal))) * (v k : EReal)
      = ((attn s v : ℝ) : EReal) := by
  have e : ∀ k, Real.exp (s k - M) = Real.exp (-M) * Real.exp (s k) := fun k => by rw [← Real.exp_add]; congr 1; ring
  have hp := sum_exp_pos s
  simp only [← EReal.coe_sub, Ideal.exp_coe, ← coe_sum]
  have hne : (∑ j, Real.exp (s j - M)) ≠ 0 := by
    simp only [e, ← Finset.mul_sum]; exact mul_ne_zero (Real.exp_ne_zero _) hp.ne'
  simp only [Ideal.div_coe hne, ← EReal.coe_mul]
  rw [← coe_sum]
  congr 1
  unfold attn
  simp only [e, ← Finset.mul_sum]
  rw [Finset.sum_div]
  refine Finset.sum_congr rfl fun k _ => ?_
  have h1 := Real.exp_ne_zero (-M)
  have h2 := hp.ne'
  field_simp

end Cert.Attn
-- ==== Proof.Rms.lean ====
/- The root-mean-square norm of a row over the reals, and the two forms the programs compute it in. -/
module

public import proofs.«01_k».proof.Proof.Softmax

@[expose] public section

noncomputable section

namespace Cert.Attn

open Idealize.ShloMosaic

/-- The small constant added under the square root. -/
def eps : ℝ := 8796093 / 2 ^ 43

theorem eps_pos : 0 < eps := by unfold eps; positivity

theorem ofBits_eps : Ideal.ofBits .f32 0x358637BD#32 = (eps : EReal) := by
  simp [Ideal.ofBits, Ideal.ieee, eps, - EReal.coe_mul]
  norm_num

theorem ofBits_384 : Ideal.ofBits .f32 0x43C00000#32 = ((384 : ℝ) : EReal) := by
  simp [Ideal.ofBits, Ideal.ieee, - EReal.coe_mul]
  norm_num

theorem ofBits_256 : Ideal.ofBits .f32 0x43800000#32 = ((256 : ℝ) : EReal) := by
  simp [Ideal.ofBits, Ideal.ieee, - EReal.coe_mul]
  norm_num

/-- The scale of the attention scores. -/
def scale : ℝ := 13698540 / 2 ^ 27

theorem ofBits_scale : Ideal.ofBits .f32 0x3DD105EC#32 = (scale : EReal) := by
  simp [Ideal.ofBits, Ideal.ieee, scale, - EReal.coe_mul]
  norm_num

/-- The factor a row is scaled by: one over the root of its mean square. -/
def rmsScale {n : ℕ} (c : ℝ) (x : Fin n → ℝ) : ℝ := (Real.sqrt ((∑ j, x j * x j) * (1 / c) + eps))⁻¹

/-- A row normalized and weighted. -/
def rms {n : ℕ} (c : ℝ) (x g : Fin n → ℝ) (k : Fin n) : ℝ := x k * rmsScale c x * g k

theorem rmsScale_real {n : ℕ} (c : ℝ) (hc : 0 < c) (x : Fin n → EReal) (X : Fin n → ℝ) (hx : ∀ k, x k = (X k : EReal)) :
    Ideal.rsqrt (Ideal.div (∑ j, x j * x j) (c : EReal) + (eps : EReal)) = (rmsScale c X : EReal) := by
  have hp : 0 < (∑ j, X j * X j) * (1 / c) + eps :=
    add_pos_of_nonneg_of_pos (mul_nonneg (Finset.sum_nonneg fun j _ => mul_self_nonneg _) (by positivity)) eps_pos
  simp only [hx]
  rw [sum_coe_mul, Ideal.div_coe hc.ne', ← EReal.coe_mul, ← EReal.coe_add, Ideal.rsqrt_coe]
  rw [if_neg (not_lt.mpr hp.le), if_neg hp.ne']
  rfl

theorem rms_real {n : ℕ} (c : ℝ) (hc : 0 < c) (x g : Fin n → EReal) (X G : Fin n → ℝ) (hx : ∀ k, x k = (X k : EReal))
    (hg : ∀ k, g k = (G k : EReal)) (k : Fin n) :
    x k * Ideal.rsqrt (Ideal.div (∑ j, x j * x j) (c : EReal) + (eps : EReal)) * g k = (rms c X G k : EReal) := by
  rw [rmsScale_real c hc x X hx, hx, hg, ← EReal.coe_mul, ← EReal.coe_mul]
  rfl

end Cert.Attn
-- ==== Proof.Spec.lean ====
/- Latent attention over the reals: the rotation, the projected queries, keys and values, and the attention of a latent row over every
   context and latent row. Both programs are shown to compute `result`. -/
module

public import proofs.«01_k».proof.Proof.Rms
public import Idealize.ShloMosaic.Lib.Pointwise.Index

@[expose] public section

noncomputable section

namespace Cert.Attn

open Idealize.ShloMosaic

/-- The angle of frequency `p` at grid coordinate `m`: `m · 10000 ^ (-p / 8)`. -/
def angle (m p : ℕ) : ℝ :=
  ((BitVec.ofNat 32 m).toInt : ℝ) * Real.rpow 10000 (-((BitVec.ofNat 32 p).toInt : ℝ) * (1 / 8))

theorem angle_real (m p : ℕ) :
    (FloatOps.sitofp (F := Ideal) .f32 (BitVec.ofNat 32 m) : EReal) * Ideal.pow (Ideal.ofBits .f32 1176256512#32)
      (Ideal.div (-(FloatOps.sitofp (F := Ideal) .f32 (BitVec.ofNat 32 p) : EReal)) (Ideal.ofBits .f32 1090519040#32)) = (angle m p : EReal) := by
  have e1 : Ideal.ofBits .f32 1176256512#32 = ((10000 : ℝ) : EReal) := by
    simp [Ideal.ofBits, Ideal.ieee, - EReal.coe_mul]
    norm_num
  have e2 : Ideal.ofBits .f32 1090519040#32 = ((8 : ℝ) : EReal) := by
    simp [Ideal.ofBits, Ideal.ieee, - EReal.coe_mul]
    norm_num
  have e3 : ∀ n : ℕ, (FloatOps.sitofp (F := Ideal) .f32 (BitVec.ofNat 32 n) : EReal) = (((BitVec.ofNat 32 n).toInt : ℝ) : EReal) :=
    fun _ => rfl
  rw [e1, e2, e3, e3, Ideal.div_coe (by norm_num), ← EReal.coe_neg, ← EReal.coe_mul, Ideal.pow_coe_coe, ← EReal.coe_mul]
  rfl

/-- The angle of lane `e` of 32 at latent row `i`: the first sixteen lanes turn with the grid row, the others with the grid column. -/
def laneAngle (i e : ℕ) : ℝ := angle (if e < 16 then i / 64 else i % 64) (e % 8)

/-- The factor of a lane itself in the rotation. -/
def laneCos (i e : ℕ) : ℝ := Real.cos (laneAngle i e)

/-- The factor of a lane's partner in the rotation. -/
def laneSin (i e : ℕ) : ℝ := if e % 16 < 8 then -Real.sin (laneAngle i e) else Real.sin (laneAngle i e)

/-- A lane's partner in the rotation: eight lanes on or back. -/
def partner (e : Fin 32) : Fin 32 := if e.val % 16 < 8 then ⟨(e.val + 8) % 32, Nat.mod_lt _ (by decide)⟩ else ⟨e.val - 8, by omega⟩

/-- A row of 32 lanes rotated by latent row `i`'s angles. -/
def rotate (i : ℕ) (x : Fin 32 → ℝ) (e : Fin 32) : ℝ := x e * laneCos i e.val + x (partner e) * laneSin i e.val

/-- The argument arrays, as reals. -/
structure Args where
  cq : Fin 2 → Fin 8448 → Fin 384 → ℝ
  ckv : Fin 2 → Fin 8448 → Fin 256 → ℝ
  kr : Fin 2 → Fin 8448 → Fin 32 → ℝ
  gq : Fin 384 → ℝ
  wq : Fin 384 → Fin 576 → ℝ
  gkv : Fin 256 → ℝ
  wkv : Fin 256 → Fin 768 → ℝ

/-- The seven argument arrays hold the reals of `A`. -/
structure Args.Holds (A : Args) (x0 : (⟨3, ![2, 8448, 384]⟩ : Shape).Idx → EReal) (x1 : (⟨3, ![2, 8448, 256]⟩ : Shape).Idx → EReal)
    (x2 : (⟨3, ![2, 8448, 32]⟩ : Shape).Idx → EReal) (x3 : (⟨1, ![384]⟩ : Shape).Idx → EReal) (x4 : (⟨2, ![384, 576]⟩ : Shape).Idx → EReal)
    (x5 : (⟨1, ![256]⟩ : Shape).Idx → EReal) (x6 : (⟨2, ![256, 768]⟩ : Shape).Idx → EReal) : Prop where
  cq : ∀ b l k, x0 (ix3 b l k) = (A.cq b l k : EReal)
  ckv : ∀ b l k, x1 (ix3 b l k) = (A.ckv b l k : EReal)
  kr : ∀ b l k, x2 (ix3 b l k) = (A.kr b l k : EReal)
  gq : ∀ k, x3 (ix1 k) = (A.gq k : EReal)
  wq : ∀ k n, x4 (ix2 k n) = (A.wq k n : EReal)
  gkv : ∀ k, x5 (ix1 k) = (A.gkv k : EReal)
  wkv : ∀ k n, x6 (ix2 k n) = (A.wkv k n : EReal)

variable (A : Args)

/-- Lane `n` of a row's up-projected queries, before the rotation. -/
def qBase (b : Fin 2) (l : Fin 8448) (n : Fin 576) : ℝ := ∑ k, rms 384 (A.cq b l) A.gq k * A.wq k n

/-- Lane `n` of a row's up-projected keys and values. -/
def kvBase (b : Fin 2) (l : Fin 8448) (n : Fin 768) : ℝ := ∑ k, rms 256 (A.ckv b l) A.gkv k * A.wkv k n

/-- Row `i` of the latent rows among all rows. -/
def latent (i : Fin 8192) : Fin 8448 := ⟨256 + i.val, by omega⟩

/-- Latent row `i`'s query, head `h`, lane `d`. -/
def query (b : Fin 2) (h : Fin 6) (i : Fin 8192) (d : Fin 96) : ℝ :=
  if hd : d.val < 64 then qBase A b (latent i) ⟨h.val * 96 + d.val, by omega⟩
  else rotate i.val (fun e => qBase A b (latent i) ⟨h.val * 96 + (64 + e.val), by omega⟩) ⟨d.val - 64, by omega⟩

/-- Row `l`'s rotated key lanes, shared by the heads; a context row is not rotated. -/
def keyRot (b : Fin 2) (l : Fin 8448) (e : Fin 32) : ℝ :=
  if l.val < 256 then A.kr b l e else rotate (l.val - 256) (A.kr b l) e

/-- Row `l`'s key, head `h`, lane `d`. -/
def key (b : Fin 2) (h : Fin 6) (l : Fin 8448) (d : Fin 96) : ℝ :=
  if hd : d.val < 64 then kvBase A b l ⟨h.val * 128 + d.val, by omega⟩ else keyRot A b l ⟨d.val - 64, by omega⟩

/-- Row `l`'s value, head `h`, lane `e`. -/
def value (b : Fin 2) (h : Fin 6) (l : Fin 8448) (e : Fin 64) : ℝ := kvBase A b l ⟨h.val * 128 + (64 + e.val), by omega⟩

/-- The attention of latent row `i`, head `h`, lane `e`. -/
def result (b : Fin 2) (i : Fin 8192) (h : Fin 6) (e : Fin 64) : ℝ :=
  attn (fun l : Fin 8448 => (∑ d, query A b h i d * key A b h l d) * scale) (fun l => value A b h l e)

end Cert.Attn
-- ==== Proof.Host.lean ====
/- The host operations before the projection call, read at an index: the padded and partner weights, the key lanes beside their partners,
   and the rotation tables. -/
module

public import proofs.«01_k».proof.Proof.Gen.KernelIdeal.Frame
public import proofs.«01_k».proof.Proof.Spec
public import Idealize.ShloMosaic.Lib.Pipeline.ValueKit
public import Idealize.ShloMosaic.Lib.StableHlo.ReadAt

@[expose] public section

set_option maxRecDepth 16384

noncomputable section

namespace Cert.KernelIdeal.Host

open Cert.KernelIdeal Cert.KernelIdeal.Gen Cert.Attn Idealize.ShloMosaic
open Idealize.ShloMosaic.TcCoe Idealize.SL.Sem

/-- The dimension numbers of a gather along the last axis of `[A, B, N]`, one index per result lane. -/
abbrev laneDims (A B N : ℕ) (wf : GatherDims.WF ⟨3, ![A, B, N]⟩ ⟨2, ![N, 1]⟩ ⟨3, ![A, B, N]⟩ [0, 1] [2] [] [2] [] 1 ![A, B, 1]) :
    GatherDims ⟨3, ![A, B, N]⟩ ⟨2, ![N, 1]⟩ ⟨3, ![A, B, N]⟩ where
  offsetDims := [0, 1]
  collapsedSliceDims := [2]
  operandBatchingDims := []
  startIndicesBatchingDims := []
  startIndexMap := [2]
  indexVectorDim := 1
  sliceSizes := ![A, B, 1]
  wf := wf

theorem gather_lane {α : Type} {A B N : ℕ} (hN : 0 < N)
    (wf : GatherDims.WF ⟨3, ![A, B, N]⟩ ⟨2, ![N, 1]⟩ ⟨3, ![A, B, N]⟩ [0, 1] [2] [] [2] [] 1 ![A, B, 1])
    (x : (⟨3, ![A, B, N]⟩ : Shape).Idx → α) (idx : IVec ⟨2, ![N, 1]⟩ 32) (a : Fin A) (b : Fin B) (j : Fin N) :
    Host.gather (laneDims A B N wf) x idx (ix3 a b j) = x (ix3 a b ⟨min (idx (ix2 j 0)).toInt.toNat (N - 1), by omega⟩) := by
  unfold Host.gather
  refine congrArg x (funext fun d => Fin.ext ?_)
  show (laneDims A B N wf).start (ix3 a b j) idx d + (laneDims A B N wf).batchCoord (ix3 a b j) d
      + (laneDims A B N wf).offCoord (ix3 a b j) d = _
  rw [GatherDims.batchCoord_eq_zero _ _ _ List.not_mem_nil]
  match d with
  | ⟨0, _⟩ =>
    have hs : (laneDims A B N wf).start (ix3 a b j) idx 0 = 0 := by
      unfold GatherDims.start; rw [dif_neg (show (0 : Fin 3) ∉ ([2] : List (Fin 3)) by decide)]
    refine (congrArg (· + 0 + (laneDims A B N wf).offCoord (ix3 a b j) 0) hs).trans ?_
    unfold GatherDims.offCoord
    rw [dif_pos ((GatherDims.mem_sKept _ _).mpr ⟨show (0 : Fin 3) ∉ ([2] : List (Fin 3)) by decide, List.not_mem_nil⟩)]
    exact (Nat.zero_add _).trans rfl
  | ⟨1, _⟩ =>
    have hs : (laneDims A B N wf).start (ix3 a b j) idx 1 = 0 := by
      unfold GatherDims.start; rw [dif_neg (show (1 : Fin 3) ∉ ([2] : List (Fin 3)) by decide)]
    refine (congrArg (· + 0 + (laneDims A B N wf).offCoord (ix3 a b j) 1) hs).trans ?_
    unfold GatherDims.offCoord
    rw [dif_pos ((GatherDims.mem_sKept _ _).mpr ⟨show (1 : Fin 3) ∉ ([2] : List (Fin 3)) by decide, List.not_mem_nil⟩)]
    exact (Nat.zero_add _).trans rfl
  | ⟨2, _⟩ =>
    have ho : (laneDims A B N wf).offCoord (ix3 a b j) 2 = 0 :=
      GatherDims.offCoord_eq_zero _ _ _ (fun h => ((GatherDims.mem_sKept _ _).mp h).1 (List.mem_singleton.mpr rfl))
    refine (congrArg ((laneDims A B N wf).start (ix3 a b j) idx 2 + 0 + ·) ho).trans ?_
    unfold GatherDims.start
    rw [dif_pos (show (2 : Fin 3) ∈ (laneDims A B N wf).startIndexMap from List.mem_singleton.mpr rfl)]
    have hsi : (laneDims A B N wf).siIdx (ix3 a b j) ⟨List.idxOf (2 : Fin 3) (laneDims A B N wf).startIndexMap,
        List.idxOf_lt_length_iff.2 (List.mem_singleton.mpr rfl)⟩ = ix2 j 0 := by
      funext c; refine Fin.ext ?_
      match c with
      | ⟨0, _⟩ => rfl
      | ⟨1, _⟩ => rfl
    rw [hsi]
    rfl

/-- The gathers' indices, as a tensor. -/
abbrev partnerIdx : IVec S32x1 32 :=
  broadcastInDim S32x1 ![0] bcast_S32_S32x1_0
    (select (constantI S32 1 0#1) (addi (fun i => lit0 (S32.rowMajor i)) (broadcastInDim S32 ![] bcast_S_S32 (constantI S_ 32 32#32)))
      fun i => lit0 (S32.rowMajor i))

theorem partnerIdx_apply (j : Fin 32) : partnerIdx (ix2 j 0) = lit0 j := by
  unfold partnerIdx
  pointwise
  exact congrArg lit0 (Fin.ext (Shape.rowMajor_val_one _))

theorem partner_lit : ∀ j : Fin 32, min (lit0 j).toInt.toNat (32 - 1) = (partner j).val := by decide +kernel

variable (U : Valuation τ sig (Elt Ideal))

theorem gather_kr (x : S2x8448x32.Idx → EReal) (b : Fin 2) (l : Fin 8448) (j : Fin 32) :
    Host.gather gather_S2x8448x32_S32x1_S2x8448x32_01_2_n_n_2_1_284481 x partnerIdx (ix3 b l j) = x (ix3 b l (partner j)) := by
  refine (gather_lane (by decide) gather_S2x8448x32_S32x1_S2x8448x32_01_2_n_n_2_1_284481.wf x partnerIdx b l j).trans ?_
  refine congrArg (fun n => x (ix3 b l n)) (Fin.ext ?_)
  show min (partnerIdx (ix2 j 0)).toInt.toNat (32 - 1) = _
  rw [partnerIdx_apply]
  exact partner_lit j

theorem gather_wq (x : S384x6x32.Idx → EReal) (b : Fin 384) (l : Fin 6) (j : Fin 32) :
    Host.gather gather_S384x6x32_S32x1_S384x6x32_01_2_n_n_2_1_38461 x partnerIdx (ix3 b l j) = x (ix3 b l (partner j)) := by
  refine (gather_lane (by decide) gather_S384x6x32_S32x1_S384x6x32_01_2_n_n_2_1_38461.wf x partnerIdx b l j).trans ?_
  refine congrArg (fun n => x (ix3 b l n)) (Fin.ext ?_)
  show min (partnerIdx (ix2 j 0)).toInt.toNat (32 - 1) = _
  rw [partnerIdx_apply]
  exact partner_lit j

/-- The key lanes, then their partners. -/
theorem kr2_apply (b : Fin 2) (l : Fin 8448) (j : Fin 64) : (StableHlo.after hostOps0 U main_v5 : S2x8448x64.Idx → EReal) (ix3 b l j)
    = if h : j.val < 32 then (U main_arg2 : S2x8448x32.Idx → EReal) (ix3 b l ⟨j.val, h⟩)
      else (U main_arg2 : S2x8448x32.Idx → EReal) (ix3 b l (partner ⟨j.val - 32, by omega⟩)) := by
  after_reads_at
  by_cases h : j.val < 32
  · rw [dif_pos h, dif_pos h]
  · rw [dif_neg h, dif_neg h]
    exact gather_kr _ b l _

/-- The query weights, each head's 96 lanes padded to 128. -/
theorem wq_apply (k : Fin 384) (n : Fin 768) : (StableHlo.after hostOps0 U main_v10 : S384x768.Idx → EReal) (ix2 k n)
    = if h : n.val % 128 < 96 then (U main_arg4 : S384x576.Idx → EReal) (ix2 k ⟨n.val / 128 * 96 + n.val % 128, by omega⟩) else (0 : EReal) := by
  after_reads_at
  after_reads_at

/-- The partner weights: at a rotated lane, the weights of its partner. -/
theorem wqs_apply (k : Fin 384) (n : Fin 768) : (StableHlo.after hostOps0 U main_v20 : S384x768.Idx → EReal) (ix2 k n)
    = if h : n.val % 128 < 64 then (0 : EReal) else if h : n.val % 128 - 64 < 32 then
        (U main_arg4 : S384x576.Idx → EReal)
          (ix2 k ⟨n.val / 128 * 96 + (64 + (partner ⟨n.val % 128 - 64, h⟩).val), by omega⟩) else (0 : EReal) := by
  after_reads_at
  after_reads_at
  by_cases h : n.val % 128 < 64
  · rw [dif_pos h, dif_pos h]
  · rw [dif_neg h, dif_neg h]
    by_cases h' : n.val % 128 - 64 < 32
    · rw [dif_pos h', dif_pos h']
      refine (gather_wq _ k _ _).trans ?_
      pointwise
    · rw [dif_neg h', dif_neg h']

/-- The rotation table of a lane's own factor. -/
def rc (l : Fin 8448) (d : Fin 128) : ℝ :=
  if l.val < 256 then (if d.val < 96 then 1 else 0)
  else if d.val < 64 then 1 else if d.val < 96 then laneCos (l.val - 256) (d.val - 64) else 0

/-- The rotation table of the partner's factor. -/
def rs (l : Fin 8448) (d : Fin 128) : ℝ :=
  if l.val < 256 then 0 else if d.val < 64 then 0 else if d.val < 96 then laneSin (l.val - 256) (d.val - 64) else 0

theorem rc_apply (l : Fin 8448) (d : Fin 128) : (StableHlo.after hostOps0 U main_v65 : S8448x128.Idx → EReal) (ix2 l d) = (rc l d : EReal) := by
  after_reads_at
  after_reads_at
  after_reads_at
  simp only [angle_real, Ideal.cos_coe]
  unfold rc laneCos laneAngle
  by_cases h : l.val < 256
  · by_cases h' : d.val < 96 <;> simp [h, h']
  · by_cases h1 : d.val < 64
    · simp [h, h1]
    · by_cases h2 : d.val < 96
      · have h3 : d.val - 64 < 32 := by omega
        simp only [h, h1, h2, h3, dif_pos, dif_neg, if_pos, if_neg, not_false_eq_true, dite_true, dite_false, ite_true, ite_false]
        by_cases e1 : d.val - 64 < 8
        · rw [dif_pos e1, if_pos (by omega), show (d.val - 64) % 8 = d.val - 64 by omega]
        · by_cases e2 : d.val - 64 - 8 < 8
          · rw [dif_neg e1, dif_pos e2, if_pos (by omega), show (d.val - 64) % 8 = d.val - 64 - 8 by omega]
          · by_cases e3 : d.val - 64 - 8 - 8 < 8
            · rw [dif_neg e1, dif_neg e2, dif_pos e3, if_neg (by omega), show (d.val - 64) % 8 = d.val - 64 - 8 - 8 by omega]
            · rw [dif_neg e1, dif_neg e2, dif_neg e3, if_neg (by omega), show (d.val - 64) % 8 = d.val - 64 - 8 - 8 - 8 by omega]
      · have h3 : ¬ d.val - 64 < 32 := by omega
        simp [h, h1, h2, h3]

theorem rs_apply (l : Fin 8448) (d : Fin 128) : (StableHlo.after hostOps0 U main_v67 : S8448x128.Idx → EReal) (ix2 l d) = (rs l d : EReal) := by
  after_reads_at
  after_reads_at
  after_reads_at
  simp only [angle_real, Ideal.sin_coe, ← EReal.coe_neg]
  unfold rs laneSin laneAngle
  by_cases h : l.val < 256
  · simp [h]
  · by_cases h1 : d.val < 64
    · simp [h, h1]
    · by_cases h2 : d.val < 96
      · have h3 : d.val - 64 < 32 := by omega
        simp only [h, h1, h2, h3, dif_pos, dif_neg, if_pos, if_neg, not_false_eq_true, dite_true, dite_false, ite_true, ite_false]
        by_cases e1 : d.val - 64 < 8
        · rw [dif_pos e1, if_pos (show (d.val - 64) % 16 < 8 by omega), if_pos (show d.val - 64 < 16 by omega),
            show (d.val - 64) % 8 = d.val - 64 by omega]
        · by_cases e2 : d.val - 64 - 8 < 8
          · rw [dif_neg e1, dif_pos e2, if_neg (show ¬ (d.val - 64) % 16 < 8 by omega), if_pos (show d.val - 64 < 16 by omega),
              show (d.val - 64) % 8 = d.val - 64 - 8 by omega]
          · by_cases e3 : d.val - 64 - 8 - 8 < 8
            · rw [dif_neg e1, dif_neg e2, dif_pos e3, if_pos (show (d.val - 64) % 16 < 8 by omega), if_neg (show ¬ d.val - 64 < 16 by omega),
                show (d.val - 64) % 8 = d.val - 64 - 8 - 8 by omega]
            · rw [dif_neg e1, dif_neg e2, dif_neg e3, if_neg (show ¬ (d.val - 64) % 16 < 8 by omega),
                if_neg (show ¬ d.val - 64 < 16 by omega), show (d.val - 64) % 8 = d.val - 64 - 8 - 8 - 8 by omega]
      · have h3 : ¬ d.val - 64 < 32 := by omega
        simp [h, h1, h2, h3]

theorem gq_apply (k : Fin 384) : (StableHlo.after hostOps0 U main_v68 : S1x384.Idx → EReal) (ix2 0 k) = (U main_arg3 : S384.Idx → EReal) (ix1 k) := by
  after_reads_at

theorem gkv_apply (k : Fin 256) : (StableHlo.after hostOps0 U main_v69 : S1x256.Idx → EReal) (ix2 0 k) = (U main_arg5 : S256.Idx → EReal) (ix1 k) := by
  after_reads_at

theorem wkv_apply (k : Fin 256) (n : Fin 768) : (StableHlo.after hostOps0 U main_v70 : S256x768.Idx → EReal) (ix2 k n)
    = (U main_arg6 : S256x768.Idx → EReal) (ix2 k n) := by
  after_reads_at

end Cert.KernelIdeal.Host
-- ==== Proof.MlaBlock.lean ====
/- The projection call (region 0), one block of rows at a time: what each of its three output blocks holds at an index, and that block in
   terms of the block's input rows. -/
module

public import proofs.«01_k».proof.Proof.Gen.KernelIdeal.Frame
public import proofs.«01_k».proof.Proof.Rms
public import Idealize.ShloMosaic.Lib.Pipeline.ValueKit

@[expose] public section

set_option maxRecDepth 16384

noncomputable section

namespace Cert.KernelIdeal.Mla

open Cert.KernelIdeal Cert.KernelIdeal.Gen Cert.Attn Idealize.ShloMosaic
open Idealize.ShloMosaic.TcCoe Idealize.SL.Sem

theorem zero2 : (![0, 0] : Fin 2 → ℕ) = fun _ => 0 := by decide
theorem zero3 : (![0, 0, 0] : Fin 3 → ℕ) = fun _ => 0 := by decide

/-- A head's stored query element. -/
def qEl (qa qs : FVec Ideal S256x768 .f32) (rc rs : FVec Ideal S256x128 .f32) (y : S1x6x256x128.Idx) : EReal :=
  (qa (ix2 (y 2) ⟨(y 1).val * 128 + (y 3).val, by have h1 : (y 1).val < 6 := (y 1).isLt; have h3 : (y 3).val < 128 := (y 3).isLt; omega⟩) * rc (ix2 (y 2) (y 3))
    + qs (ix2 (y 2) ⟨(y 1).val * 128 + (y 3).val, by have h1 : (y 1).val < 6 := (y 1).isLt; have h3 : (y 3).val < 128 := (y 3).isLt; omega⟩) * rs (ix2 (y 2) (y 3)))
    * Ideal.ofBits .f32 0x3DD105EC#32

/-- A head's stored key element. -/
def kEl (kv : FVec Ideal S256x768 .f32) (kr : FVec Ideal S256x32 .f32) (y : S1x6x256x128.Idx) : EReal :=
  if h : (y 3).val < 64 then kv (ix2 (y 2) ⟨(y 1).val * 128 + (y 3).val, by have h1 : (y 1).val < 6 := (y 1).isLt; omega⟩)
  else if h' : (y 3).val < 96 then kr (ix2 (y 2) ⟨(y 3).val - 64, by omega⟩) else 0

/-- A head's stored value element. -/
def vEl (kv : FVec Ideal S256x768 .f32) (y : S1x6x256x128.Idx) : EReal :=
  if h : (y 3).val < 64 then kv (ix2 (y 2) ⟨(y 1).val * 128 + 64 + (y 3).val, by have h1 : (y 1).val < 6 := (y 1).isLt; omega⟩) else 1

theorem qEl_at (qa qs : FVec Ideal S256x768 .f32) (rc rs : FVec Ideal S256x128 .f32) (y : S1x6x256x128.Idx)
    (r : Fin 256) (d : Fin 128) (k : Fin 768) (h2 : (y 2).val = r.val) (h3 : (y 3).val = d.val)
    (hk : k.val = (y 1).val * 128 + d.val) :
    (qa (ix2 r k) * rc (ix2 r d) + qs (ix2 r k) * rs (ix2 r d)) * Ideal.ofBits .f32 0x3DD105EC#32 = qEl qa qs rc rs y := by
  obtain rfl : r = y 2 := Fin.ext h2.symm
  obtain rfl : d = y 3 := Fin.ext h3.symm
  have e : k = ⟨(y 1).val * 128 + (y 3).val, by rw [← hk]; exact k.isLt⟩ := Fin.ext hk
  rw [e]
  rfl

/-- A ladder of the value block's two parts is the value element it stands for. -/
theorem vEl_at (kv : FVec Ideal S256x768 .f32) (y : S1x6x256x128.Idx) (r : Fin 256) (d : Fin 128) (a : d.val < 64 → EReal)
    (h2 : (y 2).val = r.val) (h3 : (y 3).val = d.val)
    (ha : ∀ (h : d.val < 64) (n : Fin 768), n.val = (y 1).val * 128 + 64 + d.val → a h = kv (ix2 r n)) :
    (if h : d.val < 64 then a h else 1) = vEl kv y := by
  obtain rfl : r = y 2 := Fin.ext h2.symm
  obtain rfl : d = y 3 := Fin.ext h3.symm
  unfold vEl
  split
  · exact ha _ _ rfl
  · rfl

/-- A ladder of the key block's three parts is the key element it stands for. -/
theorem kEl_at (kv : FVec Ideal S256x768 .f32) (kr : FVec Ideal S256x32 .f32) (y : S1x6x256x128.Idx) (r : Fin 256) (d : Fin 128)
    (a : d.val < 64 → EReal) (b : d.val - 64 < 32 → EReal) (h2 : (y 2).val = r.val) (h3 : (y 3).val = d.val)
    (ha : ∀ (h : d.val < 64) (n : Fin 768), n.val = (y 1).val * 128 + d.val → a h = kv (ix2 r n))
    (hb : ∀ (h : d.val - 64 < 32) (n : Fin 32), n.val = d.val - 64 → b h = kr (ix2 r n)) :
    (if h : d.val < 64 then a h else if h : d.val - 64 < 32 then b h else 0) = kEl kv kr y := by
  obtain rfl : r = y 2 := Fin.ext h2.symm
  obtain rfl : d = y 3 := Fin.ext h3.symm
  unfold kEl
  split
  · exact ha _ _ rfl
  · by_cases hh : (y 3).val < 96
    · rw [dif_pos hh, dif_pos (show (y 3).val - 64 < 32 by omega)]
      exact hb _ _ rfl
    · rw [dif_neg hh, dif_neg (show ¬ (y 3).val - 64 < 32 by omega)]

theorem proj_q (x0 x5 x6 r n) : (k0_pay7 (F := Ideal) x0 x5 x6 : _ → EReal) (ix2 r n) =
    ∑ k, (x0 (ix3 0 r k) * Ideal.rsqrt (Ideal.div (∑ k, x0 (ix3 0 r k) * x0 (ix3 0 r k)) (Ideal.ofBits .f32 0x43C00000#32)
      + Ideal.ofBits .f32 0x358637BD#32) * x5 (ix2 0 k)) * x6 (ix2 k n) := by
  pointwise [k0_pay7, k0_pay6]

theorem proj_qs (x0 x5 x6 r n) : (k0_pay8 (F := Ideal) x0 x5 x6 : _ → EReal) (ix2 r n) =
    ∑ k, (x0 (ix3 0 r k) * Ideal.rsqrt (Ideal.div (∑ k, x0 (ix3 0 r k) * x0 (ix3 0 r k)) (Ideal.ofBits .f32 0x43C00000#32)
      + Ideal.ofBits .f32 0x358637BD#32) * x5 (ix2 0 k)) * x6 (ix2 k n) := by
  pointwise [k0_pay8, k0_pay6]

theorem proj_kv (w l8 l9 r n) : (k0_pay10 (F := Ideal) w l8 l9 : _ → EReal) (ix2 r n) =
    ∑ k, w (ix2 r k) * l8 (ix2 0 k) * l9 (ix2 k n) := by
  pointwise [k0_pay10]

theorem norm_kv (x r k) : (k0_pay9 (F := Ideal) x : _ → EReal) (ix2 r k) =
    x (ix3 0 r k) * Ideal.rsqrt (Ideal.div (∑ k, x (ix3 0 r k) * x (ix3 0 r k)) (Ideal.ofBits .f32 0x43800000#32)
      + Ideal.ofBits .f32 0x358637BD#32) := by
  pointwise [k0_pay9]

theorem rope_k (l3 l4 l2 r) (n : Fin 32) : (k0_pay13 (F := Ideal) l3 l4 l2 : _ → EReal) (ix2 r n) =
    l2 (ix3 0 r ⟨n.val, by omega⟩) * l3 (ix2 r ⟨64 + n.val, by omega⟩)
      + l2 (ix3 0 r ⟨32 + n.val, by omega⟩) * l4 (ix2 r ⟨64 + n.val, by omega⟩) := by
  pointwise [k0_pay13, k0_pay11, k0_pay12]

section
variable (x0 : Vec Ideal S1x256x384 .f32) (x1 : Vec Ideal S1x256x256 .f32) (x2 : Vec Ideal S1x256x64 .f32) (x3 x4 : Vec Ideal S256x128 .f32)
  (x5 : Vec Ideal S1x384 .f32) (x6 x7 : Vec Ideal S384x768 .bf16) (x8 : Vec Ideal S1x256 .f32) (x9 : Vec Ideal S256x768 .bf16)

/-- The key block. -/
theorem out_k (y : S1x6x256x128.Idx) :
    (out0_11 (F := Ideal) x0 x1 x2 x3 x4 x5 x6 x7 x8 x9 : S1x6x256x128.Idx → EReal) y
      = kEl (k0_pay41 x0 x1 x2 x3 x4 x5 x6 x7 x8 x9) (k0_pay44 x0 x1 x2 x3 x4 x5 x6 x7 x8 x9) y := by
  have hkv : k0_pay10 (F := Ideal) (k0_pay40 x0 x1 x2 x3 x4 x5 x6 x7 x8 x9) (View.ld x8 r0_4) (View.ld x9 r0_5) = k0_pay41 x0 x1 x2 x3 x4 x5 x6 x7 x8 x9 := rfl
  have hkr : k0_pay13 (F := Ideal) (View.ld x3 r0_6) (View.ld x4 r0_6) (View.ld x2 r0_7) = k0_pay44 x0 x1 x2 x3 x4 x5 x6 x7 x8 x9 := rfl
  have hz : ∀ i, (k0_pay45 (F := Ideal) x0 x1 x2 x3 x4 x5 x6 x7 x8 x9 : _ → EReal) i = 0 := fun i => by
    unfold k0_pay45; pointwise [k0_pay14]
  unfold out0_11
  generalize k0_pay40 (F := Ideal) x0 x1 x2 x3 x4 x5 x6 x7 x8 x9 = w at *
  generalize k0_pay41 (F := Ideal) x0 x1 x2 x3 x4 x5 x6 x7 x8 x9 = kv at *
  generalize k0_pay44 (F := Ideal) x0 x1 x2 x3 x4 x5 x6 x7 x8 x9 = kr at *
  generalize k0_pay45 (F := Ideal) x0 x1 x2 x3 x4 x5 x6 x7 x8 x9 = z at *
  generalize (View.ld (Val := Elt Ideal) x8 r0_4) = l8 at *
  generalize (View.ld (Val := Elt Ideal) x9 r0_5) = l9 at *
  generalize (View.ld (Val := Elt Ideal) x3 r0_6) = l3 at *
  generalize (View.ld (Val := Elt Ideal) x4 r0_6) = l4 at *
  generalize (View.ld (Val := Elt Ideal) x2 r0_7) = l2 at *
  canon_tiles x h
  case piece5 =>
    open_payloads; pointwise
    refine kEl_at kv kr y _ _ _ _ h2 h3 (fun _ n hn => ?_) (fun _ n hn => ?_)
    · have e : n = ⟨(x 3).val, by omega⟩ := Fin.ext (by rw [hn]; show _ = (x 3).val; omega)
      rw [← hkv, e]
      exact (proj_kv w l8 l9 (x 2) _).symm
    · have e : n = ⟨(x 3).val - 64, by omega⟩ := Fin.ext (by rw [hn])
      rw [← hkr, e]
      exact (rope_k l3 l4 l2 (x 2) ⟨(x 3).val - 64, by omega⟩).symm
  all_goals
    open_payloads; pointwise
    simp only [hz]
    refine kEl_at kv kr y _ _ _ _ h2 h3 (fun _ n hn => ?_) (fun _ n hn => ?_)
    · exact congrArg (fun n => kv (ix2 (x 2) n)) (Fin.ext (by rw [hn]; simp; omega))
    · exact congrArg (fun n => kr (ix2 (x 2) n)) (Fin.ext (by rw [hn]))

/-- The value block. -/
theorem out_v (y : S1x6x256x128.Idx) :
    (out0_12 (F := Ideal) x0 x1 x2 x3 x4 x5 x6 x7 x8 x9 : S1x6x256x128.Idx → EReal) y
      = vEl (k0_pay41 x0 x1 x2 x3 x4 x5 x6 x7 x8 x9) y := by
  have hkv : k0_pay10 (F := Ideal) (k0_pay40 x0 x1 x2 x3 x4 x5 x6 x7 x8 x9) (View.ld x8 r0_4) (View.ld x9 r0_5) = k0_pay41 x0 x1 x2 x3 x4 x5 x6 x7 x8 x9 := rfl
  unfold out0_12
  generalize k0_pay40 (F := Ideal) x0 x1 x2 x3 x4 x5 x6 x7 x8 x9 = w at *
  generalize k0_pay41 (F := Ideal) x0 x1 x2 x3 x4 x5 x6 x7 x8 x9 = kv at *
  generalize (View.ld (Val := Elt Ideal) x8 r0_4) = l8 at *
  generalize (View.ld (Val := Elt Ideal) x9 r0_5) = l9 at *
  canon_tiles x h
  case piece5 =>
    open_payloads; pointwise
    refine vEl_at kv y _ _ _ h2 h3 (fun _ n hn => ?_)
    have e : n = ⟨64 + (x 3).val, by omega⟩ := Fin.ext (by rw [hn]; show _ = 64 + (x 3).val; omega)
    rw [← hkv, e]
    exact (proj_kv w l8 l9 (x 2) _).symm
  all_goals
    open_payloads; pointwise
    refine vEl_at kv y _ _ _ h2 h3 (fun _ n hn => ?_)
    exact congrArg (fun n => kv (ix2 (x 2) n)) (Fin.ext (by rw [hn]; simp; omega))

theorem pay_rc : k0_pay42 (F := Ideal) x0 x1 x2 x3 x4 x5 x6 x7 x8 x9 = x3 := by
  unfold k0_pay42 k0_pay11
  rw [View.ld_unit_zero zero2]
  exact funext fun i => by pointwise

theorem pay_rs : k0_pay43 (F := Ideal) x0 x1 x2 x3 x4 x5 x6 x7 x8 x9 = x4 := by
  unfold k0_pay43 k0_pay12
  rw [View.ld_unit_zero zero2]
  exact funext fun i => by pointwise

/-- The query block. -/
theorem out_q (y : S1x6x256x128.Idx) :
    (out0_10 (F := Ideal) x0 x1 x2 x3 x4 x5 x6 x7 x8 x9 : S1x6x256x128.Idx → EReal) y
      = qEl (k0_pay38 x0 x1 x2 x3 x4 x5 x6 x7 x8 x9) (k0_pay39 x0 x1 x2 x3 x4 x5 x6 x7 x8 x9) x3 x4 y := by
  unfold out0_10
  simp only [pay_rc, pay_rs]
  generalize k0_pay38 (F := Ideal) x0 x1 x2 x3 x4 x5 x6 x7 x8 x9 = qa at *
  generalize k0_pay39 (F := Ideal) x0 x1 x2 x3 x4 x5 x6 x7 x8 x9 = qs at *
  canon_tiles x h
  all_goals (open_payloads; pointwise; refine qEl_at qa qs x3 x4 y _ _ _ h2 h3 ?_; simp; omega)

/-- A projected row of the query down-projection, over the reals. -/
theorem pay_qa (r : Fin 256) (X G : Fin 384 → ℝ) (W : Fin 384 → Fin 768 → ℝ) (hX : ∀ k, x0 (ix3 0 r k) = (X k : EReal))
    (hG : ∀ k, x5 (ix2 0 k) = (G k : EReal)) (hW : ∀ k n, x6 (ix2 k n) = (W k n : EReal)) (n : Fin 768) :
    (k0_pay38 (F := Ideal) x0 x1 x2 x3 x4 x5 x6 x7 x8 x9 : _ → EReal) (ix2 r n) = ((∑ k, rms 384 X G k * W k n : ℝ) : EReal) := by
  unfold k0_pay38
  rw [View.ld_unit_zero zero3, View.ld_unit_zero zero2, View.ld_unit_zero zero2]
  refine (proj_q _ _ _ _ _).trans ?_
  rw [coe_sum, ofBits_eps, ofBits_384]
  refine Finset.sum_congr rfl fun k _ => ?_
  rw [EReal.coe_mul, ← hW]
  exact congrArg (· * _) (rms_real 384 (by norm_num) _ _ X G hX hG k)

/-- The same through the second (rotation partner) weights. -/
theorem pay_qs (r : Fin 256) (X G : Fin 384 → ℝ) (W : Fin 384 → Fin 768 → ℝ) (hX : ∀ k, x0 (ix3 0 r k) = (X k : EReal))
    (hG : ∀ k, x5 (ix2 0 k) = (G k : EReal)) (hW : ∀ k n, x7 (ix2 k n) = (W k n : EReal)) (n : Fin 768) :
    (k0_pay39 (F := Ideal) x0 x1 x2 x3 x4 x5 x6 x7 x8 x9 : _ → EReal) (ix2 r n) = ((∑ k, rms 384 X G k * W k n : ℝ) : EReal) := by
  unfold k0_pay39
  rw [View.ld_unit_zero zero3, View.ld_unit_zero zero2, View.ld_unit_zero zero2]
  refine (proj_qs _ _ _ _ _).trans ?_
  rw [coe_sum, ofBits_eps, ofBits_384]
  refine Finset.sum_congr rfl fun k _ => ?_
  rw [EReal.coe_mul, ← hW]
  exact congrArg (· * _) (rms_real 384 (by norm_num) _ _ X G hX hG k)

/-- A projected row of the key-value down-projection, over the reals. -/
theorem pay_kv (r : Fin 256) (X G : Fin 256 → ℝ) (W : Fin 256 → Fin 768 → ℝ) (hX : ∀ k, x1 (ix3 0 r k) = (X k : EReal))
    (hG : ∀ k, x8 (ix2 0 k) = (G k : EReal)) (hW : ∀ k n, x9 (ix2 k n) = (W k n : EReal)) (n : Fin 768) :
    (k0_pay41 (F := Ideal) x0 x1 x2 x3 x4 x5 x6 x7 x8 x9 : _ → EReal) (ix2 r n) = ((∑ k, rms 256 X G k * W k n : ℝ) : EReal) := by
  unfold k0_pay41 k0_pay40
  rw [View.ld_unit_zero zero3, View.ld_unit_zero zero2, View.ld_unit_zero zero2]
  refine (proj_kv _ _ _ _ _).trans ?_
  rw [coe_sum]
  refine Finset.sum_congr rfl fun k _ => ?_
  rw [EReal.coe_mul, ← hW, norm_kv, ofBits_eps, ofBits_256]
  exact congrArg (· * _) (rms_real 256 (by norm_num) _ _ X G hX hG k)

/-- The rotated key lanes of a row, over the reals. -/
theorem pay_kr (r : Fin 256) (X : Fin 64 → ℝ) (C S : Fin 128 → ℝ) (hX : ∀ k, x2 (ix3 0 r k) = (X k : EReal))
    (hC : ∀ k, x3 (ix2 r k) = (C k : EReal)) (hS : ∀ k, x4 (ix2 r k) = (S k : EReal)) (n : Fin 32) :
    (k0_pay44 (F := Ideal) x0 x1 x2 x3 x4 x5 x6 x7 x8 x9 : _ → EReal) (ix2 r n)
      = ((X ⟨n.val, by omega⟩ * C ⟨64 + n.val, by omega⟩ + X ⟨32 + n.val, by omega⟩ * S ⟨64 + n.val, by omega⟩ : ℝ) : EReal) := by
  unfold k0_pay44
  rw [View.ld_unit_zero zero2, View.ld_unit_zero zero2, View.ld_unit_zero zero3]
  refine (rope_k _ _ _ _ _).trans ?_
  rw [hX, hX, hC, hS, EReal.coe_add, EReal.coe_mul, EReal.coe_mul]

end

end Cert.KernelIdeal.Mla
-- ==== Proof.Mla.lean ====
/- The projection call (region 0): its three output arrays over the arrays it reads. -/
module

public import proofs.«01_k».proof.Proof.MlaBlock

@[expose] public section

set_option maxRecDepth 16384

noncomputable section

namespace Cert.KernelIdeal.Mla

open Cert.KernelIdeal Cert.KernelIdeal.Gen Cert.Attn Idealize.ShloMosaic
open Idealize.ShloMosaic.TcCoe Idealize.SL.Sem

variable (V : (c : Dev nD) → (b : Ref sig .tc) → Buf (Elt Ideal) ((c : Thread nD τ).loc b))

/-- Where each window's block sits: step `t` takes rows `256 (t mod 33) ..` of batch `t / 33`; the weights are whole. -/
theorem idx : ∀ t : Fin cfg0.N, win0_0.index t = ![t.val / 33, t.val % 33, 0] ∧ win0_1.index t = ![t.val / 33, t.val % 33, 0]
    ∧ win0_2.index t = ![t.val / 33, t.val % 33, 0] ∧ win0_3.index t = ![t.val % 33, 0] ∧ win0_4.index t = ![t.val % 33, 0]
    ∧ win0_5.index t = ![0, 0] ∧ win0_6.index t = ![0, 0] ∧ win0_7.index t = ![0, 0] ∧ win0_8.index t = ![0, 0] ∧ win0_9.index t = ![0, 0]
    ∧ win0_10.index t = ![t.val / 33, 0, t.val % 33, 0] ∧ win0_11.index t = ![t.val / 33, 0, t.val % 33, 0]
    ∧ win0_12.index t = ![t.val / 33, 0, t.val % 33, 0] :=
  (by decide +kernel : ∀ t : Fin grid0.N, _)

theorem read_cq (c : Dev nD) (t : Fin cfg0.N) (x : S1x256x384.Idx) (j : S2x8448x384.Idx) (h0 : (j 0).val = t.val / 33 + (x 0).val)
    (h1 : (j 1).val = t.val % 33 * 256 + (x 1).val) (h2 : (j 2).val = (x 2).val) :
    (iblk0 V c 0 t : S1x256x384.Idx → EReal) x = V c main_arg0 j := by
  blk_ext! [iblk0, idx t]

theorem read_ckv (c : Dev nD) (t : Fin cfg0.N) (x : S1x256x256.Idx) (j : S2x8448x256.Idx) (h0 : (j 0).val = t.val / 33 + (x 0).val)
    (h1 : (j 1).val = t.val % 33 * 256 + (x 1).val) (h2 : (j 2).val = (x 2).val) :
    (iblk0 V c 1 t : S1x256x256.Idx → EReal) x = V c main_arg1 j := by
  blk_ext! [iblk0, idx t]

theorem read_kr (c : Dev nD) (t : Fin cfg0.N) (x : S1x256x64.Idx) (j : S2x8448x64.Idx) (h0 : (j 0).val = t.val / 33 + (x 0).val)
    (h1 : (j 1).val = t.val % 33 * 256 + (x 1).val) (h2 : (j 2).val = (x 2).val) :
    (iblk0 V c 2 t : S1x256x64.Idx → EReal) x = V c main_v5 j := by
  blk_ext! [iblk0, idx t]

theorem read_rc (c : Dev nD) (t : Fin cfg0.N) (x : S256x128.Idx) (j : S8448x128.Idx) (h0 : (j 0).val = t.val % 33 * 256 + (x 0).val)
    (h1 : (j 1).val = (x 1).val) : (iblk0 V c 3 t : S256x128.Idx → EReal) x = V c main_v65 j := by
  blk_ext! [iblk0, idx t]

theorem read_rs (c : Dev nD) (t : Fin cfg0.N) (x : S256x128.Idx) (j : S8448x128.Idx) (h0 : (j 0).val = t.val % 33 * 256 + (x 0).val)
    (h1 : (j 1).val = (x 1).val) : (iblk0 V c 4 t : S256x128.Idx → EReal) x = V c main_v67 j := by
  blk_ext! [iblk0, idx t]

theorem read_gq (c : Dev nD) (t : Fin cfg0.N) (x j : S1x384.Idx) (h0 : (j 0).val = (x 0).val) (h1 : (j 1).val = (x 1).val) :
    (iblk0 V c 5 t : S1x384.Idx → EReal) x = V c main_v68 j := by
  blk_ext! [iblk0, idx t]

theorem read_wq (c : Dev nD) (t : Fin cfg0.N) (x j : S384x768.Idx) (h0 : (j 0).val = (x 0).val) (h1 : (j 1).val = (x 1).val) :
    (iblk0 V c 6 t : S384x768.Idx → EReal) x = V c main_v10 j := by
  blk_ext! [iblk0, idx t]

theorem read_wqs (c : Dev nD) (t : Fin cfg0.N) (x j : S384x768.Idx) (h0 : (j 0).val = (x 0).val) (h1 : (j 1).val = (x 1).val) :
    (iblk0 V c 7 t : S384x768.Idx → EReal) x = V c main_v20 j := by
  blk_ext! [iblk0, idx t]

theorem read_gkv (c : Dev nD) (t : Fin cfg0.N) (x j : S1x256.Idx) (h0 : (j 0).val = (x 0).val) (h1 : (j 1).val = (x 1).val) :
    (iblk0 V c 8 t : S1x256.Idx → EReal) x = V c main_v69 j := by
  blk_ext! [iblk0, idx t]

theorem read_wkv (c : Dev nD) (t : Fin cfg0.N) (x j : S256x768.Idx) (h0 : (j 0).val = (x 0).val) (h1 : (j 1).val = (x 1).val) :
    (iblk0 V c 9 t : S256x768.Idx → EReal) x = V c main_v70 j := by
  blk_ext! [iblk0, idx t]

/-- What the call's arrays hold, as reals. -/
structure Data (c : Dev nD) where
  cq : Fin 2 → Fin 8448 → Fin 384 → ℝ
  ckv : Fin 2 → Fin 8448 → Fin 256 → ℝ
  kr : Fin 2 → Fin 8448 → Fin 64 → ℝ
  rc : Fin 8448 → Fin 128 → ℝ
  rs : Fin 8448 → Fin 128 → ℝ
  gq : Fin 384 → ℝ
  wq : Fin 384 → Fin 768 → ℝ
  wqs : Fin 384 → Fin 768 → ℝ
  gkv : Fin 256 → ℝ
  wkv : Fin 256 → Fin 768 → ℝ
  hcq : ∀ b l k, (V c main_arg0 : S2x8448x384.Idx → EReal) (ix3 b l k) = (cq b l k : EReal)
  hckv : ∀ b l k, (V c main_arg1 : S2x8448x256.Idx → EReal) (ix3 b l k) = (ckv b l k : EReal)
  hkr : ∀ b l k, (V c main_v5 : S2x8448x64.Idx → EReal) (ix3 b l k) = (kr b l k : EReal)
  hrc : ∀ l d, (V c main_v65 : S8448x128.Idx → EReal) (ix2 l d) = (rc l d : EReal)
  hrs : ∀ l d, (V c main_v67 : S8448x128.Idx → EReal) (ix2 l d) = (rs l d : EReal)
  hgq : ∀ k, (V c main_v68 : S1x384.Idx → EReal) (ix2 0 k) = (gq k : EReal)
  hwq : ∀ k n, (V c main_v10 : S384x768.Idx → EReal) (ix2 k n) = (wq k n : EReal)
  hwqs : ∀ k n, (V c main_v20 : S384x768.Idx → EReal) (ix2 k n) = (wqs k n : EReal)
  hgkv : ∀ k, (V c main_v69 : S1x256.Idx → EReal) (ix2 0 k) = (gkv k : EReal)
  hwkv : ∀ k n, (V c main_v70 : S256x768.Idx → EReal) (ix2 k n) = (wkv k n : EReal)

variable {V} {c : Dev nD} (D : Data V c)

/-- Query head `h` at row `l`, lane `d`. -/
def Data.q (b : Fin 2) (h : Fin 6) (l : Fin 8448) (d : Fin 128) : ℝ :=
  ((∑ k, rms 384 (D.cq b l) D.gq k * D.wq k ⟨h.val * 128 + d.val, by omega⟩) * D.rc l d
    + (∑ k, rms 384 (D.cq b l) D.gq k * D.wqs k ⟨h.val * 128 + d.val, by omega⟩) * D.rs l d) * scale

/-- Lane `n` of the up-projected keys and values. -/
def Data.kv (b : Fin 2) (l : Fin 8448) (n : Fin 768) : ℝ := ∑ k, rms 256 (D.ckv b l) D.gkv k * D.wkv k n

/-- Key head `h` at row `l`, lane `d`. -/
def Data.k (b : Fin 2) (h : Fin 6) (l : Fin 8448) (d : Fin 128) : ℝ :=
  if hd : d.val < 64 then D.kv b l ⟨h.val * 128 + d.val, by omega⟩
  else if hd' : d.val < 96 then
    D.kr b l ⟨d.val - 64, by omega⟩ * D.rc l d + D.kr b l ⟨d.val - 32, by omega⟩ * D.rs l d
  else 0

/-- Value head `h` at row `l`, lane `e`. -/
def Data.v (b : Fin 2) (h : Fin 6) (l : Fin 8448) (e : Fin 64) : ℝ := D.kv b l ⟨h.val * 128 + 64 + e.val, by omega⟩

/-- Lane `d` of what is stored for a value head: the values, then ones. -/
def Data.vOut (b : Fin 2) (h : Fin 6) (l : Fin 8448) (d : Fin 128) : EReal :=
  if hd : d.val < 64 then (D.v b h l ⟨d.val, hd⟩ : EReal) else 1

theorem row_q (t : Fin cfg0.N) (y : S1x6x256x128.Idx) (b : Fin 2) (h : Fin 6) (l : Fin 8448) (d : Fin 128)
    (hb : b.val = t.val / 33) (hh : h.val = (y 1).val) (hl : l.val = t.val % 33 * 256 + (y 2).val) (hd : d.val = (y 3).val) :
    (out0_10 (F := Ideal) (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) : S1x6x256x128.Idx → EReal) y = (D.q b h l d : EReal) := by
  refine (out_q _ _ _ _ _ _ _ _ _ _ y).trans ?_
  obtain rfl : d = y 3 := Fin.ext hd
  obtain rfl : h = y 1 := Fin.ext hh
  unfold qEl Data.q
  have hX : ∀ k, (iblk0 V c 0 t : S1x256x384.Idx → EReal) (ix3 0 (y 2) k) = (D.cq b l k : EReal) := fun k =>
    (read_cq V c t _ (ix3 b l k) (by exact hb) (by exact hl) rfl).trans (D.hcq b l k)
  have hG : ∀ k, (iblk0 V c 5 t : S1x384.Idx → EReal) (ix2 0 k) = (D.gq k : EReal) := fun k =>
    (read_gq V c t _ (ix2 0 k) rfl rfl).trans (D.hgq k)
  rw [ofBits_scale, EReal.coe_mul, EReal.coe_add, EReal.coe_mul, EReal.coe_mul,
    pay_qa _ _ _ _ _ _ _ _ _ _ (y 2) (D.cq b l) D.gq D.wq hX hG fun k n => (read_wq V c t _ (ix2 k n) rfl rfl).trans (D.hwq k n),
    pay_qs _ _ _ _ _ _ _ _ _ _ (y 2) (D.cq b l) D.gq D.wqs hX hG fun k n => (read_wqs V c t _ (ix2 k n) rfl rfl).trans (D.hwqs k n),
    (read_rc V c t (ix2 (y 2) (y 3)) (ix2 l (y 3)) (by exact hl) rfl).trans (D.hrc l _),
    (read_rs V c t (ix2 (y 2) (y 3)) (ix2 l (y 3)) (by exact hl) rfl).trans (D.hrs l _)]

theorem row_kv (t : Fin cfg0.N) (r : Fin 256) (b : Fin 2) (l : Fin 8448) (hb : b.val = t.val / 33) (hl : l.val = t.val % 33 * 256 + r.val)
    (n : Fin 768) :
    (k0_pay41 (F := Ideal) (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) : S256x768.Idx → EReal) (ix2 r n) = (D.kv b l n : EReal) :=
  pay_kv _ _ _ _ _ _ _ _ _ _ r (D.ckv b l) D.gkv D.wkv
    (fun k => (read_ckv V c t _ (ix3 b l k) (by exact hb) (by exact hl) rfl).trans (D.hckv b l k))
    (fun k => (read_gkv V c t _ (ix2 0 k) rfl rfl).trans (D.hgkv k))
    (fun k n => (read_wkv V c t _ (ix2 k n) rfl rfl).trans (D.hwkv k n)) n

theorem row_k (t : Fin cfg0.N) (y : S1x6x256x128.Idx) (b : Fin 2) (h : Fin 6) (l : Fin 8448) (d : Fin 128)
    (hb : b.val = t.val / 33) (hh : h.val = (y 1).val) (hl : l.val = t.val % 33 * 256 + (y 2).val) (hd : d.val = (y 3).val) :
    (out0_11 (F := Ideal) (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) : S1x6x256x128.Idx → EReal) y = (D.k b h l d : EReal) := by
  refine (out_k _ _ _ _ _ _ _ _ _ _ y).trans ?_
  obtain rfl : d = y 3 := Fin.ext hd
  obtain rfl : h = y 1 := Fin.ext hh
  unfold kEl Data.k
  by_cases h1 : (y 3).val < 64
  · rw [dif_pos h1, dif_pos h1]
    exact row_kv D t (y 2) b l hb hl _
  · rw [dif_neg h1, dif_neg h1]
    by_cases h2 : (y 3).val < 96
    · rw [dif_pos h2, dif_pos h2]
      refine (pay_kr _ _ _ _ _ _ _ _ _ _ (y 2) (D.kr b l) (D.rc l) (D.rs l)
        (fun k => (read_kr V c t _ (ix3 b l k) (by exact hb) (by exact hl) rfl).trans (D.hkr b l k))
        (fun k => (read_rc V c t _ (ix2 l k) (by exact hl) rfl).trans (D.hrc l k))
        (fun k => (read_rs V c t _ (ix2 l k) (by exact hl) rfl).trans (D.hrs l k)) _).trans ?_
      have e : (⟨64 + ((y 3).val - 64), by omega⟩ : Fin 128) = y 3 := Fin.ext (by show 64 + ((y 3).val - 64) = (y 3).val; omega)
      have e' : (⟨32 + ((y 3).val - 64), by omega⟩ : Fin 64) = ⟨(y 3).val - 32, by omega⟩ :=
        Fin.ext (by show 32 + ((y 3).val - 64) = (y 3).val - 32; omega)
      simp only [e, e']
    · rw [dif_neg h2, dif_neg h2, EReal.coe_zero]

theorem row_v (t : Fin cfg0.N) (y : S1x6x256x128.Idx) (b : Fin 2) (h : Fin 6) (l : Fin 8448) (d : Fin 128)
    (hb : b.val = t.val / 33) (hh : h.val = (y 1).val) (hl : l.val = t.val % 33 * 256 + (y 2).val) (hd : d.val = (y 3).val) :
    (out0_12 (F := Ideal) (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) : S1x6x256x128.Idx → EReal) y = D.vOut b h l d := by
  refine (out_v _ _ _ _ _ _ _ _ _ _ y).trans ?_
  obtain rfl : d = y 3 := Fin.ext hd
  obtain rfl : h = y 1 := Fin.ext hh
  unfold vEl Data.vOut
  by_cases h1 : (y 3).val < 64
  · rw [dif_pos h1, dif_pos h1]
    exact row_kv D t (y 2) b l hb hl _
  · rw [dif_neg h1, dif_neg h1]

/-- The query array. -/
theorem array_q : (dat0 V c).arrAt 10 cfg0.N = fun j : S2x6x8448x128.Idx => (D.q (j 0) (j 1) (j 2) (j 3) : EReal) := by
  refine (dat0 V c).arrAt_eq_of_covers 10 _ (by decide +kernel) fun t hf y => ?_
  blk_simp
  rw [after0_10]
  have y0 : (y 0).val < 1 := (y 0).isLt
  refine row_q D t _ _ _ _ _ ?_ ?_ ?_ ?_
  all_goals blk_simp [idx t]

/-- The key array. -/
theorem array_k : (dat0 V c).arrAt 11 cfg0.N = fun j : S2x6x8448x128.Idx => (D.k (j 0) (j 1) (j 2) (j 3) : EReal) := by
  refine (dat0 V c).arrAt_eq_of_covers 11 _ (by decide +kernel) fun t hf y => ?_
  blk_simp
  rw [after0_11]
  have y0 : (y 0).val < 1 := (y 0).isLt
  refine row_k D t _ _ _ _ _ ?_ ?_ ?_ ?_
  all_goals blk_simp [idx t]

/-- The value array: the values, then lanes of ones. -/
theorem array_v : (dat0 V c).arrAt 12 cfg0.N = fun j : S2x6x8448x128.Idx => D.vOut (j 0) (j 1) (j 2) (j 3) := by
  refine (dat0 V c).arrAt_eq_of_covers 12 _ (by decide +kernel) fun t hf y => ?_
  blk_simp
  rw [after0_12]
  have y0 : (y 0).val < 1 := (y 0).isLt
  refine row_v D t _ _ _ _ _ ?_ ?_ ?_ ?_
  all_goals blk_simp [idx t]

end Cert.KernelIdeal.Mla
-- ==== Proof.FlashRow.lean ====
/- The flash-attention call's arithmetic, one query row at a time: every payload of its body is one of three tensors (the scores of a
   chunk of keys, the running maximum, the running weighted sum), read at an index as `stepM` / `stepA` of the row. -/
module

public import proofs.«01_k».proof.Proof.Gen.KernelIdeal.Frame
public import proofs.«01_k».proof.Proof.Softmax
public import Idealize.ShloMosaic.Lib.Pipeline.ValueKit

@[expose] public section

set_option maxRecDepth 16384

noncomputable section

namespace Cert.KernelIdeal.Flash

open Cert.KernelIdeal Cert.KernelIdeal.Gen Idealize.ShloMosaic.ValueIdx Cert.Attn
open Idealize.ShloMosaic hiding ix0 ix1 ix2 ix3 ix4 ix5 addf_apply mulf_apply subf_apply divf_apply maximumf_apply truncf_apply constant_apply

/-- A product with one contracted axis into a zero accumulator, its element as a sum over that axis's coordinate. -/
theorem matmul_sum {sl sr so : Shape} {φ₁ φ₂ : FTy} (d : DotDims sl sr so) (n : Nat) (hr : d.contr.rank = 1)
    (hs : d.contr.size ⟨0, by omega⟩ = n) (lhs : FVec Ideal sl φ₁) (rhs : FVec Ideal sr φ₂) (j : so.Idx)
    (L : Fin n → sl.Idx) (R : Fin n → sr.Idx) (hL : ∀ k, d.lhsIdx j ((contrEquiv1 d n hr hs).symm k) = L k)
    (hR : ∀ k, d.rhsIdx j ((contrEquiv1 d n hr hs).symm k) = R k) :
    matmul d none lhs rhs (constant so .f32 0x00000000#32) j = ∑ k : Fin n, lhs (L k) * rhs (R k) := by
  show FloatOps.matmul d none lhs rhs (constant so .f32 0x00000000#32) j = _
  rw [Ideal.matmul_constant_zero_apply, ← Equiv.sum_comp (contrEquiv1 d n hr hs).symm]
  exact Finset.sum_congr rfl fun k _ => by rw [hL, hR]

abbrev dQK := dot_S256x128_S2816x128_S256x2816_1_1_0_0_n_n
abbrev dPV := dot_S256x2816_S2816x128_S256x128_1_0_0_1_n_n

theorem qk_lhs (i : Fin 256) (k : Fin 2816) (q : dQK.contr.Idx) (d : Fin 128) (hq : (q ⟨0, by decide⟩).val = d.val) :
    dQK.lhsIdx (ix2 i k) q = ix2 i d := funext fun a => Fin.ext (by
  match a with
  | ⟨0, _⟩ =>
    show (dQK.lhsIdx (ix2 i k) q 0).val = i.val
    unfold DotDims.lhsIdx
    rw [dif_neg (show ¬(0 : Fin S256x128.rank) ∈ dQK.lhsBatch by decide), dif_pos (show (0 : Fin S256x128.rank) ∈ dQK.lhsNonContracting by decide)]
    rfl
  | ⟨1, _⟩ => exact (dQK.lhsIdx_val_of_single rfl _ q).trans hq)

theorem qk_rhs (i : Fin 256) (k : Fin 2816) (q : dQK.contr.Idx) (d : Fin 128) (hq : (q ⟨0, by decide⟩).val = d.val) :
    dQK.rhsIdx (ix2 i k) q = ix2 k d := funext fun a => Fin.ext (by
  match a with
  | ⟨0, _⟩ =>
    show (dQK.rhsIdx (ix2 i k) q 0).val = k.val
    unfold DotDims.rhsIdx
    rw [dif_neg (show ¬(0 : Fin S2816x128.rank) ∈ dQK.rhsBatch by decide), dif_pos (show (0 : Fin S2816x128.rank) ∈ dQK.rhsNonContracting by decide)]
    rfl
  | ⟨1, _⟩ => exact (dQK.rhsIdx_val_of_single rfl _ q).trans hq)

theorem pv_lhs (i : Fin 256) (e : Fin 128) (q : dPV.contr.Idx) (k : Fin 2816) (hq : (q ⟨0, by decide⟩).val = k.val) :
    dPV.lhsIdx (ix2 i e) q = ix2 i k := funext fun a => Fin.ext (by
  match a with
  | ⟨0, _⟩ =>
    show (dPV.lhsIdx (ix2 i e) q 0).val = i.val
    unfold DotDims.lhsIdx
    rw [dif_neg (show ¬(0 : Fin S256x2816.rank) ∈ dPV.lhsBatch by decide), dif_pos (show (0 : Fin S256x2816.rank) ∈ dPV.lhsNonContracting by decide)]
    rfl
  | ⟨1, _⟩ => exact (dPV.lhsIdx_val_of_single rfl _ q).trans hq)

theorem pv_rhs (i : Fin 256) (e : Fin 128) (q : dPV.contr.Idx) (k : Fin 2816) (hq : (q ⟨0, by decide⟩).val = k.val) :
    dPV.rhsIdx (ix2 i e) q = ix2 k e := funext fun a => Fin.ext (by
  match a with
  | ⟨1, _⟩ =>
    show (dPV.rhsIdx (ix2 i e) q 1).val = e.val
    unfold DotDims.rhsIdx
    rw [dif_neg (show ¬(1 : Fin S2816x128.rank) ∈ dPV.rhsBatch by decide), dif_pos (show (1 : Fin S2816x128.rank) ∈ dPV.rhsNonContracting by decide)]
    rfl
  | ⟨0, _⟩ => exact (dPV.rhsIdx_val_of_single rfl _ q).trans hq)

/-- The scores of a chunk of keys. -/
def scores (q : FVec Ideal S256x128 .bf16) (k : FVec Ideal S1x1x2816x128 .bf16) : FVec Ideal S256x2816 .f32 :=
  matmul dQK none q (shapeCast S2816x128 k shapeCasts_S1x1x2816x128_S2816x128) (constant S256x2816 .f32 0x00000000#32)

/-- The running maximum after a chunk. -/
def newMax (q : FVec Ideal S256x128 .bf16) (k : FVec Ideal S1x1x2816x128 .bf16) (m : FVec Ideal S256x1 .f32) : FVec Ideal S256x1 .f32 :=
  maximumf m (shapeCast S256x1 (multiReduction .maximumf [1] S256 (scores q k) 0xFF800000#32 reduces_S256x2816_S256 (.inl rfl) rfl)
    shapeCasts_S256_S256x1)

/-- The running weighted sum after a chunk. -/
def newAcc (q : FVec Ideal S256x128 .bf16) (k v : FVec Ideal S1x1x2816x128 .bf16) (m : FVec Ideal S256x1 .f32)
    (acc : FVec Ideal S256x128 .f32) : FVec Ideal S256x128 .f32 :=
  addf (mulf (broadcastTo S256x128 (exp (subf m (newMax q k m))) broadcasts_S256x1_S256x128) acc)
    (matmul dPV none (truncf .bf16 (exp (subf (scores q k) (broadcastTo S256x2816 (newMax q k m) broadcasts_S256x1_S256x2816))) bitsLt_bf16_f32)
      (shapeCast S2816x128 v shapeCasts_S1x1x2816x128_S2816x128) (constant S256x128 .f32 0x00000000#32))

theorem cast_chunk (k : FVec Ideal S1x1x2816x128 .bf16) (a : Fin 2816) (d : Fin 128) :
    (shapeCast S2816x128 k shapeCasts_S1x1x2816x128_S2816x128 : S2816x128.Idx → EReal) (ix2 a d) = k (ix4 0 0 a d) :=
  shapeCast_apply _ _ _ _ (by
    rw [Shape.rowMajor_val_four, Shape.rowMajor_val_two]; simp)

/-- A chunk's score at a query row and a key: the product over the 128 lanes. -/
theorem scores_apply (q : FVec Ideal S256x128 .bf16) (k : FVec Ideal S1x1x2816x128 .bf16) (i : Fin 256) (j : Fin 2816) :
    scores q k (ix2 i j) = ∑ d : Fin 128, q (ix2 i d) * k (ix4 0 0 j d) := by
  unfold scores
  rw [matmul_sum dQK 128 rfl rfl _ _ _ (fun d => ix2 i d) (fun d => ix2 j d)
    (fun d => qk_lhs i j _ d (contrEquiv1_symm_val dQK 128 rfl rfl d)) (fun d => qk_rhs i j _ d (contrEquiv1_symm_val dQK 128 rfl rfl d))]
  exact Finset.sum_congr rfl fun d _ => by rw [cast_chunk]

/-- The running maximum at a row is `stepM` of that row's scores. -/
theorem newMax_apply (q : FVec Ideal S256x128 .bf16) (k : FVec Ideal S1x1x2816x128 .bf16) (m : FVec Ideal S256x1 .f32) (i : Fin 256) :
    newMax q k m (ix2 i 0) = stepM (m (ix2 i 0)) (fun j : Fin 2816 => scores q k (ix2 i j)) := by
  unfold newMax stepM
  rw [maximumf_apply]
  refine congrArg (max (m (ix2 i 0))) ?_
  rw [shapeCast_apply _ _ _ (ix1 i) (by rw [Shape.rowMajor_val_one, Shape.rowMajor_val_two]; simp)]
  refine (Ideal.multiReduction_maximumf_single _ _ _ _ _ _).trans ?_
  rw [show (FloatOps.ofBits .f32 0xFF800000#32 : Ideal .f32) = ⊥ from ofBits_neg_inf]
  refine congrArg (fun f => (Finset.univ : Finset (Fin 2816)).fold max (⊥ : EReal) f) (funext fun j => ?_)
  exact congrArg (scores q k) (funext fun a => by
    match a with
    | ⟨0, _⟩ => rfl
    | ⟨1, _⟩ => rfl)

/-- The running weighted sum at a row and a lane is `stepA` of that row's scores and that lane's values. -/
theorem newAcc_apply (q : FVec Ideal S256x128 .bf16) (k v : FVec Ideal S1x1x2816x128 .bf16) (m : FVec Ideal S256x1 .f32)
    (acc : FVec Ideal S256x128 .f32) (i : Fin 256) (e : Fin 128) :
    newAcc q k v m acc (ix2 i e)
      = stepA (m (ix2 i 0)) (fun j : Fin 2816 => scores q k (ix2 i j)) (acc (ix2 i e)) (fun j : Fin 2816 => v (ix4 0 0 j e)) := by
  have b1 : ∀ (x : FVec Ideal S256x1 .f32), broadcastTo S256x128 x broadcasts_S256x1_S256x128 (ix2 i e) = x (ix2 i 0) := fun x =>
    broadcastTo_apply _ _ _ _ (fun a => by fin_cases a <;> rfl)
  have b2 : ∀ (x : FVec Ideal S256x1 .f32) (j : Fin 2816), broadcastTo S256x2816 x broadcasts_S256x1_S256x2816 (ix2 i j) = x (ix2 i 0) := fun x j =>
    broadcastTo_apply _ _ _ _ (fun a => by fin_cases a <;> rfl)
  unfold newAcc stepA
  rw [addf_apply, mulf_apply, b1]
  rw [matmul_sum dPV 2816 rfl rfl _ _ _ (fun j => ix2 i j) (fun j => ix2 j e)
    (fun j => pv_lhs i e _ j (contrEquiv1_symm_val dPV 2816 rfl rfl j)) (fun j => pv_rhs i e _ j (contrEquiv1_symm_val dPV 2816 rfl rfl j))]
  refine congrArg₂ (· + ·) ?_ ?_
  · show Ideal.exp (m (ix2 i 0) - newMax q k m (ix2 i 0)) * _ = _
    rw [newMax_apply]
  · refine Finset.sum_congr rfl fun j _ => ?_
    rw [cast_chunk, truncf_apply]
    show Ideal.exp (scores q k (ix2 i j) - broadcastTo S256x2816 (newMax q k m) broadcasts_S256x1_S256x2816 (ix2 i j)) * _ = _
    rw [b2, newMax_apply]

/-- The maximum a row starts from. -/
def startMax : FVec Ideal S256x1 .f32 := k1_pay4

/-- One head's weighted sums after its three chunks of keys. -/
def head (q : FVec Ideal S256x128 .bf16) (k v : Fin 3 → FVec Ideal S1x1x2816x128 .bf16) : FVec Ideal S256x128 .f32 :=
  newAcc q (k 2) (v 2) (newMax q (k 1) (newMax q (k 0) startMax))
    (newAcc q (k 1) (v 1) (newMax q (k 0) startMax) (newAcc q (k 0) (v 0) startMax k1_pay6))

/-- Over real scores and values, with ones in the upper 64 lanes of the values, the quotient of a head's lower and upper lanes is the
    attention of the row over all the keys. -/
theorem head_apply (q : FVec Ideal S256x128 .bf16) (k v : Fin 3 → FVec Ideal S1x1x2816x128 .bf16) (i : Fin 256) (e e' : Fin 128)
    (s w : Fin 3 → Fin 2816 → ℝ) (hs : ∀ c j, scores q (k c) (ix2 i j) = (s c j : EReal))
    (hw : ∀ c j, v c (ix4 0 0 j e) = (w c j : EReal)) (h1 : ∀ c j, v c (ix4 0 0 j e') = (1 : EReal)) :
    Ideal.div (head q k v (ix2 i e)) (head q k v (ix2 i e'))
      = ((attn (fun p : Fin 3 × Fin 2816 => s p.1 p.2) (fun p => w p.1 p.2) : ℝ) : EReal) := by
  obtain ⟨r, hr⟩ := ofBits_start_real
  have h0 : startMax (ix2 i 0) = (r : EReal) := hr
  have hz : ∀ a : Fin 128, (k1_pay6 : FVec Ideal S256x128 .f32) (ix2 i a) = (0 : EReal) := fun a => Ideal.ofBits_zero_f32
  have key := three_steps (n := 2816) (by decide) r s w
  unfold head
  simp only [newAcc_apply, newMax_apply, hs, hw, h1, h0, hz]
  exact key

/-- The two heads' quotients side by side, as the body stores them. -/
def joined (a b : FVec Ideal S256x128 .f32) : FVec Ideal S1x256x128 .f32 :=
  shapeCast S1x256x128 (concatenate S256x128 1
    [⟨S256x64, divf (extractStridedSlice S256x64 ![0, 0] a slices_S256x128_o0_0_S256x64)
        (extractStridedSlice S256x64 ![0, 64] a slices_S256x128_o0_64_S256x64)⟩,
      ⟨S256x64, divf (extractStridedSlice S256x64 ![0, 0] b slices_S256x128_o0_0_S256x64)
        (extractStridedSlice S256x64 ![0, 64] b slices_S256x128_o0_64_S256x64)⟩]
    concatenates_S256x64_S256x64_S256x128_d1) shapeCasts_S256x128_S1x256x128

theorem quot_apply (a : FVec Ideal S256x128 .f32) (i : Fin 256) (e : Fin 64) :
    divf (extractStridedSlice S256x64 ![0, 0] a slices_S256x128_o0_0_S256x64)
        (extractStridedSlice S256x64 ![0, 64] a slices_S256x128_o0_64_S256x64) (ix2 i e)
      = Ideal.div (a (ix2 i ⟨e.val, by omega⟩)) (a (ix2 i ⟨64 + e.val, by omega⟩)) := by
  rw [divf_apply]
  rw [extractStridedSlice_apply _ _ _ _ (ix2 i ⟨e.val, by omega⟩) (fun d => by fin_cases d <;> simp)]
  rw [extractStridedSlice_apply _ _ _ _ (ix2 i ⟨64 + e.val, by omega⟩) (fun d => by fin_cases d <;> simp)]

theorem joined_lo (a b : FVec Ideal S256x128 .f32) (i : Fin 256) (e : Fin 64) :
    joined a b (ix3 0 i ⟨e.val, by omega⟩) = Ideal.div (a (ix2 i ⟨e.val, by omega⟩)) (a (ix2 i ⟨64 + e.val, by omega⟩)) := by
  unfold joined
  rw [shapeCast_apply _ _ _ (ix2 i (⟨e.val, by omega⟩ : Fin 128)) (by rw [Shape.rowMajor_val_two, Shape.rowMajor_val_three]; simp)]
  rw [← quot_apply]
  exact concatenate_pair_apply_left (t := S256x128) (s₁ := S256x64) (s₂ := S256x64) 1 _ _ _ (ix2 i (⟨e.val, by omega⟩ : Fin 128)) rfl (ix2 i e) (fun d => by fin_cases d <;> rfl)

theorem joined_hi (a b : FVec Ideal S256x128 .f32) (i : Fin 256) (e : Fin 64) :
    joined a b (ix3 0 i ⟨64 + e.val, by omega⟩) = Ideal.div (b (ix2 i ⟨e.val, by omega⟩)) (b (ix2 i ⟨64 + e.val, by omega⟩)) := by
  unfold joined
  rw [shapeCast_apply _ _ _ (ix2 i (⟨64 + e.val, by omega⟩ : Fin 128)) (by rw [Shape.rowMajor_val_two, Shape.rowMajor_val_three]; simp)]
  rw [← quot_apply]
  exact concatenate_pair_apply_right (t := S256x128) (s₁ := S256x64) (s₂ := S256x64) 1 _ _ _ (ix2 i (⟨64 + e.val, by omega⟩ : Fin 128)) rfl rfl (ix2 i e)
    (fun d hd => by fin_cases d <;> first | rfl | exact absurd rfl hd) (Nat.add_comm e.val 64)

/-- What the body stores, with the loads named, is the two heads' quotients. -/
theorem pay_joined (q0 q1 : Vec Ideal S1x1x256x128 .bf16) (k0 v0 k1 v1 : Fin 3 → FVec Ideal S1x1x2816x128 .bf16) :
    k1_pay1 (k1_pay3 q1) (k1_pay17 (k1_pay3 q1) (k1_pay11 (k1_pay3 q1) k1_pay5 (k1 0)) (k1 1))
        (k1_pay18 (k1_pay3 q1) (k1_pay11 (k1_pay3 q1) k1_pay5 (k1 0)) (k1_pay12 (k1_pay3 q1) k1_pay5 k1_pay6 (k1 0) (v1 0)) (k1 1) (v1 1))
        (k1_pay19 (k1_pay2 q0) (k1_pay14 (k1_pay2 q0) (k1_pay8 q0 (k0 0)) (k0 1))
          (k1_pay15 (k1_pay2 q0) (k1_pay8 q0 (k0 0)) (k1_pay9 q0 (k0 0) (v0 0)) (k0 1) (v0 1)) (k0 2) (v0 2))
        (k1 2) (v1 2)
      = joined (head (k1_pay2 q0) k0 v0) (head (k1_pay3 q1) k1 v1) := rfl

end Cert.KernelIdeal.Flash
-- ==== Proof.Flash.lean ====
/- The flash-attention call (region 1): over real queries, keys and values, its result array is the attention of every query row. -/
module

public import proofs.«01_k».proof.Proof.FlashRow

@[expose] public section

set_option maxRecDepth 16384

noncomputable section

namespace Cert.KernelIdeal.Flash

open Cert.KernelIdeal Cert.KernelIdeal.Gen Idealize.ShloMosaic.ValueIdx Cert.Attn
open Idealize.ShloMosaic.TcCoe Idealize.SL.Sem
open Idealize.ShloMosaic hiding ix0 ix1 ix2 ix3 ix4 ix5 addf_apply mulf_apply subf_apply divf_apply maximumf_apply truncf_apply constant_apply
open Idealize.ShloMosaic.Pipeline (Dat)

variable (V : (c : Dev nD) → (b : Ref sig .tc) → Buf (Elt Ideal) ((c : Thread nD τ).loc b))

/-- Where each window's block sits: query rows start one block on (the context rows come first), keys and values are a batch's whole
    pair of heads. -/
theorem idx : ∀ t : Fin cfg1.N, win1_0.index t = ![t.val / 96, t.val / 32 % 3, t.val % 32 + 1, 0]
    ∧ win1_1.index t = ![t.val / 96, t.val / 32 % 3, 0, 0] ∧ win1_2.index t = ![t.val / 96, t.val / 32 % 3, 0, 0]
    ∧ win1_3.index t = ![t.val / 96, t.val % 32, t.val / 32 % 3] :=
  (by decide +kernel : ∀ t : Fin grid1.N, _)

/-- Head `h`'s query tile of a block of two heads. -/
def qtile (X : FVec Ideal S1x2x256x128 .bf16) (h : Fin 2) : FVec Ideal S1x1x256x128 .bf16 := fun y => X (ix4 0 h (y 2) (y 3))

/-- Head `h`'s chunk `r` of keys (or values) of a block of two heads. -/
def chunk (X : FVec Ideal S1x2x8448x128 .bf16) (h : Fin 2) (r : Fin 3) : FVec Ideal S1x1x2816x128 .bf16 := fun y =>
  X (ix4 0 h ⟨r.val * 2816 + (y 2).val, by have h2 : (y 2).val < 2816 := (y 2).isLt; omega⟩ (y 3))

theorem ld_qtile (X : FVec Ideal S1x2x256x128 .bf16) (h : Fin 2) (off : Fin 4 → Nat) (hoff : off = ![0, h.val, 0, 0])
    (inb : ∀ a, off a + S1x1x256x128.size a ≤ S1x2x256x128.size a) :
    View.ld (Val := Elt Ideal) (e' := .bf16) X (Rect.unit (s := S1x2x256x128) off ![1, 1, 256, 128] inb) = qtile X h := by
  subst hoff
  funext y
  have h0 : (y 0).val < 1 := (y 0).isLt
  have h1 : (y 1).val < 1 := (y 1).isLt
  refine View.ld_unit_apply_of _ _ _ _ _ _ fun a => ?_
  match a with
  | ⟨0, _⟩ => show 0 = 0 + (y 0).val; omega
  | ⟨1, _⟩ => show h.val = h.val + (y 1).val; omega
  | ⟨2, _⟩ => exact (Nat.zero_add _).symm
  | ⟨3, _⟩ => exact (Nat.zero_add _).symm

theorem ld_chunk (X : FVec Ideal S1x2x8448x128 .bf16) (h : Fin 2) (r : Fin 3) (off : Fin 4 → Nat)
    (hoff : off = ![0, h.val, r.val * 2816, 0]) (inb : ∀ a, off a + S1x1x2816x128.size a ≤ S1x2x8448x128.size a) :
    View.ld (Val := Elt Ideal) (e' := .bf16) X (Rect.unit (s := S1x2x8448x128) off ![1, 1, 2816, 128] inb) = chunk X h r := by
  subst hoff
  funext y
  have h0 : (y 0).val < 1 := (y 0).isLt
  have h1 : (y 1).val < 1 := (y 1).isLt
  refine View.ld_unit_apply_of _ _ _ _ _ _ fun a => ?_
  match a with
  | ⟨0, _⟩ => show 0 = 0 + (y 0).val; omega
  | ⟨1, _⟩ => show h.val = h.val + (y 1).val; omega
  | ⟨2, _⟩ => rfl
  | ⟨3, _⟩ => exact (Nat.zero_add _).symm

/-- What the body stores, each load given by an equal tensor. -/
theorem pay_joined_of {q0 q1 q0' q1' : FVec Ideal S1x1x256x128 .bf16} {k0 v0 k1 v1 : Fin 3 → FVec Ideal S1x1x2816x128 .bf16}
    {a0 a1 a2 b0 b1 b2 c0 c1 c2 d0 d1 d2 : FVec Ideal S1x1x2816x128 .bf16} (hq0 : q0' = q0) (hq1 : q1' = q1)
    (ha0 : a0 = k0 0) (ha1 : a1 = k0 1) (ha2 : a2 = k0 2) (hb0 : b0 = k1 0) (hb1 : b1 = k1 1) (hb2 : b2 = k1 2)
    (hc0 : c0 = v0 0) (hc1 : c1 = v0 1) (hc2 : c2 = v0 2) (hd0 : d0 = v1 0) (hd1 : d1 = v1 1) (hd2 : d2 = v1 2) :
    k1_pay1 (k1_pay3 q1') (k1_pay17 (k1_pay3 q1') (k1_pay11 (k1_pay3 q1') k1_pay5 b0) b1)
        (k1_pay18 (k1_pay3 q1') (k1_pay11 (k1_pay3 q1') k1_pay5 b0) (k1_pay12 (k1_pay3 q1') k1_pay5 k1_pay6 b0 d0) b1 d1)
        (k1_pay19 (k1_pay2 q0') (k1_pay14 (k1_pay2 q0') (k1_pay8 q0' a0) a1)
          (k1_pay15 (k1_pay2 q0') (k1_pay8 q0' a0) (k1_pay9 q0' a0 c0) a1 c1) a2 c2)
        b2 d2
      = joined (head (k1_pay2 q0) k0 v0) (head (k1_pay3 q1) k1 v1) := by
  subst hq0 hq1 ha0 ha1 ha2 hb0 hb1 hb2 hc0 hc1 hc2 hd0 hd1 hd2
  exact pay_joined _ _ _ _ _ _

/-- What the body leaves in the result's block: the two heads' quotients over the block's tiles. -/
theorem after_joined (c : Dev nD) (t : Fin cfg1.N) :
    (dat1 V c).after 3 t = joined (head (k1_pay2 (qtile (iblk1 V c 0 t) 0)) (chunk (iblk1 V c 1 t) 0) (chunk (iblk1 V c 2 t) 0))
      (head (k1_pay3 (qtile (iblk1 V c 0 t) 1)) (chunk (iblk1 V c 1 t) 1) (chunk (iblk1 V c 2 t) 1)) := by
  rw [after1_3]; unfold outsAt1; frame_out
  exact pay_joined_of (ld_qtile _ 0 _ rfl _) (ld_qtile _ 1 _ rfl _)
    (ld_chunk _ 0 0 _ rfl _) (ld_chunk _ 0 1 _ rfl _) (ld_chunk _ 0 2 _ rfl _) (ld_chunk _ 1 0 _ rfl _) (ld_chunk _ 1 1 _ rfl _) (ld_chunk _ 1 2 _ rfl _)
    (ld_chunk _ 0 0 _ rfl _) (ld_chunk _ 0 1 _ rfl _) (ld_chunk _ 0 2 _ rfl _) (ld_chunk _ 1 0 _ rfl _) (ld_chunk _ 1 1 _ rfl _) (ld_chunk _ 1 2 _ rfl _)

/-- The key at chunk `p.1`, place `p.2`. -/
def keyAt (p : Fin 3 × Fin 2816) : Fin 8448 := ⟨p.1.val * 2816 + p.2.val, by omega⟩

/-- The attention of latent query row `i` of head `h` of batch `b`, lane `e` of the values. -/
def attnOf (Q : Fin 2 → Fin 6 → Fin 8192 → Fin 128 → ℝ) (K : Fin 2 → Fin 6 → Fin 8448 → Fin 128 → ℝ)
    (W : Fin 2 → Fin 6 → Fin 8448 → Fin 64 → ℝ) (b : Fin 2) (h : Fin 6) (i : Fin 8192) (e : Fin 64) : ℝ :=
  attn (fun k : Fin 8448 => ∑ d : Fin 128, Q b h i d * K b h k d) (fun k => W b h k e)

theorem attn_chunks (s v : Fin 8448 → ℝ) :
    attn (fun p : Fin 3 × Fin 2816 => s (keyAt p)) (fun p => v (keyAt p)) = attn s v := by
  have e : ∀ f : Fin 8448 → ℝ, ∑ p : Fin 3 × Fin 2816, f (keyAt p) = ∑ k, f k := fun f => by
    rw [← Equiv.sum_comp (finProdFinEquiv (m := 3) (n := 2816)) f]
    refine Finset.sum_congr rfl fun p _ => congrArg f (Fin.ext ?_)
    show p.1.val * 2816 + p.2.val = p.2.val + 2816 * p.1.val
    omega
  unfold attn
  rw [e fun k => Real.exp (s k) * v k, e fun k => Real.exp (s k)]

theorem readQ (c : Dev nD) (t : Fin cfg1.N) (x : S1x2x256x128.Idx) (j : S2x6x8448x128.Idx) (h0 : (j 0).val = t.val / 96 + (x 0).val)
    (h1 : (j 1).val = t.val / 32 % 3 * 2 + (x 1).val) (h2 : (j 2).val = (t.val % 32 + 1) * 256 + (x 2).val) (h3 : (j 3).val = (x 3).val) :
    (iblk1 V c 0 t : S1x2x256x128.Idx → EReal) x = V c main_v71_0 j := by
  blk_ext! [iblk1, idx t]

theorem readK (c : Dev nD) (t : Fin cfg1.N) (x : S1x2x8448x128.Idx) (j : S2x6x8448x128.Idx) (h0 : (j 0).val = t.val / 96 + (x 0).val)
    (h1 : (j 1).val = t.val / 32 % 3 * 2 + (x 1).val) (h2 : (j 2).val = (x 2).val) (h3 : (j 3).val = (x 3).val) :
    (iblk1 V c 1 t : S1x2x8448x128.Idx → EReal) x = V c main_v71_1 j := by
  blk_ext! [iblk1, idx t]

theorem readV (c : Dev nD) (t : Fin cfg1.N) (x : S1x2x8448x128.Idx) (j : S2x6x8448x128.Idx) (h0 : (j 0).val = t.val / 96 + (x 0).val)
    (h1 : (j 1).val = t.val / 32 % 3 * 2 + (x 1).val) (h2 : (j 2).val = (x 2).val) (h3 : (j 3).val = (x 3).val) :
    (iblk1 V c 2 t : S1x2x8448x128.Idx → EReal) x = V c main_v71_2 j := by
  blk_ext! [iblk1, idx t]

/-- One head of one block: the quotient of its lower and upper lanes is the attention of the row. -/
theorem head_block (c : Dev nD) (t : Fin cfg1.N) (Q : Fin 2 → Fin 6 → Fin 8192 → Fin 128 → ℝ) (K : Fin 2 → Fin 6 → Fin 8448 → Fin 128 → ℝ)
    (W : Fin 2 → Fin 6 → Fin 8448 → Fin 64 → ℝ)
    (hQ : ∀ b h (i : Fin 8192) d, (V c main_v71_0 : S2x6x8448x128.Idx → EReal) (ix4 b h ⟨256 + i.val, by omega⟩ d) = (Q b h i d : EReal))
    (hK : ∀ b h k d, (V c main_v71_1 : S2x6x8448x128.Idx → EReal) (ix4 b h k d) = (K b h k d : EReal))
    (hW : ∀ b h k (e : Fin 64), (V c main_v71_2 : S2x6x8448x128.Idx → EReal) (ix4 b h k ⟨e.val, by omega⟩) = (W b h k e : EReal))
    (h1 : ∀ b h k (e : Fin 64), (V c main_v71_2 : S2x6x8448x128.Idx → EReal) (ix4 b h k ⟨64 + e.val, by omega⟩) = (1 : EReal))
    (q : FVec Ideal S256x128 .bf16) (h : Fin 2) (hq : ∀ i d, q (ix2 i d) = qtile (iblk1 V c 0 t) h (ix4 0 0 i d))
    (i : Fin 256) (e : Fin 64) (b : Fin 2) (g : Fin 6) (r : Fin 8192) (hb : b.val = t.val / 96) (hg : g.val = t.val / 32 % 3 * 2 + h.val)
    (hr : r.val = t.val % 32 * 256 + i.val) :
    Ideal.div (head q (chunk (iblk1 V c 1 t) h) (chunk (iblk1 V c 2 t) h) (ix2 i ⟨e.val, by omega⟩))
        (head q (chunk (iblk1 V c 1 t) h) (chunk (iblk1 V c 2 t) h) (ix2 i ⟨64 + e.val, by omega⟩))
      = ((attnOf Q K W b g r e : ℝ) : EReal) := by
  have rq : ∀ d, q (ix2 i d) = (Q b g r d : EReal) := fun d =>
    (hq i d).trans ((readQ V c t _ (ix4 b g ⟨256 + r.val, by omega⟩ d) (by exact hb) (by exact hg)
      (by show 256 + r.val = (t.val % 32 + 1) * 256 + i.val; omega) rfl).trans (hQ b g r d))
  have rk : ∀ cc j d, chunk (iblk1 V c 1 t) h cc (ix4 0 0 j d) = (K b g (keyAt (cc, j)) d : EReal) := fun cc j d =>
    (readK V c t _ (ix4 b g (keyAt (cc, j)) d) (by exact hb) (by exact hg) rfl rfl).trans (hK b g (keyAt (cc, j)) d)
  have rv : ∀ cc j, chunk (iblk1 V c 2 t) h cc (ix4 0 0 j ⟨e.val, by omega⟩) = (W b g (keyAt (cc, j)) e : EReal) := fun cc j =>
    (readV V c t _ (ix4 b g (keyAt (cc, j)) ⟨e.val, by omega⟩) (by exact hb) (by exact hg) rfl rfl).trans (hW b g (keyAt (cc, j)) e)
  have ro : ∀ cc j, chunk (iblk1 V c 2 t) h cc (ix4 0 0 j ⟨64 + e.val, by omega⟩) = (1 : EReal) := fun cc j =>
    (readV V c t _ (ix4 b g (keyAt (cc, j)) ⟨64 + e.val, by omega⟩) (by exact hb) (by exact hg) rfl rfl).trans (h1 b g (keyAt (cc, j)) e)
  rw [head_apply q _ _ i _ _ (fun cc j => ∑ d : Fin 128, Q b g r d * K b g (keyAt (cc, j)) d) (fun cc j => W b g (keyAt (cc, j)) e)
    (fun cc j => by rw [scores_apply]; simp only [rq, rk]; exact sum_coe_mul _ _ _) rv ro]
  exact congrArg _ (attn_chunks (fun k => ∑ d : Fin 128, Q b g r d * K b g k d) (fun k => W b g k e))

/-- What the body leaves at a place of the block is the attention at the place's coordinates in the array. -/
theorem point (c : Dev nD) (t : Fin cfg1.N) (Q : Fin 2 → Fin 6 → Fin 8192 → Fin 128 → ℝ) (K : Fin 2 → Fin 6 → Fin 8448 → Fin 128 → ℝ)
    (W : Fin 2 → Fin 6 → Fin 8448 → Fin 64 → ℝ)
    (hQ : ∀ b h (i : Fin 8192) d, (V c main_v71_0 : S2x6x8448x128.Idx → EReal) (ix4 b h ⟨256 + i.val, by omega⟩ d) = (Q b h i d : EReal))
    (hK : ∀ b h k d, (V c main_v71_1 : S2x6x8448x128.Idx → EReal) (ix4 b h k d) = (K b h k d : EReal))
    (hW : ∀ b h k (e : Fin 64), (V c main_v71_2 : S2x6x8448x128.Idx → EReal) (ix4 b h k ⟨e.val, by omega⟩) = (W b h k e : EReal))
    (h1 : ∀ b h k (e : Fin 64), (V c main_v71_2 : S2x6x8448x128.Idx → EReal) (ix4 b h k ⟨64 + e.val, by omega⟩) = (1 : EReal))
    (y : S1x256x128.Idx) (b : Fin 2) (g : Fin 6) (r : Fin 8192) (e : Fin 64) (hb : b.val = t.val / 96)
    (hg : g.val = (t.val / 32 % 3 * 128 + (y 2).val) / 64) (hr : r.val = t.val % 32 * 256 + (y 1).val)
    (he : e.val = (t.val / 32 % 3 * 128 + (y 2).val) % 64) :
    joined (head (k1_pay2 (qtile (iblk1 V c 0 t) 0)) (chunk (iblk1 V c 1 t) 0) (chunk (iblk1 V c 2 t) 0))
        (head (k1_pay3 (qtile (iblk1 V c 0 t) 1)) (chunk (iblk1 V c 1 t) 1) (chunk (iblk1 V c 2 t) 1)) y
      = ((attnOf Q K W b g r e : ℝ) : EReal) := by
  have ht : t.val < 192 := t.isLt
  have y0 : (y 0).val < 1 := (y 0).isLt
  have y1 : (y 1).val < 256 := (y 1).isLt
  have y2 : (y 2).val < 128 := (y 2).isLt
  by_cases hlo : (y 2).val < 64
  · have hy : y = (ix3 0 ⟨(y 1).val, y1⟩ ⟨(y 2).val, y2⟩ : S1x256x128.Idx) := by
      funext a
      match a with
      | ⟨0, _⟩ => exact Fin.ext (by show (y 0).val = 0; omega)
      | ⟨1, _⟩ => rfl
      | ⟨2, _⟩ => rfl
    refine (congrArg _ hy).trans ((joined_lo _ _ ⟨(y 1).val, y1⟩ ⟨(y 2).val, hlo⟩).trans ?_)
    have he' : e = ⟨(y 2).val, hlo⟩ := Fin.ext (by show e.val = (y 2).val; omega)
    refine Eq.trans ?_ (congrArg (fun z => ((attnOf Q K W b g r z : ℝ) : EReal)) he'.symm)
    exact head_block V c t Q K W hQ hK hW h1 _ 0 (fun i d => shapeCast_apply _ _ _ _ (by
      rw [Shape.rowMajor_val_four, Shape.rowMajor_val_two]; simp)) _ _ b g r hb (by show g.val = t.val / 32 % 3 * 2 + 0; omega) hr
  · have hy : y = (ix3 0 ⟨(y 1).val, y1⟩ ⟨64 + ((y 2).val - 64), by omega⟩ : S1x256x128.Idx) := by
      funext a
      match a with
      | ⟨0, _⟩ => exact Fin.ext (by show (y 0).val = 0; omega)
      | ⟨1, _⟩ => rfl
      | ⟨2, _⟩ => exact Fin.ext (by show (y 2).val = 64 + ((y 2).val - 64); omega)
    refine (congrArg _ hy).trans ((joined_hi _ _ ⟨(y 1).val, y1⟩ ⟨(y 2).val - 64, by omega⟩).trans ?_)
    have he' : e = ⟨(y 2).val - 64, by omega⟩ := Fin.ext (by show e.val = (y 2).val - 64; omega)
    refine Eq.trans ?_ (congrArg (fun z => ((attnOf Q K W b g r z : ℝ) : EReal)) he'.symm)
    exact head_block V c t Q K W hQ hK hW h1 _ 1 (fun i d => shapeCast_apply _ _ _ _ (by
      rw [Shape.rowMajor_val_four, Shape.rowMajor_val_two]; simp)) _ _ b g r hb (by show g.val = t.val / 32 % 3 * 2 + 1; omega) hr

/-- The call's result array. -/
theorem array (c : Dev nD) (Q : Fin 2 → Fin 6 → Fin 8192 → Fin 128 → ℝ) (K : Fin 2 → Fin 6 → Fin 8448 → Fin 128 → ℝ)
    (W : Fin 2 → Fin 6 → Fin 8448 → Fin 64 → ℝ)
    (hQ : ∀ b h (i : Fin 8192) d, (V c main_v71_0 : S2x6x8448x128.Idx → EReal) (ix4 b h ⟨256 + i.val, by omega⟩ d) = (Q b h i d : EReal))
    (hK : ∀ b h k d, (V c main_v71_1 : S2x6x8448x128.Idx → EReal) (ix4 b h k d) = (K b h k d : EReal))
    (hW : ∀ b h k (e : Fin 64), (V c main_v71_2 : S2x6x8448x128.Idx → EReal) (ix4 b h k ⟨e.val, by omega⟩) = (W b h k e : EReal))
    (h1 : ∀ b h k (e : Fin 64), (V c main_v71_2 : S2x6x8448x128.Idx → EReal) (ix4 b h k ⟨64 + e.val, by omega⟩) = (1 : EReal)) :
    (dat1 V c).arrAt 3 cfg1.N = fun j : S2x8192x384.Idx =>
      ((attnOf Q K W (j 0) ⟨(j 2).val / 64, by have h2 : (j 2).val < 384 := (j 2).isLt; omega⟩ (j 1)
        ⟨(j 2).val % 64, Nat.mod_lt _ (by decide)⟩ : ℝ) : EReal) := by
  refine (dat1 V c).arrAt_eq_of_covers 3 _ (by decide +kernel) fun t hf y => ?_
  blk_simp
  rw [after_joined]
  have y0 : (y 0).val < 1 := (y 0).isLt
  refine point V c t Q K W hQ hK hW h1 _ _ _ _ _ ?_ ?_ ?_ ?_
  all_goals blk_simp [idx t]

end Cert.KernelIdeal.Flash
-- ==== Proof.KernelValue.lean ====
/- The kernel's result array over the reals: the host prefix, the projection and the attention joined. -/
module

public import proofs.«01_k».proof.Proof.Spec
public import proofs.«01_k».proof.Proof.Host
public import proofs.«01_k».proof.Proof.Mla
public import proofs.«01_k».proof.Proof.Flash

@[expose] public section

set_option maxRecDepth 16384

noncomputable section

namespace Cert.KernelIdeal.Whole

open Cert.KernelIdeal Cert.KernelIdeal.Gen Cert.Attn Idealize.ShloMosaic
open Idealize.ShloMosaic.TcCoe Idealize.SL.Sem

variable (m : (ℓ : Loc nD τ sig) → Buf (Elt Ideal) ℓ) (ρ : Dev nD → PrngReg) (c : Dev nD)

/-- Core `c`'s argument arrays hold the reals of `A`. -/
abbrev Holds (A : Args) : Prop :=
  A.Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable {m c} {A : Args} (H : Holds m c A)

/-- What the projection call reads, over the arguments. -/
def mlaData : Mla.Data (V1 m ρ) c where
  cq := A.cq
  ckv := A.ckv
  kr b l j := if h : j.val < 32 then A.kr b l ⟨j.val, h⟩ else A.kr b l (partner ⟨j.val - 32, by omega⟩)
  rc := Host.rc
  rs := Host.rs
  gq := A.gq
  wq k n := if h : n.val % 128 < 96 then A.wq k ⟨n.val / 128 * 96 + n.val % 128, by omega⟩ else 0
  wqs k n := if h : n.val % 128 < 64 then 0 else if h : n.val % 128 - 64 < 32 then
    A.wq k ⟨n.val / 128 * 96 + (64 + (partner ⟨n.val % 128 - 64, h⟩).val), by omega⟩ else 0
  gkv := A.gkv
  wkv := A.wkv
  hcq b l k := (congrFun (W1_args m ρ c main_arg0 (by decide)) _).trans (H.cq b l k)
  hckv b l k := (congrFun (W1_args m ρ c main_arg1 (by decide)) _).trans (H.ckv b l k)
  hkr b l j := by
    refine (Host.kr2_apply (W0 m ρ c) b l j).trans ?_
    split
    · exact H.kr b l _
    · exact H.kr b l _
  hrc := Host.rc_apply (W0 m ρ c)
  hrs := Host.rs_apply (W0 m ρ c)
  hgq k := (Host.gq_apply (W0 m ρ c) k).trans (H.gq k)
  hwq k n := by
    refine (Host.wq_apply (W0 m ρ c) k n).trans ?_
    split
    · exact H.wq k _
    · rfl
  hwqs k n := by
    refine (Host.wqs_apply (W0 m ρ c) k n).trans ?_
    split
    · rfl
    · split
      · exact H.wq k _
      · rfl
  hgkv k := (Host.gkv_apply (W0 m ρ c) k).trans (H.gkv k)
  hwkv k n := (Host.wkv_apply (W0 m ρ c) k n).trans (H.wkv k n)

theorem data_kv (b : Fin 2) (l : Fin 8448) (n : Fin 768) : (mlaData ρ H).kv b l n = kvBase A b l n := rfl

theorem data_v (b : Fin 2) (h : Fin 6) (l : Fin 8448) (e : Fin 64) : (mlaData ρ H).v b h l e = value A b h l e := by
  refine (data_kv ρ H b l _).trans ?_
  exact congrArg (kvBase A b l) (Fin.ext (Nat.add_assoc _ _ _))

/-- The stored queries: a latent row's query times the scale, then zeros. -/
theorem data_q (b : Fin 2) (h : Fin 6) (i : Fin 8192) (d : Fin 128) :
    (mlaData ρ H).q b h (latent i) d = if hd : d.val < 96 then query A b h i ⟨d.val, hd⟩ * scale else 0 := by
  have hd128 : d.val < 128 := d.isLt
  have hh : h.val < 6 := h.isLt
  have e1 : (h.val * 128 + d.val) % 128 = d.val := by omega
  have e2 : (h.val * 128 + d.val) / 128 = h.val := by omega
  have hl : ¬ (latent i).val < 256 := by simp [latent]
  have hi : (latent i).val - 256 = i.val := by simp [latent]
  unfold Mla.Data.q
  show ((∑ k, rms 384 (A.cq b (latent i)) A.gq k * (dite _ _ _ : ℝ)) * Host.rc (latent i) d
    + (∑ k, rms 384 (A.cq b (latent i)) A.gq k * (dite _ _ _ : ℝ)) * Host.rs (latent i) d) * scale = _
  unfold Host.rc Host.rs
  simp only [hl, if_false, hi, e1, e2]
  by_cases h1 : d.val < 64
  · have h2 : d.val < 96 := by omega
    simp only [h1, h2, if_true, dif_pos, mul_one, mul_zero, add_zero]
    unfold query
    rw [dif_pos h1]
    rfl
  · by_cases h2 : d.val < 96
    · have h3 : d.val - 64 < 32 := by omega
      simp only [h1, h2, h3, if_true, if_false, dif_pos, dif_neg, not_false_eq_true]
      unfold query rotate
      rw [dif_neg h1]
      unfold qBase
      have e3 : h.val * 96 + d.val = h.val * 96 + (64 + (d.val - 64)) := by omega
      simp only [e3]
    · simp only [h1, h2, if_false, dif_neg, not_false_eq_true, mul_zero, add_zero, zero_mul]

/-- The stored keys: a row's key, then zeros. -/
theorem data_k (b : Fin 2) (h : Fin 6) (l : Fin 8448) (d : Fin 128) :
    (mlaData ρ H).k b h l d = if hd : d.val < 96 then key A b h l ⟨d.val, hd⟩ else 0 := by
  unfold Mla.Data.k
  by_cases h1 : d.val < 64
  · have h2 : d.val < 96 := by omega
    rw [dif_pos h1, dif_pos h2, data_kv]
    unfold key
    rw [dif_pos h1]
  · rw [dif_neg h1]
    by_cases h2 : d.val < 96
    · rw [dif_pos h2, dif_pos h2]
      unfold key
      rw [dif_neg h1]
      have h3 : d.val - 64 < 32 := by omega
      have h4 : ¬ d.val - 32 < 32 := by omega
      have h5 : d.val - 32 - 32 = d.val - 64 := by omega
      show (dite _ _ _ : ℝ) * Host.rc l d + (dite _ _ _ : ℝ) * Host.rs l d = keyRot A b l ⟨d.val - 64, h3⟩
      unfold Host.rc Host.rs keyRot
      simp only [h1, h2, h3, h4, h5, if_true, if_false, dif_pos, dif_neg, not_false_eq_true]
      by_cases hl : l.val < 256
      · simp only [hl, if_true, mul_one, mul_zero, add_zero]
      · simp only [hl, if_false]
        rfl
    · rw [dif_neg h2, dif_neg h2]

/-- A sum over 128 lanes that vanishes past the first 96. -/
theorem sum_lanes (f : Fin 96 → ℝ) : (∑ d : Fin 128, if hd : d.val < 96 then f ⟨d.val, hd⟩ else 0) = ∑ d, f d := by
  rw [show (∑ d : Fin 128, if hd : d.val < 96 then f ⟨d.val, hd⟩ else 0)
    = ∑ d : Fin (96 + 32), if hd : d.val < 96 then f ⟨d.val, hd⟩ else 0 from rfl, Fin.sum_univ_add]
  rw [Finset.sum_congr rfl fun d _ => dif_pos (show (Fin.castAdd 32 d : Fin (96 + 32)).val < 96 from d.isLt),
    Finset.sum_congr rfl fun d _ => dif_neg (show ¬ (Fin.natAdd 96 d : Fin (96 + 32)).val < 96 by simp)]
  simp

/-- The scores the attention call forms are the scaled products of queries and keys. -/
theorem score (b : Fin 2) (h : Fin 6) (i : Fin 8192) (l : Fin 8448) :
    (∑ d, (mlaData ρ H).q b h (latent i) d * (mlaData ρ H).k b h l d) = (∑ d, query A b h i d * key A b h l d) * scale := by
  rw [Finset.sum_mul, ← sum_lanes fun d => query A b h i d * key A b h l d * scale]
  refine Finset.sum_congr rfl fun d _ => ?_
  rw [data_q, data_k]
  by_cases hd : d.val < 96
  · rw [dif_pos hd, dif_pos hd, dif_pos hd, mul_right_comm]
  · rw [dif_neg hd, dif_neg hd, dif_neg hd, mul_zero]

include H in
/-- The kernel's result array. -/
theorem out : (dat1 (V2 m ρ) c).arrAt 3 cfg1.N = fun j : S2x8192x384.Idx =>
    ((result A (j 0) (j 1) ⟨(j 2).val / 64, by have h2 : (j 2).val < 384 := (j 2).isLt; omega⟩ ⟨(j 2).val % 64, Nat.mod_lt _ (by decide)⟩ : ℝ) : EReal) := by
  have hq : (V2 m ρ c main_v71_0 : S2x6x8448x128.Idx → EReal) = fun j => ((mlaData ρ H).q (j 0) (j 1) (j 2) (j 3) : EReal) :=
    (W2_arr m ρ c 10).trans (Mla.array_q (mlaData ρ H))
  have hk : (V2 m ρ c main_v71_1 : S2x6x8448x128.Idx → EReal) = fun j => ((mlaData ρ H).k (j 0) (j 1) (j 2) (j 3) : EReal) :=
    (W2_arr m ρ c 11).trans (Mla.array_k (mlaData ρ H))
  have hv : (V2 m ρ c main_v71_2 : S2x6x8448x128.Idx → EReal) = fun j => (mlaData ρ H).vOut (j 0) (j 1) (j 2) (j 3) :=
    (W2_arr m ρ c 12).trans (Mla.array_v (mlaData ρ H))
  refine (Flash.array (V2 m ρ) c (fun b h i d => (mlaData ρ H).q b h (latent i) d) (mlaData ρ H).k (mlaData ρ H).v
    (fun b h i d => congrFun hq _) (fun b h l d => congrFun hk _) (fun b h l e => ?_) (fun b h l e => ?_)).trans ?_
  · refine (congrFun hv _).trans ?_
    show (mlaData ρ H).vOut b h l ⟨e.val, _⟩ = _
    unfold Mla.Data.vOut
    exact dif_pos e.isLt
  · refine (congrFun hv _).trans ?_
    show (mlaData ρ H).vOut b h l ⟨64 + e.val, _⟩ = _
    unfold Mla.Data.vOut
    exact dif_neg (by simp)
  · funext j
    unfold Flash.attnOf result
    refine congrArg (fun x : ℝ => (x : EReal)) (congrArg₂ attn (funext fun l => score ρ H _ _ _ l) (funext fun l => data_v ρ H _ _ _ _))

end Cert.KernelIdeal.Whole
-- ==== Proof.KernelRun.lean ====
/- The kernel's run: it ends with its result array at what the attention call leaves, the arguments as launched. -/
module

public import proofs.«01_k».proof.Proof.KernelValue

@[expose] public section

set_option maxRecDepth 16384

noncomputable section

namespace Cert.KernelIdeal.Whole

open Cert.KernelIdeal Cert.KernelIdeal.Gen Idealize.ShloMosaic
open Idealize.ShloMosaic.TcCoe Idealize.SL.Sem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

set_option backward.isDefEq.respectTransparency.types false in
/-- Every execution ends with the result array at what the attention call leaves and the arguments unchanged: the launch of the two calls as
    in the frame, with the result array read from the last contents as well. -/
theorem run : θ_run defs (onTc (τ := τ) (main (F := Ideal))) ⟨m, fun _ => 0, ρ⟩ (fun r => ∀ c : Dev nD,
      r.2.mem ((c.tc : Thread nD τ).loc main_v72) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v72 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Whole
-- ==== Proof.Reference.lean ====
/- The reference's stages over the reals: norms, projections, rotation, attention. -/
module

public import proofs.«01_k».proof.Proof.Spec
public import proofs.«01_k».proof.Proof.Gen.ReferenceIdeal.Read
public import Idealize.ShloMosaic.Lib.KernelVsHost
public import Idealize.ShloMosaic.Lib.Pipeline.ValueKit

@[expose] public section

set_option maxRecDepth 16384

noncomputable section

namespace Cert.ReferenceIdeal.Stages

open Cert.ReferenceIdeal Cert.ReferenceIdeal.Gen Cert.ReferenceIdeal.Read Cert.Attn Idealize.ShloMosaic

theorem iota0 (i : S128.Idx) : (val_main_v0 (F := Ideal) i : EReal) = FloatOps.sitofp (F := Ideal) .f32 (BitVec.ofNat 32 (i 0).val) := rfl
theorem iota3 (i : S64.Idx) : (val_main_v3 (F := Ideal) i : EReal) = FloatOps.sitofp (F := Ideal) .f32 (BitVec.ofNat 32 (i 0).val) := rfl
theorem iota7 (i : S8.Idx) : (val_main_v7 (F := Ideal) i : EReal) = FloatOps.sitofp (F := Ideal) .f32 (BitVec.ofNat 32 (i 0).val) := rfl

/-- A row's grid column. -/
theorem column (i : S8192.Idx) : (val_main_v6 (F := Ideal) i : EReal) = FloatOps.sitofp (F := Ideal) .f32 (BitVec.ofNat 32 ((i 0).val % 64)) := by
  have h0 : (i 0).val < 8192 := (i 0).isLt
  rw [val_main_v6_apply, val_main_v5_apply, val_main_v4_apply, iota3]
  have e : (idx_main_v4 (idx_main_v5 (idx_main_v6 i)) 0).val = (i 0).val % 64 := by
    dsimp only [idx_main_v4, idx_main_v5, idx_main_v6]
    omega
  rw [e]

/-- The angles of the grid rows. -/
theorem angle17 (i : S8192x8.Idx) : (val_main_v17 (F := Ideal) i : EReal) = (angle ((i 0).val / 64) (i 1).val : EReal) := by
  simp only [val_main_v17_apply, val_main_v16_apply, val_main_v15_apply, val_main_v14_apply, val_main_v13_apply, val_main_v12_apply,
    val_main_v11_apply, val_main_v10_apply, val_main_v9_apply, val_main_v8_apply, val_main_v2_apply, val_main_v1_apply,
    val_main_cst_apply, val_main_cst_0_apply, iota0, iota3, iota7]
  exact angle_real ((i 0).val / 64) (i 1).val

/-- The angles of the grid columns. -/
theorem angle22 (i : S8192x8.Idx) : (val_main_v22 (F := Ideal) i : EReal) = (angle ((i 0).val % 64) (i 1).val : EReal) := by
  simp only [val_main_v22_apply, val_main_v21_apply, val_main_v20_apply, val_main_v19_apply, val_main_v18_apply, val_main_v12_apply,
    val_main_v11_apply, val_main_v10_apply, val_main_v9_apply, val_main_v8_apply, column,
    val_main_cst_apply, val_main_cst_0_apply, iota0, iota3, iota7]
  exact angle_real ((i 0).val % 64) (i 1).val

theorem ofBits_zero : (FloatOps.ofBits (F := Ideal) .f32 0#32 : EReal) = 0 := by
  show Ideal.ofBits .f32 0#32 = 0
  simp [Ideal.ofBits, Ideal.ieee]

variable {A : Args} {x0 : S2x8448x384.Idx → EReal} {x1 : S2x8448x256.Idx → EReal} {x2 : S2x8448x32.Idx → EReal} {x3 : S384.Idx → EReal}
  {x4 : S384x576.Idx → EReal} {x5 : S256.Idx → EReal} {x6 : S256x768.Idx → EReal} (H : A.Holds x0 x1 x2 x3 x4 x5 x6)
include H

theorem cqAt (j : S2x8448x384.Idx) : x0 j = (A.cq (j 0) (j 1) (j 2) : EReal) := (congrArg x0 (eq_ix3 j)).trans (H.cq _ _ _)
theorem ckvAt (j : S2x8448x256.Idx) : x1 j = (A.ckv (j 0) (j 1) (j 2) : EReal) := (congrArg x1 (eq_ix3 j)).trans (H.ckv _ _ _)
theorem krAt (j : S2x8448x32.Idx) : x2 j = (A.kr (j 0) (j 1) (j 2) : EReal) := (congrArg x2 (eq_ix3 j)).trans (H.kr _ _ _)
theorem gqAt (j : S384.Idx) : x3 j = (A.gq (j 0) : EReal) := (congrArg x3 (eq_ix1 j)).trans (H.gq _)
theorem wqAt (j : S384x576.Idx) : x4 j = (A.wq (j 0) (j 1) : EReal) := (congrArg x4 (eq_ix2 j)).trans (H.wq _ _)
theorem gkvAt (j : S256.Idx) : x5 j = (A.gkv (j 0) : EReal) := (congrArg x5 (eq_ix1 j)).trans (H.gkv _)
theorem wkvAt (j : S256x768.Idx) : x6 j = (A.wkv (j 0) (j 1) : EReal) := (congrArg x6 (eq_ix2 j)).trans (H.wkv _ _)

/-- A latent row's scale for the queries. -/
theorem scale33 (i : S2x8192x1.Idx) : (val_main_v33 (F := Ideal) x0 i : EReal) = (rmsScale 384 (A.cq (i 0) (latent (i 1))) : EReal) := by
  simp only [val_main_v33_apply, val_main_v32_apply, val_main_v31_apply, val_main_v30_apply, val_main_v29_apply, val_main_v28_apply,
    val_main_v27_apply, val_main_v26_apply, val_main_v23_apply, val_main_cst_1_apply, val_main_cst_2_apply, val_main_cst_3_apply]
  refine Eq.trans ?_ (rmsScale_real 384 (by norm_num) (fun k => (A.cq (i 0) (latent (i 1)) k : EReal)) _ fun k => rfl)
  refine congrArg Ideal.rsqrt (congrArg₂ (· + ·) (congrArg₂ Ideal.div ?_ ofBits_384) ofBits_eps)
  refine (congrArg₂ (· + ·) ofBits_zero (Finset.sum_congr rfl fun k _ => ?_)).trans (zero_add _)
  rw [cqAt H]
  rfl

/-- A latent row's normed queries. -/
theorem norm38 (i : S2x8192x384.Idx) : (val_main_v38 (F := Ideal) x0 x3 i : EReal) = (rms 384 (A.cq (i 0) (latent (i 1))) A.gq (i 2) : EReal) := by
  simp only [val_main_v38_apply, val_main_v37_apply, val_main_v36_apply, val_main_v35_apply, val_main_v34_apply, val_main_v23_apply]
  rw [scale33 H, cqAt H, gqAt H]
  unfold rms
  rw [EReal.coe_mul, EReal.coe_mul]
  rfl

/-- A latent row's up-projected queries. -/
theorem q39 (i : S2x8192x576.Idx) : (val_main_v39 (F := Ideal) x0 x3 x4 i : EReal) = (qBase A (i 0) (latent (i 1)) (i 2) : EReal) := by
  rw [val_main_v39_apply]
  unfold qBase
  rw [coe_sum]
  refine Finset.sum_congr rfl fun k _ => ?_
  rw [norm38 H, wqAt H, EReal.coe_mul]
  rfl

theorem q40 (i : S2x8192x6x96.Idx) : (val_main_v40 (F := Ideal) x0 x3 x4 i : EReal)
    = (qBase A (i 0) (latent (i 1)) ⟨(i 2).val * 96 + (i 3).val, by
        have h2 : (i 2).val < 6 := (i 2).isLt; have h3 : (i 3).val < 96 := (i 3).isLt; omega⟩ : EReal) := by
  have h0 : (i 0).val < 2 := (i 0).isLt
  have h1 : (i 1).val < 8192 := (i 1).isLt
  have h2 : (i 2).val < 6 := (i 2).isLt
  have h3 : (i 3).val < 96 := (i 3).isLt
  rw [val_main_v40_apply, q39 H]
  have e0 : (idx_main_v40 i 0 : Fin 2) = i 0 := Fin.ext (by dsimp only [idx_main_v40]; omega)
  have e1 : (idx_main_v40 i 1 : Fin 8192) = i 1 := Fin.ext (by dsimp only [idx_main_v40]; omega)
  have e2 : (idx_main_v40 i 2).val = (i 2).val * 96 + (i 3).val := by dsimp only [idx_main_v40]; omega
  rw [e0, e1]
  exact congrArg (fun n => (qBase A (i 0) (latent (i 1)) n : EReal)) (Fin.ext e2)

/-- A latent row's scale for the keys and values. -/
theorem scale48 (i : S2x8192x1.Idx) : (val_main_v48 (F := Ideal) x1 i : EReal) = (rmsScale 256 (A.ckv (i 0) (latent (i 1))) : EReal) := by
  simp only [val_main_v48_apply, val_main_v47_apply, val_main_v46_apply, val_main_v45_apply, val_main_v44_apply, val_main_v43_apply,
    val_main_v42_apply, val_main_v41_apply, val_main_v24_apply, val_main_cst_4_apply, val_main_cst_5_apply, val_main_cst_6_apply]
  refine Eq.trans ?_ (rmsScale_real 256 (by norm_num) (fun k => (A.ckv (i 0) (latent (i 1)) k : EReal)) _ fun k => rfl)
  refine congrArg Ideal.rsqrt (congrArg₂ (· + ·) (congrArg₂ Ideal.div ?_ ofBits_256) ofBits_eps)
  refine (congrArg₂ (· + ·) ofBits_zero (Finset.sum_congr rfl fun k _ => ?_)).trans (zero_add _)
  rw [ckvAt H]
  rfl

/-- A latent row's up-projected keys and values. -/
theorem kv54 (i : S2x8192x768.Idx) : (val_main_v54 (F := Ideal) x1 x5 x6 i : EReal) = (kvBase A (i 0) (latent (i 1)) (i 2) : EReal) := by
  rw [val_main_v54_apply]
  unfold kvBase
  rw [coe_sum]
  refine Finset.sum_congr rfl fun k _ => ?_
  simp only [val_main_v53_apply, val_main_v52_apply, val_main_v51_apply, val_main_v50_apply, val_main_v49_apply, val_main_v24_apply]
  rw [scale48 H, ckvAt H, gkvAt H, wkvAt H]
  unfold rms
  rw [EReal.coe_mul, EReal.coe_mul, EReal.coe_mul]
  rfl

theorem kv55 (i : S2x8192x6x128.Idx) : (val_main_v55 (F := Ideal) x1 x5 x6 i : EReal)
    = (kvBase A (i 0) (latent (i 1)) ⟨(i 2).val * 128 + (i 3).val, by
        have h2 : (i 2).val < 6 := (i 2).isLt; have h3 : (i 3).val < 128 := (i 3).isLt; omega⟩ : EReal) := by
  have h0 : (i 0).val < 2 := (i 0).isLt
  have h1 : (i 1).val < 8192 := (i 1).isLt
  have h2 : (i 2).val < 6 := (i 2).isLt
  have h3 : (i 3).val < 128 := (i 3).isLt
  rw [val_main_v55_apply, kv54 H]
  have e0 : (idx_main_v55 i 0 : Fin 2) = i 0 := Fin.ext (by dsimp only [idx_main_v55]; omega)
  have e1 : (idx_main_v55 i 1 : Fin 8192) = i 1 := Fin.ext (by dsimp only [idx_main_v55]; omega)
  have e2 : (idx_main_v55 i 2).val = (i 2).val * 128 + (i 3).val := by dsimp only [idx_main_v55]; omega
  rw [e0, e1]
  exact congrArg (fun n => (kvBase A (i 0) (latent (i 1)) n : EReal)) (Fin.ext e2)

/-- Row `i` of the context rows among all rows. -/
def context (i : Fin 256) : Fin 8448 := ⟨i.val, by omega⟩

/-- A context row's scale for the keys and values. -/
theorem scale173 (i : S2x256x1.Idx) : (val_main_v173 (F := Ideal) x1 i : EReal) = (rmsScale 256 (A.ckv (i 0) (context (i 1))) : EReal) := by
  simp only [val_main_v173_apply, val_main_v172_apply, val_main_v171_apply, val_main_v170_apply, val_main_v169_apply, val_main_v168_apply,
    val_main_v167_apply, val_main_v166_apply, val_main_v149_apply, val_main_cst_10_apply, val_main_cst_11_apply, val_main_cst_12_apply]
  refine Eq.trans ?_ (rmsScale_real 256 (by norm_num) (fun k => (A.ckv (i 0) (context (i 1)) k : EReal)) _ fun k => rfl)
  refine congrArg Ideal.rsqrt (congrArg₂ (· + ·) (congrArg₂ Ideal.div ?_ ofBits_256) ofBits_eps)
  refine (congrArg₂ (· + ·) ofBits_zero (Finset.sum_congr rfl fun k _ => ?_)).trans (zero_add _)
  rw [ckvAt H]
  rfl

/-- A context row's up-projected keys and values. -/
theorem kv179 (i : S2x256x768.Idx) : (val_main_v179 (F := Ideal) x1 x5 x6 i : EReal) = (kvBase A (i 0) (context (i 1)) (i 2) : EReal) := by
  rw [val_main_v179_apply]
  unfold kvBase
  rw [coe_sum]
  refine Finset.sum_congr rfl fun k _ => ?_
  simp only [val_main_v178_apply, val_main_v177_apply, val_main_v176_apply, val_main_v175_apply, val_main_v174_apply, val_main_v149_apply]
  rw [scale173 H, ckvAt H, gkvAt H, wkvAt H]
  unfold rms
  rw [EReal.coe_mul, EReal.coe_mul, EReal.coe_mul]
  rfl

theorem kv180 (i : S2x256x6x128.Idx) : (val_main_v180 (F := Ideal) x1 x5 x6 i : EReal)
    = (kvBase A (i 0) (context (i 1)) ⟨(i 2).val * 128 + (i 3).val, by
        have h2 : (i 2).val < 6 := (i 2).isLt; have h3 : (i 3).val < 128 := (i 3).isLt; omega⟩ : EReal) := by
  have h0 : (i 0).val < 2 := (i 0).isLt
  have h1 : (i 1).val < 256 := (i 1).isLt
  have h2 : (i 2).val < 6 := (i 2).isLt
  have h3 : (i 3).val < 128 := (i 3).isLt
  rw [val_main_v180_apply, kv179 H]
  have e0 : (idx_main_v180 i 0 : Fin 2) = i 0 := Fin.ext (by dsimp only [idx_main_v180]; omega)
  have e1 : (idx_main_v180 i 1 : Fin 256) = i 1 := Fin.ext (by dsimp only [idx_main_v180]; omega)
  have e2 : (idx_main_v180 i 2).val = (i 2).val * 128 + (i 3).val := by dsimp only [idx_main_v180]; omega
  rw [e0, e1]
  exact congrArg (fun n => (kvBase A (i 0) (context (i 1)) n : EReal)) (Fin.ext e2)

omit H in
/-- The first of a rotated pair. -/
theorem first_real (X Y T : ℝ) :
    (X : EReal) * Ideal.cos (T : EReal) - (Y : EReal) * Ideal.sin (T : EReal) = ((X * Real.cos T - Y * Real.sin T : ℝ) : EReal) := by
  rw [Ideal.cos_coe, Ideal.sin_coe, EReal.coe_sub, EReal.coe_mul, EReal.coe_mul]

omit H in
/-- The second of a rotated pair. -/
theorem second_real (X Y T : ℝ) :
    (X : EReal) * Ideal.cos (T : EReal) + (Y : EReal) * Ideal.sin (T : EReal) = ((X * Real.cos T + Y * Real.sin T : ℝ) : EReal) := by
  rw [Ideal.cos_coe, Ideal.sin_coe, EReal.coe_add, EReal.coe_mul, EReal.coe_mul]

/-- A latent row's query lanes to be rotated. -/
def qLane (A : Args) (b : Fin 2) (h : Fin 6) (l : Fin 8192) (e : Fin 32) : ℝ := qBase A b (latent l) ⟨h.val * 96 + (64 + e.val), by omega⟩

theorem q73 (b : Fin 2) (l : Fin 8192) (h : Fin 6) (e : Fin 8) : (val_main_v73 (F := Ideal) x0 x3 x4 (ix4 b l h e) : EReal)
    = ((qLane A b h l ⟨e.val, by omega⟩ * Real.cos (angle (l.val / 64) e.val)
      - qLane A b h l ⟨8 + e.val, by omega⟩ * Real.sin (angle (l.val / 64) e.val) : ℝ) : EReal) := by
  simp only [val_main_v73_apply, val_main_v72_apply, val_main_v71_apply, val_main_v70_apply, val_main_v69_apply, val_main_v68_apply,
    val_main_v67_apply, val_main_v66_apply, val_main_v65_apply, val_main_v64_apply, val_main_v63_apply, val_main_v62_apply, val_main_v60_apply,
    val_main_v57_apply]
  rw [q40 H, q40 H, angle17]
  exact first_real _ _ _

theorem q80 (b : Fin 2) (l : Fin 8192) (h : Fin 6) (e : Fin 8) : (val_main_v80 (F := Ideal) x0 x3 x4 (ix4 b l h e) : EReal)
    = ((qLane A b h l ⟨8 + e.val, by omega⟩ * Real.cos (angle (l.val / 64) e.val)
      + qLane A b h l ⟨e.val, by omega⟩ * Real.sin (angle (l.val / 64) e.val) : ℝ) : EReal) := by
  simp only [val_main_v80_apply, val_main_v79_apply, val_main_v78_apply, val_main_v77_apply, val_main_v76_apply, val_main_v75_apply,
    val_main_v74_apply, val_main_v66_apply, val_main_v65_apply, val_main_v64_apply, val_main_v63_apply, val_main_v62_apply, val_main_v60_apply,
    val_main_v57_apply]
  rw [q40 H, q40 H, angle17]
  exact second_real _ _ _

theorem q93 (b : Fin 2) (l : Fin 8192) (h : Fin 6) (e : Fin 8) : (val_main_v93 (F := Ideal) x0 x3 x4 (ix4 b l h e) : EReal)
    = ((qLane A b h l ⟨16 + e.val, by omega⟩ * Real.cos (angle (l.val % 64) e.val)
      - qLane A b h l ⟨16 + (8 + e.val), by omega⟩ * Real.sin (angle (l.val % 64) e.val) : ℝ) : EReal) := by
  simp only [val_main_v93_apply, val_main_v92_apply, val_main_v91_apply, val_main_v90_apply, val_main_v89_apply, val_main_v88_apply,
    val_main_v87_apply, val_main_v86_apply, val_main_v85_apply, val_main_v84_apply, val_main_v83_apply, val_main_v82_apply, val_main_v61_apply,
    val_main_v57_apply]
  rw [q40 H, q40 H, angle22]
  exact first_real _ _ _

theorem q100 (b : Fin 2) (l : Fin 8192) (h : Fin 6) (e : Fin 8) : (val_main_v100 (F := Ideal) x0 x3 x4 (ix4 b l h e) : EReal)
    = ((qLane A b h l ⟨16 + (8 + e.val), by omega⟩ * Real.cos (angle (l.val % 64) e.val)
      + qLane A b h l ⟨16 + e.val, by omega⟩ * Real.sin (angle (l.val % 64) e.val) : ℝ) : EReal) := by
  simp only [val_main_v100_apply, val_main_v99_apply, val_main_v98_apply, val_main_v97_apply, val_main_v96_apply, val_main_v95_apply,
    val_main_v94_apply, val_main_v86_apply, val_main_v85_apply, val_main_v84_apply, val_main_v83_apply, val_main_v82_apply, val_main_v61_apply,
    val_main_v57_apply]
  rw [q40 H, q40 H, angle22]
  exact second_real _ _ _

theorem k114 (b : Fin 2) (l : Fin 8192) (e : Fin 8) : (val_main_v114 (F := Ideal) x2 (ix3 b l e) : EReal)
    = ((A.kr b (latent l) ⟨e.val, by omega⟩ * Real.cos (angle (l.val / 64) e.val)
      - A.kr b (latent l) ⟨8 + e.val, by omega⟩ * Real.sin (angle (l.val / 64) e.val) : ℝ) : EReal) := by
  simp only [val_main_v114_apply, val_main_v113_apply, val_main_v112_apply, val_main_v111_apply, val_main_v110_apply, val_main_v109_apply,
    val_main_v108_apply, val_main_v107_apply, val_main_v106_apply, val_main_v105_apply, val_main_v104_apply, val_main_v103_apply,
    val_main_v25_apply]
  rw [krAt H, krAt H, angle17]
  exact first_real _ _ _

theorem k121 (b : Fin 2) (l : Fin 8192) (e : Fin 8) : (val_main_v121 (F := Ideal) x2 (ix3 b l e) : EReal)
    = ((A.kr b (latent l) ⟨8 + e.val, by omega⟩ * Real.cos (angle (l.val / 64) e.val)
      + A.kr b (latent l) ⟨e.val, by omega⟩ * Real.sin (angle (l.val / 64) e.val) : ℝ) : EReal) := by
  simp only [val_main_v121_apply, val_main_v120_apply, val_main_v119_apply, val_main_v118_apply, val_main_v117_apply, val_main_v116_apply,
    val_main_v115_apply, val_main_v107_apply, val_main_v106_apply, val_main_v105_apply, val_main_v104_apply, val_main_v103_apply,
    val_main_v25_apply]
  rw [krAt H, krAt H, angle17]
  exact second_real _ _ _

theorem k134 (b : Fin 2) (l : Fin 8192) (e : Fin 8) : (val_main_v134 (F := Ideal) x2 (ix3 b l e) : EReal)
    = ((A.kr b (latent l) ⟨16 + e.val, by omega⟩ * Real.cos (angle (l.val % 64) e.val)
      - A.kr b (latent l) ⟨16 + (8 + e.val), by omega⟩ * Real.sin (angle (l.val % 64) e.val) : ℝ) : EReal) := by
  simp only [val_main_v134_apply, val_main_v133_apply, val_main_v132_apply, val_main_v131_apply, val_main_v130_apply, val_main_v129_apply,
    val_main_v128_apply, val_main_v127_apply, val_main_v126_apply, val_main_v125_apply, val_main_v124_apply, val_main_v123_apply,
    val_main_v25_apply]
  rw [krAt H, krAt H, angle22]
  exact first_real _ _ _

theorem k141 (b : Fin 2) (l : Fin 8192) (e : Fin 8) : (val_main_v141 (F := Ideal) x2 (ix3 b l e) : EReal)
    = ((A.kr b (latent l) ⟨16 + (8 + e.val), by omega⟩ * Real.cos (angle (l.val % 64) e.val)
      + A.kr b (latent l) ⟨16 + e.val, by omega⟩ * Real.sin (angle (l.val % 64) e.val) : ℝ) : EReal) := by
  simp only [val_main_v141_apply, val_main_v140_apply, val_main_v139_apply, val_main_v138_apply, val_main_v137_apply, val_main_v136_apply,
    val_main_v135_apply, val_main_v127_apply, val_main_v126_apply, val_main_v125_apply, val_main_v124_apply, val_main_v123_apply,
    val_main_v25_apply]
  rw [krAt H, krAt H, angle22]
  exact second_real _ _ _

end Cert.ReferenceIdeal.Stages
-- ==== Proof.ReferenceValue.lean ====
/- The reference's result over the reals: the joined queries, keys and values, and their attention. -/
module

public import proofs.«01_k».proof.Proof.Reference

@[expose] public section

set_option maxRecDepth 16384

noncomputable section

namespace Cert.ReferenceIdeal.Stages

open Cert.ReferenceIdeal Cert.ReferenceIdeal.Gen Cert.ReferenceIdeal.Read Cert.Attn Idealize.ShloMosaic

/-! ## Two arrays joined along one axis -/

theorem join16 (y z : S2x8192x6x8.Idx → EReal) (b : Fin 2) (l : Fin 8192) (h : Fin 6) (e : Fin 16) :
    concatenate S2x8192x6x16 3 [⟨S2x8192x6x8, y⟩, ⟨S2x8192x6x8, z⟩] concatenates_S2x8192x6x8_S2x8192x6x8_S2x8192x6x16_d3 (ix4 b l h e)
      = if he : e.val < 8 then y (ix4 b l h ⟨e.val, he⟩) else z (ix4 b l h ⟨e.val - 8, by omega⟩) := by
  pointwise

theorem join32 (y z : S2x8192x6x16.Idx → EReal) (b : Fin 2) (l : Fin 8192) (h : Fin 6) (e : Fin 32) :
    concatenate S2x8192x6x32 3 [⟨S2x8192x6x16, y⟩, ⟨S2x8192x6x16, z⟩] concatenates_S2x8192x6x16_S2x8192x6x16_S2x8192x6x32_d3 (ix4 b l h e)
      = if he : e.val < 16 then y (ix4 b l h ⟨e.val, he⟩) else z (ix4 b l h ⟨e.val - 16, by omega⟩) := by
  pointwise

theorem join16' (y z : S2x8192x8.Idx → EReal) (b : Fin 2) (l : Fin 8192) (e : Fin 16) :
    concatenate S2x8192x16 2 [⟨S2x8192x8, y⟩, ⟨S2x8192x8, z⟩] concatenates_S2x8192x8_S2x8192x8_S2x8192x16_d2 (ix3 b l e)
      = if he : e.val < 8 then y (ix3 b l ⟨e.val, he⟩) else z (ix3 b l ⟨e.val - 8, by omega⟩) := by
  pointwise

theorem join32' (y z : S2x8192x16.Idx → EReal) (b : Fin 2) (l : Fin 8192) (e : Fin 32) :
    concatenate S2x8192x32 2 [⟨S2x8192x16, y⟩, ⟨S2x8192x16, z⟩] concatenates_S2x8192x16_S2x8192x16_S2x8192x32_d2 (ix3 b l e)
      = if he : e.val < 16 then y (ix3 b l ⟨e.val, he⟩) else z (ix3 b l ⟨e.val - 16, by omega⟩) := by
  pointwise

theorem join96 (y : S2x8192x6x64.Idx → EReal) (z : S2x8192x6x32.Idx → EReal) (b : Fin 2) (l : Fin 8192) (h : Fin 6) (e : Fin 96) :
    concatenate S2x8192x6x96 3 [⟨S2x8192x6x64, y⟩, ⟨S2x8192x6x32, z⟩] concatenates_S2x8192x6x64_S2x8192x6x32_S2x8192x6x96_d3 (ix4 b l h e)
      = if he : e.val < 64 then y (ix4 b l h ⟨e.val, he⟩) else z (ix4 b l h ⟨e.val - 64, by omega⟩) := by
  pointwise

theorem join96' (y : S2x256x6x64.Idx → EReal) (z : S2x256x6x32.Idx → EReal) (b : Fin 2) (l : Fin 256) (h : Fin 6) (e : Fin 96) :
    concatenate S2x256x6x96 3 [⟨S2x256x6x64, y⟩, ⟨S2x256x6x32, z⟩] concatenates_S2x256x6x64_S2x256x6x32_S2x256x6x96_d3 (ix4 b l h e)
      = if he : e.val < 64 then y (ix4 b l h ⟨e.val, he⟩) else z (ix4 b l h ⟨e.val - 64, by omega⟩) := by
  pointwise

theorem joinRows96 (y : S2x256x6x96.Idx → EReal) (z : S2x8192x6x96.Idx → EReal) (b : Fin 2) (l : Fin 8448) (h : Fin 6) (e : Fin 96) :
    concatenate S2x8448x6x96 1 [⟨S2x256x6x96, y⟩, ⟨S2x8192x6x96, z⟩] concatenates_S2x256x6x96_S2x8192x6x96_S2x8448x6x96_d1 (ix4 b l h e)
      = if hl : l.val < 256 then y (ix4 b ⟨l.val, hl⟩ h e) else z (ix4 b ⟨l.val - 256, by omega⟩ h e) := by
  pointwise

theorem joinRows64 (y : S2x256x6x64.Idx → EReal) (z : S2x8192x6x64.Idx → EReal) (b : Fin 2) (l : Fin 8448) (h : Fin 6) (e : Fin 64) :
    concatenate S2x8448x6x64 1 [⟨S2x256x6x64, y⟩, ⟨S2x8192x6x64, z⟩] concatenates_S2x256x6x64_S2x8192x6x64_S2x8448x6x64_d1 (ix4 b l h e)
      = if hl : l.val < 256 then y (ix4 b ⟨l.val, hl⟩ h e) else z (ix4 b ⟨l.val - 256, by omega⟩ h e) := by
  pointwise

/-- A rotated lane, by which of the four groups of eight it is in. -/
theorem rotate_cases (i : ℕ) (x : Fin 32 → ℝ) (e : Fin 32) : rotate i x e =
    if h : e.val < 16 then
      (if h' : e.val < 8 then x ⟨e.val, by omega⟩ * Real.cos (angle (i / 64) e.val) - x ⟨8 + e.val, by omega⟩ * Real.sin (angle (i / 64) e.val)
        else x ⟨8 + (e.val - 8), by omega⟩ * Real.cos (angle (i / 64) (e.val - 8)) + x ⟨e.val - 8, by omega⟩ * Real.sin (angle (i / 64) (e.val - 8)))
    else
      (if h' : e.val - 16 < 8 then x ⟨16 + (e.val - 16), by omega⟩ * Real.cos (angle (i % 64) (e.val - 16))
          - x ⟨16 + (8 + (e.val - 16)), by omega⟩ * Real.sin (angle (i % 64) (e.val - 16))
        else x ⟨16 + (8 + (e.val - 16 - 8)), by omega⟩ * Real.cos (angle (i % 64) (e.val - 16 - 8))
          + x ⟨16 + (e.val - 16 - 8), by omega⟩ * Real.sin (angle (i % 64) (e.val - 16 - 8))) := by
  have he : e.val < 32 := e.isLt
  have key : ∀ (a c : Fin 32) (n p : ℕ), e = a → partner e = c → n % 64 = n % 64 → e.val % 8 = p → (if e.val < 16 then i / 64 else i % 64) = n →
      rotate i x e = x a * Real.cos (angle n p) + x c * (if e.val % 16 < 8 then -Real.sin (angle n p) else Real.sin (angle n p)) := by
    intro a c n p ha hc _ hp hn
    unfold rotate laneCos laneSin laneAngle
    rw [← ha, hc, hp, hn]
  by_cases h : e.val < 16
  · rw [dif_pos h]
    by_cases h' : e.val < 8
    · rw [dif_pos h', key ⟨e.val, by omega⟩ ⟨8 + e.val, by omega⟩ (i / 64) e.val rfl
        (by unfold partner; rw [if_pos (by omega)]; exact Fin.ext (by show (e.val + 8) % 32 = 8 + e.val; omega)) rfl (by omega) (if_pos h),
        if_pos (by omega)]
      ring
    · rw [dif_neg h', key ⟨8 + (e.val - 8), by omega⟩ ⟨e.val - 8, by omega⟩ (i / 64) (e.val - 8) (Fin.ext (by show e.val = 8 + (e.val - 8); omega))
        (by unfold partner; rw [if_neg (by omega)]) rfl (by omega) (if_pos h), if_neg (by omega)]
  · rw [dif_neg h]
    by_cases h' : e.val - 16 < 8
    · rw [dif_pos h', key ⟨16 + (e.val - 16), by omega⟩ ⟨16 + (8 + (e.val - 16)), by omega⟩ (i % 64) (e.val - 16)
        (Fin.ext (by show e.val = 16 + (e.val - 16); omega))
        (by unfold partner; rw [if_pos (by omega)]; exact Fin.ext (by show (e.val + 8) % 32 = 16 + (8 + (e.val - 16)); omega)) rfl (by omega)
        (if_neg h), if_pos (by omega)]
      ring
    · rw [dif_neg h', key ⟨16 + (8 + (e.val - 16 - 8)), by omega⟩ ⟨16 + (e.val - 16 - 8), by omega⟩ (i % 64) (e.val - 16 - 8)
        (Fin.ext (by show e.val = 16 + (8 + (e.val - 16 - 8)); omega))
        (by unfold partner; rw [if_neg (by omega)]; exact Fin.ext (by show e.val - 8 = 16 + (e.val - 16 - 8); omega)) rfl (by omega)
        (if_neg h), if_neg (by omega)]

variable {A : Args} {x0 : S2x8448x384.Idx → EReal} {x1 : S2x8448x256.Idx → EReal} {x2 : S2x8448x32.Idx → EReal} {x3 : S384.Idx → EReal}
  {x4 : S384x576.Idx → EReal} {x5 : S256.Idx → EReal} {x6 : S256x768.Idx → EReal} (H : A.Holds x0 x1 x2 x3 x4 x5 x6)
include H

/-- A latent row's rotated query lanes. -/
theorem q102 (b : Fin 2) (l : Fin 8192) (h : Fin 6) (e : Fin 32) :
    (val_main_v102 (F := Ideal) x0 x3 x4 (ix4 b l h e) : EReal) = (rotate l.val (qLane A b h l) e : EReal) := by
  unfold val_main_v102
  refine (join32 _ _ b l h e).trans ?_
  rw [rotate_cases]
  by_cases h1 : e.val < 16
  · rw [dif_pos h1, dif_pos h1]
    unfold val_main_v81
    refine (join16 _ _ b l h _).trans ?_
    by_cases h2 : e.val < 8
    · rw [dif_pos h2, dif_pos h2]; exact q73 H b l h _
    · rw [dif_neg h2, dif_neg h2]; exact q80 H b l h _
  · rw [dif_neg h1, dif_neg h1]
    unfold val_main_v101
    refine (join16 _ _ b l h _).trans ?_
    by_cases h2 : e.val - 16 < 8
    · rw [dif_pos h2, dif_pos h2]; exact q93 H b l h _
    · rw [dif_neg h2, dif_neg h2]; exact q100 H b l h _

/-- A latent row's rotated key lanes. -/
theorem k143 (b : Fin 2) (l : Fin 8192) (e : Fin 32) :
    (val_main_v143 (F := Ideal) x2 (ix3 b l e) : EReal) = (rotate l.val (A.kr b (latent l)) e : EReal) := by
  unfold val_main_v143
  refine (join32' _ _ b l e).trans ?_
  rw [rotate_cases]
  by_cases h1 : e.val < 16
  · rw [dif_pos h1, dif_pos h1]
    unfold val_main_v122
    refine (join16' _ _ b l _).trans ?_
    by_cases h2 : e.val < 8
    · rw [dif_pos h2, dif_pos h2]; exact k114 H b l _
    · rw [dif_neg h2, dif_neg h2]; exact k121 H b l _
  · rw [dif_neg h1, dif_neg h1]
    unfold val_main_v142
    refine (join16' _ _ b l _).trans ?_
    by_cases h2 : e.val - 16 < 8
    · rw [dif_pos h2, dif_pos h2]; exact k134 H b l _
    · rw [dif_neg h2, dif_neg h2]; exact k141 H b l _

/-- The queries. -/
theorem q146 (b : Fin 2) (l : Fin 8192) (h : Fin 6) (d : Fin 96) :
    (val_main_v146 (F := Ideal) x0 x3 x4 (ix4 b l h d) : EReal) = (query A b h l d : EReal) := by
  unfold val_main_v146 query
  refine (join96 _ _ b l h d).trans ?_
  by_cases hd : d.val < 64
  · rw [dif_pos hd, dif_pos hd, val_main_v56_apply, q40 H]
    rfl
  · rw [dif_neg hd, dif_neg hd]
    exact q102 H b l h _

/-- The latent rows' keys. -/
theorem k147 (b : Fin 2) (l : Fin 8192) (h : Fin 6) (d : Fin 96) :
    (val_main_v147 (F := Ideal) x1 x2 x5 x6 (ix4 b l h d) : EReal) = (key A b h (latent l) d : EReal) := by
  unfold val_main_v147 key
  refine (join96 _ _ b l h d).trans ?_
  by_cases hd : d.val < 64
  · rw [dif_pos hd, dif_pos hd, val_main_v58_apply, kv55 H]
    rfl
  · rw [dif_neg hd, dif_neg hd, val_main_v145_apply, val_main_v144_apply]
    unfold keyRot
    rw [if_neg (by show ¬ 256 + l.val < 256; omega), show (latent l).val - 256 = l.val by show 256 + l.val - 256 = l.val; omega]
    refine Eq.trans (congrArg (val_main_v143 (F := Ideal) x2) ?_) (k143 H b l ⟨d.val - 64, by omega⟩)
    exact funext fun a => match a with
      | ⟨0, _⟩ => rfl
      | ⟨1, _⟩ => rfl
      | ⟨2, _⟩ => rfl

/-- The context rows' keys. -/
theorem k188 (b : Fin 2) (l : Fin 256) (h : Fin 6) (d : Fin 96) :
    (val_main_v188 (F := Ideal) x1 x2 x5 x6 (ix4 b l h d) : EReal) = (key A b h (context l) d : EReal) := by
  unfold val_main_v188 key
  refine (join96' _ _ b l h d).trans ?_
  by_cases hd : d.val < 64
  · rw [dif_pos hd, dif_pos hd, val_main_v183_apply, kv180 H]
    rfl
  · rw [dif_neg hd, dif_neg hd, val_main_v186_apply, val_main_v185_apply, val_main_v150_apply, krAt H]
    unfold keyRot
    rw [if_pos (show (context l).val < 256 from l.isLt)]
    rfl

/-- The keys of all rows. -/
theorem k189 (i : S2x8448x6x96.Idx) :
    (val_main_v189 (F := Ideal) x1 x2 x5 x6 i : EReal) = (key A (i 0) (i 2) (i 1) (i 3) : EReal) := by
  refine (congrArg (val_main_v189 (F := Ideal) x1 x2 x5 x6) (eq_ix4 i)).trans ?_
  have hl : (i 1).val < 8448 := (i 1).isLt
  unfold val_main_v189
  refine (joinRows96 _ _ (i 0) (i 1) (i 2) (i 3)).trans ?_
  by_cases h1 : (i 1).val < 256
  · rw [dif_pos h1]
    exact k188 H (i 0) ⟨(i 1).val, h1⟩ (i 2) (i 3)
  · rw [dif_neg h1]
    refine (k147 H (i 0) ⟨(i 1).val - 256, by omega⟩ (i 2) (i 3)).trans ?_
    exact congrArg (fun l => (key A (i 0) (i 2) l (i 3) : EReal)) (Fin.ext (by show 256 + ((i 1).val - 256) = (i 1).val; omega))

/-- The values of all rows. -/
theorem v190 (i : S2x8448x6x64.Idx) :
    (val_main_v190 (F := Ideal) x1 x5 x6 i : EReal) = (value A (i 0) (i 2) (i 1) (i 3) : EReal) := by
  refine (congrArg (val_main_v190 (F := Ideal) x1 x5 x6) (eq_ix4 i)).trans ?_
  have hl : (i 1).val < 8448 := (i 1).isLt
  unfold val_main_v190
  refine (joinRows64 _ _ (i 0) (i 1) (i 2) (i 3)).trans ?_
  by_cases h1 : (i 1).val < 256
  · rw [dif_pos h1, val_main_v184_apply, kv180 H]
    rfl
  · rw [dif_neg h1, val_main_v59_apply, kv55 H]
    exact congrArg (fun l => (value A (i 0) (i 2) l (i 3) : EReal)) (Fin.ext (by show 256 + ((i 1).val - 256) = (i 1).val; omega))

/-- The scaled scores. -/
theorem s193 (i : S2x6x8192x8448.Idx) : (val_main_v193 (F := Ideal) x0 x1 x2 x3 x4 x5 x6 i : EReal)
    = (((∑ d, query A (i 0) (i 1) (i 2) d * key A (i 0) (i 1) (i 3) d) * scale : ℝ) : EReal) := by
  rw [val_main_v193_apply, val_main_v192_apply, val_main_cst_13_apply, EReal.coe_mul, coe_sum, val_main_v191_apply]
  refine congrArg₂ (· * ·) (Finset.sum_congr rfl fun d _ => ?_) ofBits_scale
  rw [k189 H, EReal.coe_mul]
  refine congrArg₂ (· * ·) ?_ rfl
  refine (congrArg (val_main_v146 (F := Ideal) x0 x3 x4) (eq_ix4 _)).trans ((q146 H _ _ _ _).trans ?_)
  rfl

/-- A row's greatest score is a real. -/
theorem max196 (j : S2x6x8192.Idx) : ∃ M : ℝ, (val_main_v196 (F := Ideal) x0 x1 x2 x3 x4 x5 x6 j : EReal) = (M : EReal) := by
  have hr : S2x6x8192x8448.Reduces [3] S2x6x8192 := ⟨rfl, by decide, reducesTo_S2x6x8192x8448_S2x6x8192_d3.2⟩
  obtain ⟨M, hM⟩ := fold_max_real (Finset.univ : Finset (Fin 8448)) ⟨⟨0, by decide⟩, Finset.mem_univ _⟩
    fun k => (∑ d, query A (j 0) (j 1) (j 2) d * key A (j 0) (j 1) k d) * scale
  have h194 : (val_main_v194 (F := Ideal) x0 x1 x2 x3 x4 x5 x6 j : EReal) = (M : EReal) := by
    unfold val_main_v194
    refine (congrFun (hostReduce_maximumf_eq_multiReduction (F := Ideal) (φ := .f32) (s := S2x6x8192x8448)
      (val_main_v193 (F := Ideal) x0 x1 x2 x3 x4 x5 x6) 0xFF800000#32 reducesTo_S2x6x8192x8448_S2x6x8192_d3 h_S_ hr (.inl rfl) rfl) j).trans ?_
    refine (Ideal.multiReduction_maximumf_single _ _ _ _ _ _).trans ?_
    rw [show (FloatOps.ofBits .f32 0xFF800000#32 : Ideal .f32) = ⊥ from ofBits_neg_inf, ← hM]
    refine congrArg (fun f => (Finset.univ : Finset (Fin 8448)).fold max (⊥ : EReal) f) (funext fun k => ?_)
    exact s193 H _
  refine ⟨M, ?_⟩
  rw [val_main_v196_apply, val_main_v195_apply, val_main_cst_15_apply, h194]
  show max (Ideal.ofBits .f32 0xFF800000#32) (M : EReal) = _
  rw [ofBits_neg_inf]
  exact max_eq_right bot_le

/-- The attention. -/
theorem out205 (i : S2x6x64x8192.Idx) : (val_main_v205 (F := Ideal) x0 x1 x2 x3 x4 x5 x6 i : EReal) = (result A (i 0) (i 3) (i 1) (i 2) : EReal) := by
  obtain ⟨M, hM⟩ := max196 H (ix3 (i 0) (i 1) (i 3))
  unfold result
  rw [val_main_v205_apply, ← softmax_sum _ _ M]
  refine Finset.sum_congr rfl fun l _ => ?_
  rw [v190 H, mul_comm]
  refine congrArg₂ (· * ·) ?_ rfl
  have hexp : ∀ l : Fin 8448, (val_main_v200 (F := Ideal) x0 x1 x2 x3 x4 x5 x6 (ix4 (i 0) (i 1) (i 3) l) : EReal)
      = Ideal.exp ((((∑ d, query A (i 0) (i 1) (i 3) d * key A (i 0) (i 1) l d) * scale : ℝ) : EReal) - (M : EReal)) := by
    intro l
    have hs : (val_main_v193 (F := Ideal) x0 x1 x2 x3 x4 x5 x6 (ix4 (i 0) (i 1) (i 3) l) : EReal)
        = (((∑ d, query A (i 0) (i 1) (i 3) d * key A (i 0) (i 1) l d) * scale : ℝ) : EReal) := s193 H _
    have h198 : (val_main_v198 (F := Ideal) x0 x1 x2 x3 x4 x5 x6 (ix4 (i 0) (i 1) (i 3) l) : EReal) = (M : EReal) := by
      rw [val_main_v198_apply, val_main_v197_apply]
      refine Eq.trans (congrArg (val_main_v196 (F := Ideal) x0 x1 x2 x3 x4 x5 x6) ?_) hM
      exact funext fun a => match a with
        | ⟨0, _⟩ => rfl
        | ⟨1, _⟩ => rfl
        | ⟨2, _⟩ => rfl
    rw [val_main_v200_apply, val_main_v199_apply, hs, h198]
    generalize (∑ d, query A (i 0) (i 1) (i 3) d * key A (i 0) (i 1) l d) * scale = S
    rfl
  rw [val_main_v204_apply, val_main_v203_apply, val_main_v202_apply, val_main_v201_apply, val_main_cst_16_apply, ofBits_zero, zero_add]
  refine congrArg₂ Ideal.div ?_ (Finset.sum_congr rfl fun k _ => ?_)
  · exact (congrArg (val_main_v200 (F := Ideal) x0 x1 x2 x3 x4 x5 x6) (eq_ix4 _)).trans (hexp l)
  · exact (congrArg (val_main_v200 (F := Ideal) x0 x1 x2 x3 x4 x5 x6) (eq_ix4 _)).trans (hexp k)

/-- The reference's result array. -/
theorem out : (val_main_v207 (F := Ideal) x0 x1 x2 x3 x4 x5 x6 : S2x8192x384.Idx → EReal) = fun j =>
    ((result A (j 0) (j 1) ⟨(j 2).val / 64, by have h2 : (j 2).val < 384 := (j 2).isLt; omega⟩ ⟨(j 2).val % 64, Nat.mod_lt _ (by decide)⟩ : ℝ) : EReal) := by
  funext j
  have h0 : (j 0).val < 2 := (j 0).isLt
  have h1 : (j 1).val < 8192 := (j 1).isLt
  have h2 : (j 2).val < 384 := (j 2).isLt
  rw [val_main_v207_apply, val_main_v206_apply, out205 H]
  have e0 : (idx_main_v206 (idx_main_v207 j) 0 : Fin 2) = j 0 := Fin.ext (by dsimp only [idx_main_v206, idx_main_v207]; omega)
  have e1 : (idx_main_v206 (idx_main_v207 j) 3 : Fin 8192) = j 1 := Fin.ext (by dsimp only [idx_main_v206, idx_main_v207]; omega)
  have e2 : (idx_main_v206 (idx_main_v207 j) 1).val = (j 2).val / 64 := by dsimp only [idx_main_v206, idx_main_v207]; omega
  have e3 : (idx_main_v206 (idx_main_v207 j) 2).val = (j 2).val % 64 := by dsimp only [idx_main_v206, idx_main_v207]; omega
  rw [e0, e1]
  exact congrArg₂ (fun h e => (result A (j 0) (j 1) h e : EReal)) (Fin.ext e2) (Fin.ext e3)

end Cert.ReferenceIdeal.Stages
-- ==== Proof.Finite.lean ====
/- The precondition: finite argument arrays hold reals. -/
module

public import proofs.«01_k».proof.Pre_finite
public import proofs.«01_k».proof.Proof.Spec
public import Idealize.ShloMosaic.Lib.Pointwise.Select

@[expose] public section

noncomputable section

namespace Cert.Finite

open Cert.Pre_finite Cert.Attn Idealize.ShloMosaic

theorem facts : Cert.Pre_finite.Facts := by
  constructor <;> decide

theorem ofBits_inf : (FloatOps.ofBits (F := Ideal) .f32 0x7F800000#32 : EReal) = ⊤ := by
  show Ideal.ofBits .f32 0x7F800000#32 = ⊤
  simp [Ideal.ofBits, Ideal.ieee]

/-- A value whose magnitude is below +∞ is a real. -/
theorem real_of_lt (x : EReal) (h : FloatOps.cmpf (F := Ideal) (φ := .f32) .olt (FloatOps.hostAbsf (F := Ideal) (φ := .f32) x)
    (FloatOps.ofBits (F := Ideal) .f32 0x7F800000#32) = 1#1) : x = (x.toReal : EReal) := by
  rw [ofBits_inf] at h
  have h' : (max x (-x) : EReal) < ⊤ := (Ideal.cmp_olt_eq_one _ _).mp h
  refine (EReal.coe_toReal (fun e => ?_) (fun e => ?_)).symm
  · rw [e] at h'; simp at h'
  · rw [e] at h'; simp at h'

attribute [local instance] facts

/-- The reals the argument arrays hold. -/
def argsOf (x0 : S2x8448x384.Idx → EReal) (x1 : S2x8448x256.Idx → EReal) (x2 : S2x8448x32.Idx → EReal) (x3 : S384.Idx → EReal)
    (x4 : S384x576.Idx → EReal) (x5 : S256.Idx → EReal) (x6 : S256x768.Idx → EReal) : Args where
  cq b l k := (x0 (ix3 b l k)).toReal
  ckv b l k := (x1 (ix3 b l k)).toReal
  kr b l k := (x2 (ix3 b l k)).toReal
  gq k := (x3 (ix1 k)).toReal
  wq k n := (x4 (ix2 k n)).toReal
  gkv k := (x5 (ix1 k)).toReal
  wkv k n := (x6 (ix2 k n)).toReal

/-- Argument arrays meeting the precondition hold those reals. -/
theorem holds (x0 : FVec Ideal S2x8448x384 .f32) (x1 : FVec Ideal S2x8448x256 .f32) (x2 : FVec Ideal S2x8448x32 .f32) (x3 : FVec Ideal S384 .f32)
    (x4 : FVec Ideal S384x576 .f32) (x5 : FVec Ideal S256 .f32) (x6 : FVec Ideal S256x768 .f32)
    (h : (fn (F := Ideal) x0 x1 x2 x3 x4 x5 x6).1 = (fun _ => 1#1) ∧ (fn (F := Ideal) x0 x1 x2 x3 x4 x5 x6).2.1 = (fun _ => 1#1)
      ∧ (fn (F := Ideal) x0 x1 x2 x3 x4 x5 x6).2.2.1 = (fun _ => 1#1) ∧ (fn (F := Ideal) x0 x1 x2 x3 x4 x5 x6).2.2.2.1 = (fun _ => 1#1)
      ∧ (fn (F := Ideal) x0 x1 x2 x3 x4 x5 x6).2.2.2.2.1 = (fun _ => 1#1) ∧ (fn (F := Ideal) x0 x1 x2 x3 x4 x5 x6).2.2.2.2.2.1 = (fun _ => 1#1)
      ∧ (fn (F := Ideal) x0 x1 x2 x3 x4 x5 x6).2.2.2.2.2.2 = (fun _ => 1#1)) :
    (argsOf x0 x1 x2 x3 x4 x5 x6).Holds x0 x1 x2 x3 x4 x5 x6 where
  cq b l k := real_of_lt _ (congrFun h.1 _)
  ckv b l k := real_of_lt _ (congrFun h.2.1 _)
  kr b l k := real_of_lt _ (congrFun h.2.2.1 _)
  gq k := real_of_lt _ (congrFun h.2.2.2.1 _)
  wq k n := real_of_lt _ (congrFun h.2.2.2.2.1 _)
  gkv k := real_of_lt _ (congrFun h.2.2.2.2.2.1 _)
  wkv k n := real_of_lt _ (congrFun h.2.2.2.2.2.2 _)

end Cert.Finite
-- ==== Proof.Main.lean ====
/- The claims put together. -/
module

public import proofs.«01_k».proof.Defs
public import proofs.«01_k».proof.Proof.Gen.Kernel.Frame
public import proofs.«01_k».proof.Proof.Gen.ReferenceIdeal.Run
public import proofs.«01_k».proof.Proof.KernelRun
public import proofs.«01_k».proof.Proof.ReferenceValue
public import proofs.«01_k».proof.Proof.Finite

@[expose] public section

set_option maxRecDepth 16384

noncomputable section

namespace Cert.Latent

open Cert.Attn Idealize.ShloMosaic Idealize.ShloMosaic.TcCoe Idealize.SL.Sem

attribute [local instance] Cert.Kernel.Gen.facts Cert.KernelIdeal.Gen.facts Cert.ReferenceIdeal.Gen.facts Cert.Finite.facts

/-- The reference ends without a fault, its arguments as launched and its counters at zero. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- From finite arguments the kernel and the reference end with the same array. -/
theorem algebraic : Cert.algebraic_KernelIdeal_ReferenceIdeal_pre_finite := by
  intro m ρ m' ρ' hpre hargs
  have H : ∀ c, ∃ A : Args, Cert.KernelIdeal.Whole.Holds m c A := fun c => ⟨_, Cert.Finite.holds _ _ _ _ _ _ _ (hpre c)⟩
  refine ⟨fun c => (Cert.KernelIdeal.Gen.dat1 (Cert.KernelIdeal.Gen.V2 m ρ) c).arrAt 3 Cert.KernelIdeal.cfg1.N,
    Cert.KernelIdeal.Whole.run m ρ, ?_⟩
  refine (θ_run _ _ _).mono (fun r h c => ⟨(h c).1.trans ?_, (h c).2⟩) (Cert.ReferenceIdeal.Value.run (F := Ideal) m' ρ')
  obtain ⟨A, hA⟩ := H c
  obtain ⟨a0, a1, a2, a3, a4, a5, a6⟩ := hargs c
  refine (Cert.ReferenceIdeal.Read.val_main_v207_eq _).trans ?_
  have hR : A.Holds (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) := by
    rw [a0, a1, a2, a3, a4, a5, a6]
    exact hA
  exact (Cert.ReferenceIdeal.Stages.out hR).trans (Cert.KernelIdeal.Whole.out ρ hA).symm

end Cert.Latent
-- ==== Proof.Norm.lean ====
/- The norm and the adaptive norm of a row of 1024, as both sides compute them: one expression over the extended reals, no rearrangement. -/
module

public import Idealize.ShloMosaic.Lib.Pipeline.ValueKit
public import Idealize.ShloMosaic.Lib.Pointwise.Index

@[expose] public section

noncomputable section

namespace Cert.Norm

open Idealize.ShloMosaic

/-- A row over the root of its mean square, weighted. -/
def rowNorm (x g : Fin 1024 → EReal) (k : Fin 1024) : EReal :=
  x k * Ideal.rsqrt (Ideal.div (∑ j, x j * x j) (Ideal.ofBits .f32 0x44800000#32) + Ideal.ofBits .f32 0x358637BD#32) * g k

/-- A normed row, scaled by one plus `scale` and moved by `shift`. -/
def modulated (x g shift scale : Fin 1024 → EReal) (k : Fin 1024) : EReal :=
  rowNorm x g k * (Ideal.ofBits .f32 0x3F800000#32 + scale k) + shift k

theorem ofBits_zero : Ideal.ofBits .f32 0#32 = 0 := by
  simp [Ideal.ofBits, Ideal.ieee]

/-- A sum the host starts from the zero word, in the norm. -/
theorem norm_host (x g : Fin 1024 → EReal) (k : Fin 1024) :
    x k * Ideal.rsqrt (Ideal.div (Ideal.ofBits .f32 0#32 + ∑ j, x j * x j) (Ideal.ofBits .f32 0x44800000#32) + Ideal.ofBits .f32 0x358637BD#32) * g k
      = rowNorm x g k := by
  rw [ofBits_zero, zero_add]
  rfl

/-- An index of a block of one batch element. -/
theorem eq_row {n p : ℕ} (x : (⟨3, ![1, n, p]⟩ : Shape).Idx) : x = ix3 (0 : Fin 1) (x 1) (x 2) :=
  (eq_ix3 x).trans (congrArg (fun a : Fin 1 => ix3 a (x 1) (x 2)) (Subsingleton.elim _ _))

end Cert.Norm
-- ==== Proof.InSpec.lean ====
/- The input projection over its arguments: what both sides compute. -/
module

public import proofs.«01_k».proof.Proof.Norm
public import proofs.«01_k».proof.Proof.Spec

@[expose] public section

noncomputable section

namespace Cert.InProj

open Cert.Norm Cert.Attn Idealize.ShloMosaic

/-- The modulation row of a token: the context's for the first 256, the latent one's after. -/
def seg (i : Fin 8448) : Fin 2 := if i.val < 256 then 0 else 1

variable (s : (⟨3, ![2, 8448, 1024]⟩ : Shape).Idx → EReal) (mod : (⟨4, ![2, 2, 6, 1024]⟩ : Shape).Idx → EReal)
  (g : (⟨1, ![1024]⟩ : Shape).Idx → EReal) (w : (⟨2, ![1024, 2208]⟩ : Shape).Idx → EReal)

/-- A token's normed and modulated row. -/
def tokenRow (b : Fin 2) (i : Fin 8448) (k : Fin 1024) : EReal :=
  modulated (fun j => s (ix3 b i j)) (fun j => g (ix1 j)) (fun j => mod (ix4 b (seg i) 0 j)) (fun j => mod (ix4 b (seg i) 1 j)) k

/-- Column `n` of a token's projection. -/
def proj (b : Fin 2) (i : Fin 8448) (n : Fin 2208) : EReal := ∑ k, tokenRow s mod g b i k * w (ix2 k n)

/-- The columns of the rotary key, then their partners in the rotation. -/
def krCol (n : Fin 64) : Fin 2208 :=
  if h : n.val < 32 then ⟨1408 + n.val, by omega⟩ else ⟨1408 + (partner ⟨n.val - 32, by omega⟩).val, by have := (partner ⟨n.val - 32, by omega⟩).isLt; omega⟩

end Cert.InProj
-- ==== Proof.InKernel.lean ====
/- The input projection call: its six output arrays over the arguments. -/
module

public import proofs.«01_k».proof.Proof.InSpec
public import proofs.«01_k».proof.Proof.Gen.Kernel2Ideal.Value
public import Idealize.ShloMosaic.Lib.StableHlo.ReadAt

@[expose] public section

set_option maxRecDepth 16384

noncomputable section

namespace Cert.Kernel2Ideal.InProj

open Cert.Kernel2Ideal Cert.Kernel2Ideal.Gen Cert.Norm Cert.Attn Cert.InProj Idealize.ShloMosaic
open Idealize.ShloMosaic.TcCoe Idealize.SL.Sem

variable (m : (ℓ : Loc nD τ sig) → Buf (Elt Ideal) ℓ) (c : Dev nD)

/-- One row of one block, before it is cut into the outputs. -/
theorem pay_row (x0 : Vec Ideal S1x1x6x1024 .f32) (x1 : Vec Ideal S1x256x1024 .f32) (x2 : Vec Ideal S1x1024 .f32)
    (x3 : Vec Ideal S1024x2240 .bf16) (r : Fin 256) (n : Fin 2240) :
    (k0_pay6 (F := Ideal) x0 x1 x2 x3 : _ → EReal) (ix2 r n) =
      ∑ k, modulated (fun j => x1 (ix3 0 r j)) (fun j => x2 (ix2 0 j)) (fun j => x0 (ix4 0 0 0 j)) (fun j => x0 (ix4 0 0 1 j)) k
        * x3 (ix2 k n) := by
  unfold modulated rowNorm
  pointwise [k0_pay6]

theorem idx : ∀ t : Fin cfg0.N, win0_0.index t = ![t.val / 33, t.val % 33, 0] ∧ win0_1.index t = ![t.val / 33, min (t.val % 33) 1, 0, 0]
    ∧ win0_2.index t = ![0, 0] ∧ win0_3.index t = ![0, 0]
    ∧ win0_4.index t = ![t.val / 33, t.val % 33, 0] ∧ win0_5.index t = ![t.val / 33, t.val % 33, 0] ∧ win0_6.index t = ![t.val / 33, t.val % 33, 0]
    ∧ win0_7.index t = ![t.val / 33, t.val % 33, 0] ∧ win0_8.index t = ![t.val / 33, t.val % 33, 0] ∧ win0_9.index t = ![t.val / 33, t.val % 33, 0] :=
  (by decide +kernel : ∀ t : Fin grid0.N, _)

theorem read_s (t : Fin cfg0.N) (x : S1x256x1024.Idx) (j : S2x8448x1024.Idx) (h0 : (j 0).val = t.val / 33 + (x 0).val)
    (h1 : (j 1).val = t.val % 33 * 256 + (x 1).val) (h2 : (j 2).val = (x 2).val) :
    (iblk m c 0 t : S1x256x1024.Idx → EReal) x = V m c main_arg0 j := by
  blk_ext! [iblk, idx t]

theorem read_mod (t : Fin cfg0.N) (x : S1x1x6x1024.Idx) (j : S2x2x6x1024.Idx) (h0 : (j 0).val = t.val / 33 + (x 0).val)
    (h1 : (j 1).val = min (t.val % 33) 1 + (x 1).val) (h2 : (j 2).val = (x 2).val) (h3 : (j 3).val = (x 3).val) :
    (iblk m c 1 t : S1x1x6x1024.Idx → EReal) x = V m c main_arg1 j := by
  blk_ext! [iblk, idx t]

theorem read_g (t : Fin cfg0.N) (x j : S1x1024.Idx) (h0 : (j 0).val = (x 0).val) (h1 : (j 1).val = (x 1).val) :
    (iblk m c 2 t : S1x1024.Idx → EReal) x = V m c main_v10 j := by
  blk_ext! [iblk, idx t]

theorem read_w (t : Fin cfg0.N) (x j : S1024x2240.Idx) (h0 : (j 0).val = (x 0).val) (h1 : (j 1).val = (x 1).val) :
    (iblk m c 3 t : S1024x2240.Idx → EReal) x = V m c main_v9 j := by
  blk_ext! [iblk, idx t]

theorem g_apply (k : Fin 1024) : (V m c main_v10 : S1x1024.Idx → EReal) (ix2 0 k)
    = (m ((c : Thread nD τ).loc main_arg2) : S1024.Idx → EReal) (ix1 k) := by
  unfold V
  after_reads_at

/-- The dimension numbers of a gather along the last axis of `[A, N]`, one index per result lane. -/
abbrev laneDims (A N : ℕ) (wf : GatherDims.WF ⟨2, ![A, N]⟩ ⟨2, ![N, 1]⟩ ⟨2, ![A, N]⟩ [0] [1] [] [1] [] 1 ![A, 1]) :
    GatherDims ⟨2, ![A, N]⟩ ⟨2, ![N, 1]⟩ ⟨2, ![A, N]⟩ where
  offsetDims := [0]
  collapsedSliceDims := [1]
  operandBatchingDims := []
  startIndicesBatchingDims := []
  startIndexMap := [1]
  indexVectorDim := 1
  sliceSizes := ![A, 1]
  wf := wf

theorem gather_lane {α : Type} {A N : ℕ} (hN : 0 < N)
    (wf : GatherDims.WF ⟨2, ![A, N]⟩ ⟨2, ![N, 1]⟩ ⟨2, ![A, N]⟩ [0] [1] [] [1] [] 1 ![A, 1])
    (x : (⟨2, ![A, N]⟩ : Shape).Idx → α) (idx : IVec ⟨2, ![N, 1]⟩ 32) (a : Fin A) (j : Fin N) :
    Host.gather (laneDims A N wf) x idx (ix2 a j) = x (ix2 a ⟨min (idx (ix2 j 0)).toInt.toNat (N - 1), by omega⟩) := by
  unfold Host.gather
  refine congrArg x (funext fun d => Fin.ext ?_)
  show (laneDims A N wf).start (ix2 a j) idx d + (laneDims A N wf).batchCoord (ix2 a j) d
      + (laneDims A N wf).offCoord (ix2 a j) d = _
  rw [GatherDims.batchCoord_eq_zero _ _ _ List.not_mem_nil]
  match d with
  | ⟨0, _⟩ =>
    have hs : (laneDims A N wf).start (ix2 a j) idx 0 = 0 := by
      unfold GatherDims.start; rw [dif_neg (show (0 : Fin 2) ∉ ([1] : List (Fin 2)) by decide)]
    refine (congrArg (· + 0 + (laneDims A N wf).offCoord (ix2 a j) 0) hs).trans ?_
    unfold GatherDims.offCoord
    rw [dif_pos ((GatherDims.mem_sKept _ _).mpr ⟨show (0 : Fin 2) ∉ ([1] : List (Fin 2)) by decide, List.not_mem_nil⟩)]
    exact (Nat.zero_add _).trans rfl
  | ⟨1, _⟩ =>
    have ho : (laneDims A N wf).offCoord (ix2 a j) 1 = 0 :=
      GatherDims.offCoord_eq_zero _ _ _ (fun h => ((GatherDims.mem_sKept _ _).mp h).1 (List.mem_singleton.mpr rfl))
    refine (congrArg ((laneDims A N wf).start (ix2 a j) idx 1 + 0 + ·) ho).trans ?_
    unfold GatherDims.start
    rw [dif_pos (show (1 : Fin 2) ∈ (laneDims A N wf).startIndexMap from List.mem_singleton.mpr rfl)]
    have hsi : (laneDims A N wf).siIdx (ix2 a j) ⟨List.idxOf (1 : Fin 2) (laneDims A N wf).startIndexMap,
        List.idxOf_lt_length_iff.2 (List.mem_singleton.mpr rfl)⟩ = ix2 j 0 := by
      funext c; refine Fin.ext ?_
      match c with
      | ⟨0, _⟩ => rfl
      | ⟨1, _⟩ => rfl
    rw [hsi]
    rfl

/-- The gather's indices, as a tensor. -/
abbrev partnerIdx : IVec S32x1 32 :=
  broadcastInDim S32x1 ![0] bcast_S32_S32x1_0
    (select (constantI S32 1 0#1) (addi (fun i => lit0 (S32.rowMajor i)) (broadcastInDim S32 ![] bcast_S_S32 (constantI S_ 32 32#32)))
      fun i => lit0 (S32.rowMajor i))

theorem partnerIdx_apply (j : Fin 32) : partnerIdx (ix2 j 0) = lit0 j := by
  unfold partnerIdx
  pointwise
  exact congrArg lit0 (Fin.ext (Shape.rowMajor_val_one _))

theorem partner_lit : ∀ j : Fin 32, min (lit0 j).toInt.toNat (32 - 1) = (partner j).val := by decide +kernel

theorem gather_w (x : S1024x32.Idx → EReal) (b : Fin 1024) (j : Fin 32) :
    Host.gather gather_S1024x32_S32x1_S1024x32_0_1_n_n_1_1_10241 x partnerIdx (ix2 b j) = x (ix2 b (partner j)) := by
  refine (gather_lane (by decide) gather_S1024x32_S32x1_S1024x32_0_1_n_n_1_1_10241.wf x partnerIdx b j).trans ?_
  refine congrArg (fun n => x (ix2 b n)) (Fin.ext ?_)
  show min (partnerIdx (ix2 j 0)).toInt.toNat (32 - 1) = _
  rw [partnerIdx_apply]
  exact partner_lit j

/-- Which column of the weights a column of the arranged weights is. -/
def column (n : Fin 2240) : Fin 2208 :=
  if h : n.val < 1408 then ⟨n.val, by omega⟩ else if h : n.val < 2176 then ⟨n.val + 32, by omega⟩
  else krCol ⟨n.val - 2176, by omega⟩

theorem column_low (p : Fin 2208) (n : Fin 2240) (h : n.val < 1408) (e : p.val = n.val) : p = column n := by
  unfold column
  rw [dif_pos h]
  exact Fin.ext e

theorem column_mid (p : Fin 2208) (n : Fin 2240) (h : 1408 ≤ n.val) (h' : n.val < 2176) (e : p.val = n.val + 32) : p = column n := by
  unfold column
  rw [dif_neg (by omega), dif_pos h']
  exact Fin.ext e

theorem column_kr (q : Fin 64) (n : Fin 2240) (e : n.val = 2176 + q.val) : krCol q = column n := by
  unfold column
  rw [dif_neg (by omega), dif_neg (by omega)]
  exact congrArg krCol (Fin.ext (by show q.val = n.val - 2176; omega))

theorem w_apply (k : Fin 1024) (n : Fin 2240) : (V m c main_v9 : S1024x2240.Idx → EReal) (ix2 k n)
    = (m ((c : Thread nD τ).loc main_arg3) : S1024x2208.Idx → EReal) (ix2 k (column n)) := by
  unfold V
  after_reads_at
  unfold column krCol
  by_cases h : n.val < 1408
  · rw [dif_pos h, dif_pos h]
    after_reads_at
  rw [dif_neg h, dif_neg h]
  by_cases h1 : n.val < 2176
  · rw [dif_pos (show n.val - 1408 < 768 by omega), dif_pos h1]
    after_reads_at
    exact congrArg (m ((c : Thread nD τ).loc main_arg3) : S1024x2208.Idx → EReal) (congrArg (ix2 k) (Fin.ext (by simp; omega)))
  rw [dif_neg (show ¬ n.val - 1408 < 768 by omega), dif_neg h1]
  by_cases h2 : n.val - 2176 < 32
  · rw [dif_pos (show n.val - 1408 - 768 < 32 by omega), dif_pos h2]
    after_reads_at
    exact congrArg (m ((c : Thread nD τ).loc main_arg3) : S1024x2208.Idx → EReal) (congrArg (ix2 k) (Fin.ext (by simp; omega)))
  rw [dif_neg (show ¬ n.val - 1408 - 768 < 32 by omega), dif_neg h2]
  after_reads_at
  refine (gather_w _ k _).trans ?_
  pointwise
  exact congrArg (m ((c : Thread nD τ).loc main_arg3) : S1024x2208.Idx → EReal) (congrArg (ix2 k) (Fin.ext (by simp [Nat.sub_sub])))

/-- A row of one block, by column of the arranged weights. -/
def blockRow (x0 : Vec Ideal S1x256x1024 .f32) (x1 : Vec Ideal S1x1x6x1024 .f32) (x2 : Vec Ideal S1x1024 .f32)
    (x3 : Vec Ideal S1024x2240 .bf16) (r : Fin 256) (n : Fin 2240) : EReal :=
  ∑ k, modulated (fun j => x0 (ix3 0 r j)) (fun j => x2 (ix2 0 j)) (fun j => x1 (ix4 0 0 0 j)) (fun j => x1 (ix4 0 0 1 j)) k
    * x3 (ix2 k n)

theorem loaded (x0 : Vec Ideal S1x256x1024 .f32) (x1 : Vec Ideal S1x1x6x1024 .f32) (x2 : Vec Ideal S1x1024 .f32)
    (x3 : Vec Ideal S1024x2240 .bf16) : (k0_pay6 (F := Ideal) (View.ld x1 r0_0) (View.ld x0 r0_1) (View.ld x2 r0_2) (View.ld x3 r0_3)
      : S256x2240.Idx → EReal) = fun i => blockRow x0 x1 x2 x3 (i 0) (i 1) := by
  have l0 : View.ld x0 r0_1 = x0 := View.ld_unit_zero (by decide) _ _
  have l1 : View.ld x1 r0_0 = x1 := View.ld_unit_zero (by decide) _ _
  have l2 : View.ld x2 r0_2 = x2 := View.ld_unit_zero (by decide) _ _
  have l3 : View.ld x3 r0_3 = x3 := View.ld_unit_zero (by decide) _ _
  rw [l0, l1, l2, l3]
  funext i
  rw [eq_ix2 i]
  exact pay_row x1 x0 x2 x3 (i 0) (i 1)

theorem block_row (t : Fin cfg0.N) (r : Fin 256) (n : Fin 2240) (b : Fin 2) (i : Fin 8448) (p : Fin 2208) (hb : b.val = t.val / 33)
    (hi : i.val = t.val % 33 * 256 + r.val) (hp : p = column n) :
    blockRow (iblk m c 0 t) (iblk m c 1 t) (iblk m c 2 t) (iblk m c 3 t) r n
      = proj (m ((c : Thread nD τ).loc main_arg0)) (m ((c : Thread nD τ).loc main_arg1)) (m ((c : Thread nD τ).loc main_arg2))
          (m ((c : Thread nD τ).loc main_arg3)) b i p := by
  subst hp
  unfold blockRow proj tokenRow
  have hr := r.isLt
  have hs : (seg i).val = min (t.val % 33) 1 := by
    unfold seg
    by_cases h : i.val < 256
    · rw [if_pos h]; show 0 = _; omega
    · rw [if_neg h]; show 1 = _; omega
  have hS : (fun j => (iblk m c 0 t : S1x256x1024.Idx → EReal) (ix3 0 r j))
      = fun j => (m ((c : Thread nD τ).loc main_arg0) : S2x8448x1024.Idx → EReal) (ix3 b i j) := funext fun j =>
    (read_s m c t _ (ix3 b i j) (by exact hb) (by exact hi) rfl).trans (congrFun (V_main_arg0 m c) _)
  have hM : ∀ a : Fin 6, (fun j => (iblk m c 1 t : S1x1x6x1024.Idx → EReal) (ix4 0 0 a j))
      = fun j => (m ((c : Thread nD τ).loc main_arg1) : S2x2x6x1024.Idx → EReal) (ix4 b (seg i) a j) := fun a => funext fun j =>
    (read_mod m c t _ (ix4 b (seg i) a j) (by exact hb) (by exact hs) rfl rfl).trans (congrFun (V_main_arg1 m c) _)
  have hG : (fun j => (iblk m c 2 t : S1x1024.Idx → EReal) (ix2 0 j))
      = fun j => (m ((c : Thread nD τ).loc main_arg2) : S1024.Idx → EReal) (ix1 j) := funext fun j =>
    (read_g m c t _ (ix2 0 j) rfl rfl).trans (g_apply m c j)
  rw [hS, hM 0, hM 1, hG]
  exact Finset.sum_congr rfl fun k _ => congrArg (_ * ·) ((read_w m c t _ (ix2 k n) rfl rfl).trans (w_apply m c k n))

theorem out_row4 (x0 : Vec Ideal S1x256x1024 .f32) (x1 : Vec Ideal S1x1x6x1024 .f32) (x2 : Vec Ideal S1x1024 .f32)
    (x3 : Vec Ideal S1024x2240 .bf16) (y : S1x256x384.Idx) :
    (out0_4 (F := Ideal) x0 x1 x2 x3 : S1x256x384.Idx → EReal) y
      = blockRow x0 x1 x2 x3 (y 1) ⟨0 + (y 2).val, by have : (y 2).val < 384 := (y 2).isLt; omega⟩ := by
  unfold out0_4
  canon_tiles x h
  all_goals
    unfold k0_pay7
    rw [loaded]
    generalize blockRow x0 x1 x2 x3 = B
    pointwise
    exact congrArg₂ B (Fin.ext h1.symm) (Fin.ext h2.symm)

/-- The lru gate input. -/
theorem array4 : (dats m 0 c).arrAt 4 cfg0.N = fun j : S2x8448x384.Idx =>
    proj (m ((c : Thread nD τ).loc main_arg0)) (m ((c : Thread nD τ).loc main_arg1)) (m ((c : Thread nD τ).loc main_arg2))
      (m ((c : Thread nD τ).loc main_arg3)) (j 0) (j 1) (⟨(j 2).val, by have : (j 2).val < 384 := (j 2).isLt; omega⟩) := by
  refine (dats m 0 c).arrAt_eq_of_covers 4 _ (by decide +kernel) fun t hf y => ?_
  blk_simp
  rw [after0_4]
  have y0 : (y 0).val < 1 := (y 0).isLt
  have y2 : (y 2).val < 384 := (y 2).isLt
  refine (out_row4 _ _ _ _ _).trans (block_row m c t _ _ _ _ _ ?_ ?_ ?_)
  · blk_simp [idx t]
  · blk_simp [idx t]
  · exact column_low _ _ (by show _ + (y 2).val < 1408; omega) (by blk_simp [idx t])

theorem out_row5 (x0 : Vec Ideal S1x256x1024 .f32) (x1 : Vec Ideal S1x1x6x1024 .f32) (x2 : Vec Ideal S1x1024 .f32)
    (x3 : Vec Ideal S1024x2240 .bf16) (y : S1x256x384.Idx) :
    (out0_5 (F := Ideal) x0 x1 x2 x3 : S1x256x384.Idx → EReal) y
      = blockRow x0 x1 x2 x3 (y 1) ⟨384 + (y 2).val, by have : (y 2).val < 384 := (y 2).isLt; omega⟩ := by
  unfold out0_5
  canon_tiles x h
  all_goals
    unfold k0_pay1 k0_pay8
    rw [loaded]
    generalize blockRow x0 x1 x2 x3 = B
    pointwise
    exact congrArg₂ B (Fin.ext h1.symm) (Fin.ext (congrArg (384 + ·) h2.symm))

/-- The gate. -/
theorem array5 : (dats m 0 c).arrAt 5 cfg0.N = fun j : S2x8448x384.Idx =>
    proj (m ((c : Thread nD τ).loc main_arg0)) (m ((c : Thread nD τ).loc main_arg1)) (m ((c : Thread nD τ).loc main_arg2))
      (m ((c : Thread nD τ).loc main_arg3)) (j 0) (j 1) (⟨384 + (j 2).val, by have : (j 2).val < 384 := (j 2).isLt; omega⟩) := by
  refine (dats m 0 c).arrAt_eq_of_covers 5 _ (by decide +kernel) fun t hf y => ?_
  blk_simp
  rw [after0_5]
  have y0 : (y 0).val < 1 := (y 0).isLt
  have y2 : (y 2).val < 384 := (y 2).isLt
  refine (out_row5 _ _ _ _ _).trans (block_row m c t _ _ _ _ _ ?_ ?_ ?_)
  · blk_simp [idx t]
  · blk_simp [idx t]
  · exact column_low _ _ (by show _ + (y 2).val < 1408; omega) (by blk_simp [idx t])

theorem out_row6 (x0 : Vec Ideal S1x256x1024 .f32) (x1 : Vec Ideal S1x1x6x1024 .f32) (x2 : Vec Ideal S1x1024 .f32)
    (x3 : Vec Ideal S1024x2240 .bf16) (y : S1x256x384.Idx) :
    (out0_6 (F := Ideal) x0 x1 x2 x3 : S1x256x384.Idx → EReal) y
      = blockRow x0 x1 x2 x3 (y 1) ⟨768 + (y 2).val, by have : (y 2).val < 384 := (y 2).isLt; omega⟩ := by
  unfold out0_6
  canon_tiles x h
  all_goals
    unfold k0_pay2 k0_pay9
    rw [loaded]
    generalize blockRow x0 x1 x2 x3 = B
    pointwise
    exact congrArg₂ B (Fin.ext h1.symm) (Fin.ext (congrArg (768 + ·) h2.symm))

/-- The query latent. -/
theorem array6 : (dats m 0 c).arrAt 6 cfg0.N = fun j : S2x8448x384.Idx =>
    proj (m ((c : Thread nD τ).loc main_arg0)) (m ((c : Thread nD τ).loc main_arg1)) (m ((c : Thread nD τ).loc main_arg2))
      (m ((c : Thread nD τ).loc main_arg3)) (j 0) (j 1) (⟨768 + (j 2).val, by have : (j 2).val < 384 := (j 2).isLt; omega⟩) := by
  refine (dats m 0 c).arrAt_eq_of_covers 6 _ (by decide +kernel) fun t hf y => ?_
  blk_simp
  rw [after0_6]
  have y0 : (y 0).val < 1 := (y 0).isLt
  have y2 : (y 2).val < 384 := (y 2).isLt
  refine (out_row6 _ _ _ _ _).trans (block_row m c t _ _ _ _ _ ?_ ?_ ?_)
  · blk_simp [idx t]
  · blk_simp [idx t]
  · exact column_low _ _ (by show _ + (y 2).val < 1408; omega) (by blk_simp [idx t])

theorem out_row7 (x0 : Vec Ideal S1x256x1024 .f32) (x1 : Vec Ideal S1x1x6x1024 .f32) (x2 : Vec Ideal S1x1024 .f32)
    (x3 : Vec Ideal S1024x2240 .bf16) (y : S1x256x256.Idx) :
    (out0_7 (F := Ideal) x0 x1 x2 x3 : S1x256x256.Idx → EReal) y
      = blockRow x0 x1 x2 x3 (y 1) ⟨1152 + (y 2).val, by have : (y 2).val < 256 := (y 2).isLt; omega⟩ := by
  unfold out0_7
  canon_tiles x h
  all_goals
    unfold k0_pay3 k0_pay9
    rw [loaded]
    generalize blockRow x0 x1 x2 x3 = B
    pointwise
    exact congrArg₂ B (Fin.ext h1.symm) (Fin.ext (congrArg (1152 + ·) h2.symm))

/-- The key and value latent. -/
theorem array7 : (dats m 0 c).arrAt 7 cfg0.N = fun j : S2x8448x256.Idx =>
    proj (m ((c : Thread nD τ).loc main_arg0)) (m ((c : Thread nD τ).loc main_arg1)) (m ((c : Thread nD τ).loc main_arg2))
      (m ((c : Thread nD τ).loc main_arg3)) (j 0) (j 1) (⟨1152 + (j 2).val, by have : (j 2).val < 256 := (j 2).isLt; omega⟩) := by
  refine (dats m 0 c).arrAt_eq_of_covers 7 _ (by decide +kernel) fun t hf y => ?_
  blk_simp
  rw [after0_7]
  have y0 : (y 0).val < 1 := (y 0).isLt
  have y2 : (y 2).val < 256 := (y 2).isLt
  refine (out_row7 _ _ _ _ _).trans (block_row m c t _ _ _ _ _ ?_ ?_ ?_)
  · blk_simp [idx t]
  · blk_simp [idx t]
  · exact column_low _ _ (by show _ + (y 2).val < 1408; omega) (by blk_simp [idx t])

theorem out_row8 (x0 : Vec Ideal S1x256x1024 .f32) (x1 : Vec Ideal S1x1x6x1024 .f32) (x2 : Vec Ideal S1x1024 .f32)
    (x3 : Vec Ideal S1024x2240 .bf16) (y : S1x256x768.Idx) :
    (out0_8 (F := Ideal) x0 x1 x2 x3 : S1x256x768.Idx → EReal) y
      = blockRow x0 x1 x2 x3 (y 1) ⟨1408 + (y 2).val, by have : (y 2).val < 768 := (y 2).isLt; omega⟩ := by
  unfold out0_8
  canon_tiles x h
  all_goals
    unfold k0_pay4 k0_pay9
    rw [loaded]
    generalize blockRow x0 x1 x2 x3 = B
    pointwise
    exact congrArg₂ B (Fin.ext h1.symm) (Fin.ext (congrArg (1408 + ·) h2.symm))

/-- The Hyena input. -/
theorem array8 : (dats m 0 c).arrAt 8 cfg0.N = fun j : S2x8448x768.Idx =>
    proj (m ((c : Thread nD τ).loc main_arg0)) (m ((c : Thread nD τ).loc main_arg1)) (m ((c : Thread nD τ).loc main_arg2))
      (m ((c : Thread nD τ).loc main_arg3)) (j 0) (j 1) (⟨1440 + (j 2).val, by have : (j 2).val < 768 := (j 2).isLt; omega⟩) := by
  refine (dats m 0 c).arrAt_eq_of_covers 8 _ (by decide +kernel) fun t hf y => ?_
  blk_simp
  rw [after0_8]
  have y0 : (y 0).val < 1 := (y 0).isLt
  have y2 : (y 2).val < 768 := (y 2).isLt
  refine (out_row8 _ _ _ _ _).trans (block_row m c t _ _ _ _ _ ?_ ?_ ?_)
  · blk_simp [idx t]
  · blk_simp [idx t]
  · exact column_mid _ _ (by show 1408 ≤ _ + (y 2).val; omega) (by show _ + (y 2).val < 2176; omega) (by blk_simp [idx t]; show 1440 + (y 2).val = 1408 + (y 2).val + 32; omega)

theorem out_row9 (x0 : Vec Ideal S1x256x1024 .f32) (x1 : Vec Ideal S1x1x6x1024 .f32) (x2 : Vec Ideal S1x1024 .f32)
    (x3 : Vec Ideal S1024x2240 .bf16) (y : S1x256x64.Idx) :
    (out0_9 (F := Ideal) x0 x1 x2 x3 : S1x256x64.Idx → EReal) y
      = blockRow x0 x1 x2 x3 (y 1) ⟨2176 + (y 2).val, by have : (y 2).val < 64 := (y 2).isLt; omega⟩ := by
  unfold out0_9
  canon_tiles x h
  all_goals
    unfold k0_pay5 k0_pay9
    rw [loaded]
    generalize blockRow x0 x1 x2 x3 = B
    pointwise
    exact congrArg₂ B (Fin.ext h1.symm) (Fin.ext (congrArg (2176 + ·) h2.symm))

/-- The rotary key and its partners. -/
theorem array9 : (dats m 0 c).arrAt 9 cfg0.N = fun j : S2x8448x64.Idx =>
    proj (m ((c : Thread nD τ).loc main_arg0)) (m ((c : Thread nD τ).loc main_arg1)) (m ((c : Thread nD τ).loc main_arg2))
      (m ((c : Thread nD τ).loc main_arg3)) (j 0) (j 1) (krCol (j 2)) := by
  refine (dats m 0 c).arrAt_eq_of_covers 9 _ (by decide +kernel) fun t hf y => ?_
  blk_simp
  rw [after0_9]
  have y0 : (y 0).val < 1 := (y 0).isLt
  have y2 : (y 2).val < 64 := (y 2).isLt
  refine (out_row9 _ _ _ _ _).trans (block_row m c t _ _ _ _ _ ?_ ?_ ?_)
  · blk_simp [idx t]
  · blk_simp [idx t]
  · exact column_kr _ _ (by blk_simp [idx t])

end Cert.Kernel2Ideal.InProj
-- ==== Proof.InReference.lean ====
/- The input projection in the reference: its six results over the arguments. -/
module

public import proofs.«01_k».proof.Proof.InSpec
public import proofs.«01_k».proof.Proof.Gen.Reference2Ideal.Read

@[expose] public section

set_option maxRecDepth 16384

noncomputable section

namespace Cert.Reference2Ideal.InProj

open Cert.Reference2Ideal Cert.Reference2Ideal.Gen Cert.Reference2Ideal.Read Cert.Norm Cert.Attn Cert.InProj Idealize.ShloMosaic

variable (x0 : S2x8448x1024.Idx → EReal) (x1 : S2x2x6x1024.Idx → EReal) (x2 : S1024.Idx → EReal) (x3 : S1024x2208.Idx → EReal)

theorem latent_row (b : Fin 2) (i : Fin 8192) (k : Fin 1024) : (val_main_v24 (F := Ideal) x0 x1 x2 : S2x8192x1024.Idx → EReal) (ix3 b i k)
    = tokenRow x0 x1 x2 b ⟨256 + i.val, by omega⟩ k := by
  simp only [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply,
    val_main_v3_apply, val_main_v2_apply, val_main_v1_apply,
    val_main_cst_apply, val_main_cst_0_apply, val_main_cst_1_apply, val_main_cst_2_apply]
  unfold tokenRow
  have hs : seg ⟨256 + i.val, by omega⟩ = 1 := by unfold seg; rw [if_neg (by show ¬ 256 + i.val < 256; omega)]
  rw [hs]
  unfold modulated
  have e0 : idx_main_v1 (ix3 b i k) = ix3 b (⟨256 + i.val, by omega⟩ : Fin 8448) k := eq_ix3 _
  have e1 : ∀ j : Fin 1024, idx_main_v1 (idx_main_v7 (idx_main_v8 (idx_main_v14 (ix3 b i k))) j) = ix3 b (⟨256 + i.val, by omega⟩ : Fin 8448) j :=
    fun j => eq_ix3 _
  have e2 : idx_main_v16 (idx_main_v17 (ix3 b i k)) = ix1 k := eq_ix1 _
  have e3 : idx_main_v2 (idx_main_v3 (idx_main_v23 (ix3 b i k))) = ix4 b 1 0 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  have e4 : idx_main_v4 (idx_main_v5 (idx_main_v21 (ix3 b i k))) = ix4 b 1 1 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  simp only [e0, e1, e2, e3, e4]
  exact congrArg₂ (· + ·) (congrArg₂ (· * ·) (norm_host (fun j => x0 (ix3 b ⟨256 + i.val, by omega⟩ j)) (fun j => x2 (ix1 j)) k) rfl) rfl

theorem context_row (b : Fin 2) (i : Fin 256) (k : Fin 1024) : (val_main_v47 (F := Ideal) x0 x1 x2 : S2x256x1024.Idx → EReal) (ix3 b i k)
    = tokenRow x0 x1 x2 b ⟨i.val, by omega⟩ k := by
  simp only [val_main_v47_apply, val_main_v46_apply, val_main_v45_apply, val_main_v44_apply, val_main_v43_apply, val_main_v42_apply, val_main_v41_apply,
    val_main_v40_apply, val_main_v39_apply, val_main_v38_apply, val_main_v37_apply, val_main_v36_apply, val_main_v35_apply, val_main_v34_apply,
    val_main_v33_apply, val_main_v32_apply, val_main_v31_apply, val_main_v30_apply, val_main_v29_apply, val_main_v28_apply, val_main_v27_apply,
    val_main_v26_apply, val_main_v25_apply, val_main_v0_apply,
    val_main_cst_3_apply, val_main_cst_4_apply, val_main_cst_5_apply, val_main_cst_6_apply]
  unfold tokenRow
  have hs : seg ⟨i.val, by omega⟩ = 0 := by unfold seg; rw [if_pos (by show i.val < 256; omega)]
  rw [hs]
  unfold modulated
  have e0 : idx_main_v0 (ix3 b i k) = ix3 b (⟨i.val, by omega⟩ : Fin 8448) k := eq_ix3 _
  have e1 : ∀ j : Fin 1024, idx_main_v0 (idx_main_v30 (idx_main_v31 (idx_main_v37 (ix3 b i k))) j) = ix3 b (⟨i.val, by omega⟩ : Fin 8448) j :=
    fun j => eq_ix3 _
  have e2 : idx_main_v39 (idx_main_v40 (ix3 b i k)) = ix1 k := eq_ix1 _
  have e3 : idx_main_v25 (idx_main_v26 (idx_main_v46 (ix3 b i k))) = ix4 b 0 0 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  have e4 : idx_main_v27 (idx_main_v28 (idx_main_v44 (ix3 b i k))) = ix4 b 0 1 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  simp only [e0, e1, e2, e3, e4]
  exact congrArg₂ (· + ·) (congrArg₂ (· * ·) (norm_host (fun j => x0 (ix3 b ⟨i.val, by omega⟩ j)) (fun j => x2 (ix1 j)) k) rfl) rfl

/-- The whole projection of every token. -/
theorem projection (b : Fin 2) (i : Fin 8448) (n : Fin 2208) : (val_main_v50 (F := Ideal) x0 x1 x2 x3 : S2x8448x2208.Idx → EReal) (ix3 b i n)
    = proj x0 x1 x2 x3 b i n := by
  unfold val_main_v50 proj
  pointwise
  by_cases h : i.val < 256
  · rw [dif_pos h]
    refine (val_main_v48_apply x0 x1 x2 x3 _).trans (Finset.sum_congr rfl fun k _ => ?_)
    have el : lidx_main_v48 (ix3 b (⟨i.val, h⟩ : Fin 256) n) k = ix3 b (⟨i.val, h⟩ : Fin 256) k := eq_ix3 _
    have er : ridx_main_v48 (ix3 b (⟨i.val, h⟩ : Fin 256) n) k = ix2 k n := eq_ix2 _
    rw [el, er]
    exact congrArg (· * _) (context_row x0 x1 x2 b ⟨i.val, h⟩ k)
  · rw [dif_neg h]
    refine (val_main_v49_apply x0 x1 x2 x3 _).trans (Finset.sum_congr rfl fun k _ => ?_)
    have el : lidx_main_v49 (ix3 b (⟨i.val - 256, by omega⟩ : Fin 8192) n) k = ix3 b (⟨i.val - 256, by omega⟩ : Fin 8192) k := eq_ix3 _
    have er : ridx_main_v49 (ix3 b (⟨i.val - 256, by omega⟩ : Fin 8192) n) k = ix2 k n := eq_ix2 _
    rw [el, er]
    refine congrArg (· * _) ((latent_row x0 x1 x2 b ⟨i.val - 256, by omega⟩ k).trans ?_)
    exact congrArg (tokenRow x0 x1 x2 b · k) (Fin.ext (by show 256 + (i.val - 256) = i.val; omega))

theorem out51 : (val_main_v51 (F := Ideal) x0 x1 x2 x3 : S2x8448x384.Idx → EReal) = fun j => proj x0 x1 x2 x3 (j 0) (j 1) (⟨(j 2).val, by have : (j 2).val < 384 := (j 2).isLt; omega⟩) := by
  funext j
  have e : idx_main_v51 j = ix3 (j 0) (j 1) (⟨(j 2).val, by have : (j 2).val < 384 := (j 2).isLt; omega⟩ : Fin 2208) := eq_ix3 _
  exact (val_main_v51_apply (F := Ideal) x0 x1 x2 x3 j).trans ((congrArg (val_main_v50 (F := Ideal) x0 x1 x2 x3) e).trans (projection x0 x1 x2 x3 _ _ _))

theorem out52 : (val_main_v52 (F := Ideal) x0 x1 x2 x3 : S2x8448x384.Idx → EReal) = fun j => proj x0 x1 x2 x3 (j 0) (j 1) (⟨384 + (j 2).val, by have : (j 2).val < 384 := (j 2).isLt; omega⟩) := by
  funext j
  have e : idx_main_v52 j = ix3 (j 0) (j 1) (⟨384 + (j 2).val, by have : (j 2).val < 384 := (j 2).isLt; omega⟩ : Fin 2208) := eq_ix3 _
  exact (val_main_v52_apply (F := Ideal) x0 x1 x2 x3 j).trans ((congrArg (val_main_v50 (F := Ideal) x0 x1 x2 x3) e).trans (projection x0 x1 x2 x3 _ _ _))

theorem out53 : (val_main_v53 (F := Ideal) x0 x1 x2 x3 : S2x8448x384.Idx → EReal) = fun j => proj x0 x1 x2 x3 (j 0) (j 1) (⟨768 + (j 2).val, by have : (j 2).val < 384 := (j 2).isLt; omega⟩) := by
  funext j
  have e : idx_main_v53 j = ix3 (j 0) (j 1) (⟨768 + (j 2).val, by have : (j 2).val < 384 := (j 2).isLt; omega⟩ : Fin 2208) := eq_ix3 _
  exact (val_main_v53_apply (F := Ideal) x0 x1 x2 x3 j).trans ((congrArg (val_main_v50 (F := Ideal) x0 x1 x2 x3) e).trans (projection x0 x1 x2 x3 _ _ _))

theorem out54 : (val_main_v54 (F := Ideal) x0 x1 x2 x3 : S2x8448x256.Idx → EReal) = fun j => proj x0 x1 x2 x3 (j 0) (j 1) (⟨1152 + (j 2).val, by have : (j 2).val < 256 := (j 2).isLt; omega⟩) := by
  funext j
  have e : idx_main_v54 j = ix3 (j 0) (j 1) (⟨1152 + (j 2).val, by have : (j 2).val < 256 := (j 2).isLt; omega⟩ : Fin 2208) := eq_ix3 _
  exact (val_main_v54_apply (F := Ideal) x0 x1 x2 x3 j).trans ((congrArg (val_main_v50 (F := Ideal) x0 x1 x2 x3) e).trans (projection x0 x1 x2 x3 _ _ _))

theorem out56 : (val_main_v56 (F := Ideal) x0 x1 x2 x3 : S2x8448x768.Idx → EReal) = fun j => proj x0 x1 x2 x3 (j 0) (j 1) (⟨1440 + (j 2).val, by have : (j 2).val < 768 := (j 2).isLt; omega⟩) := by
  funext j
  have e : idx_main_v56 j = ix3 (j 0) (j 1) (⟨1440 + (j 2).val, by have : (j 2).val < 768 := (j 2).isLt; omega⟩ : Fin 2208) := eq_ix3 _
  exact (val_main_v56_apply (F := Ideal) x0 x1 x2 x3 j).trans ((congrArg (val_main_v50 (F := Ideal) x0 x1 x2 x3) e).trans (projection x0 x1 x2 x3 _ _ _))

/-- The rotary key's own columns. -/
theorem rotary (b : Fin 2) (i : Fin 8448) (e : Fin 32) : (val_main_v55 (F := Ideal) x0 x1 x2 x3 : S2x8448x32.Idx → EReal) (ix3 b i e)
    = proj x0 x1 x2 x3 b i ⟨1408 + e.val, by omega⟩ := by
  have h : idx_main_v55 (ix3 b i e) = ix3 b i (⟨1408 + e.val, by omega⟩ : Fin 2208) := eq_ix3 _
  exact (val_main_v55_apply (F := Ideal) x0 x1 x2 x3 _).trans ((congrArg (val_main_v50 (F := Ideal) x0 x1 x2 x3) h).trans (projection x0 x1 x2 x3 _ _ _))

theorem krCol_val (q : Fin 64) : (q.val < 32 → (krCol q).val = 1408 + q.val)
    ∧ (32 ≤ q.val → (q.val - 32) % 16 < 8 → (krCol q).val = 1408 + (q.val - 32 + 8) % 32)
    ∧ (32 ≤ q.val → ¬ (q.val - 32) % 16 < 8 → (krCol q).val = 1408 + (q.val - 32 - 8)) := by
  unfold krCol partner
  refine ⟨fun h => ?_, fun h h' => ?_, fun h h' => ?_⟩
  · rw [dif_pos h]
  · rw [dif_neg (by omega)]
    show 1408 + (ite _ _ _ : Fin 32).val = _
    rw [if_pos h']
  · rw [dif_neg (by omega)]
    show 1408 + (ite _ _ _ : Fin 32).val = _
    rw [if_neg h']

theorem out61 : (val_main_v61 (F := Ideal) x0 x1 x2 x3 : S2x8448x64.Idx → EReal) = fun j => proj x0 x1 x2 x3 (j 0) (j 1) (krCol (j 2)) := by
  funext j
  have p57 : ∀ (b : Fin 2) (i : Fin 8448) (e : Fin 8), (val_main_v57 (F := Ideal) x0 x1 x2 x3 : S2x8448x8.Idx → EReal) (ix3 b i e)
      = proj x0 x1 x2 x3 b i ⟨1408 + e.val, by omega⟩ := fun b i e => by
    have h : idx_main_v57 (ix3 b i e) = ix3 b i (⟨e.val, by omega⟩ : Fin 32) := eq_ix3 _
    exact (val_main_v57_apply (F := Ideal) x0 x1 x2 x3 _).trans ((congrArg (val_main_v55 (F := Ideal) x0 x1 x2 x3) h).trans (rotary x0 x1 x2 x3 b i _))
  have p58 : ∀ (b : Fin 2) (i : Fin 8448) (e : Fin 8), (val_main_v58 (F := Ideal) x0 x1 x2 x3 : S2x8448x8.Idx → EReal) (ix3 b i e)
      = proj x0 x1 x2 x3 b i ⟨1408 + (8 + e.val), by omega⟩ := fun b i e => by
    have h : idx_main_v58 (ix3 b i e) = ix3 b i (⟨8 + e.val, by omega⟩ : Fin 32) := eq_ix3 _
    exact (val_main_v58_apply (F := Ideal) x0 x1 x2 x3 _).trans ((congrArg (val_main_v55 (F := Ideal) x0 x1 x2 x3) h).trans (rotary x0 x1 x2 x3 b i _))
  have p59 : ∀ (b : Fin 2) (i : Fin 8448) (e : Fin 8), (val_main_v59 (F := Ideal) x0 x1 x2 x3 : S2x8448x8.Idx → EReal) (ix3 b i e)
      = proj x0 x1 x2 x3 b i ⟨1408 + (16 + e.val), by omega⟩ := fun b i e => by
    have h : idx_main_v59 (ix3 b i e) = ix3 b i (⟨16 + e.val, by omega⟩ : Fin 32) := eq_ix3 _
    exact (val_main_v59_apply (F := Ideal) x0 x1 x2 x3 _).trans ((congrArg (val_main_v55 (F := Ideal) x0 x1 x2 x3) h).trans (rotary x0 x1 x2 x3 b i _))
  have p60 : ∀ (b : Fin 2) (i : Fin 8448) (e : Fin 8), (val_main_v60 (F := Ideal) x0 x1 x2 x3 : S2x8448x8.Idx → EReal) (ix3 b i e)
      = proj x0 x1 x2 x3 b i ⟨1408 + (24 + e.val), by omega⟩ := fun b i e => by
    have h : idx_main_v60 (ix3 b i e) = ix3 b i (⟨24 + e.val, by omega⟩ : Fin 32) := eq_ix3 _
    exact (val_main_v60_apply (F := Ideal) x0 x1 x2 x3 _).trans ((congrArg (val_main_v55 (F := Ideal) x0 x1 x2 x3) h).trans (rotary x0 x1 x2 x3 b i _))
  unfold val_main_v61
  generalize val_main_v57 (F := Ideal) x0 x1 x2 x3 = y57 at *
  generalize val_main_v58 (F := Ideal) x0 x1 x2 x3 = y58 at *
  generalize val_main_v59 (F := Ideal) x0 x1 x2 x3 = y59 at *
  generalize val_main_v60 (F := Ideal) x0 x1 x2 x3 = y60 at *
  pointwise
  have hj : (j 2).val < 64 := (j 2).isLt
  split_ifs
  all_goals
    first
    | refine (p57 _ _ _).trans (congrArg (proj x0 x1 x2 x3 (j 0) (j 1)) (Fin.ext ?_))
    | refine (p58 _ _ _).trans (congrArg (proj x0 x1 x2 x3 (j 0) (j 1)) (Fin.ext ?_))
    | refine (p59 _ _ _).trans (congrArg (proj x0 x1 x2 x3 (j 0) (j 1)) (Fin.ext ?_))
    | refine (p60 _ _ _).trans (congrArg (proj x0 x1 x2 x3 (j 0) (j 1)) (Fin.ext ?_))
    obtain ⟨k1, k2, k3⟩ := krCol_val (j 2)
    generalize (krCol (j 2)).val = v at *
    dsimp only at *
    generalize (j 2).val = n at *
    omega

end Cert.Reference2Ideal.InProj
-- ==== Proof.OutSpec.lean ====
/- The output projection over its arguments: what both sides compute. -/
module

public import proofs.«01_k».proof.Proof.InSpec

@[expose] public section

noncomputable section

namespace Cert.OutProj

open Cert.Norm Cert.InProj Idealize.ShloMosaic

/-- A sum over the mixed lanes, by branch. -/
theorem sum_split (f : Fin 1024 → EReal) : ∑ k, f k = ∑ k : Fin 384, f ⟨k.val, by omega⟩ + ∑ k : Fin 384, f ⟨384 + k.val, by omega⟩
    + ∑ k : Fin 256, f ⟨768 + k.val, by omega⟩ := by
  refine (Fin.sum_univ_add (a := 768) (b := 256) f).trans (congrArg₂ (· + ·) ?_ rfl)
  exact Fin.sum_univ_add (a := 384) (b := 384) fun k => f ⟨k.val, by omega⟩

variable (s : (⟨3, ![2, 8448, 1024]⟩ : Shape).Idx → EReal) (mod : (⟨4, ![2, 2, 6, 1024]⟩ : Shape).Idx → EReal)
  (g : (⟨1, ![1024]⟩ : Shape).Idx → EReal) (ya : (⟨3, ![2, 8448, 384]⟩ : Shape).Idx → EReal)
  (ybx : (⟨3, ![2, 8192, 384]⟩ : Shape).Idx → EReal) (ybc : (⟨3, ![2, 256, 384]⟩ : Shape).Idx → EReal)
  (yc : (⟨3, ![2, 8448, 256]⟩ : Shape).Idx → EReal) (w : (⟨2, ![1024, 1024]⟩ : Shape).Idx → EReal)

/-- The attention branch of a token: the context's rows first, the latent rows after. -/
def attended (b : Fin 2) (i : Fin 8448) (k : Fin 384) : EReal :=
  if h : i.val < 256 then ybc (ix3 b ⟨i.val, h⟩ k) else ybx (ix3 b ⟨i.val - 256, by omega⟩ k)

/-- The three branches of a token through the output weights. -/
def mix (b : Fin 2) (i : Fin 8448) (n : Fin 1024) : EReal :=
  ∑ k : Fin 384, ya (ix3 b i k) * w (ix2 ⟨k.val, by omega⟩ n)
    + ∑ k : Fin 384, attended ybx ybc b i k * w (ix2 ⟨384 + k.val, by omega⟩ n)
    + ∑ k : Fin 256, yc (ix3 b i k) * w (ix2 ⟨768 + k.val, by omega⟩ n)

/-- The residual stream after the branches. -/
def stream (b : Fin 2) (i : Fin 8448) (n : Fin 1024) : EReal :=
  s (ix3 b i n) + mod (ix4 b (seg i) 2 n) * mix ya ybx ybc yc w b i n

/-- Its normed and modulated row. -/
def normed (b : Fin 2) (i : Fin 8448) (n : Fin 1024) : EReal :=
  modulated (stream s mod ya ybx ybc yc w b i) (fun j => g (ix1 j)) (fun j => mod (ix4 b (seg i) 3 j)) (fun j => mod (ix4 b (seg i) 4 j)) n

/-- The token of a column of the transposed result. -/
def batchOf (l : Fin 16896) : Fin 2 := ⟨l.val / 8448, by omega⟩
def tokenOf (l : Fin 16896) : Fin 8448 := ⟨l.val % 8448, Nat.mod_lt _ (by decide)⟩

end Cert.OutProj
-- ==== Proof.OutKernel.lean ====
/- The output projection call: its two output arrays over the arguments. -/
module

public import proofs.«01_k».proof.Proof.OutSpec
public import proofs.«01_k».proof.Proof.Gen.Kernel3Ideal.Value
public import Idealize.ShloMosaic.Lib.StableHlo.ReadAt

@[expose] public section

set_option maxRecDepth 16384

noncomputable section

namespace Cert.Kernel3Ideal.OutProj

open Cert.Kernel3Ideal Cert.Kernel3Ideal.Gen Cert.Norm Cert.InProj Cert.OutProj Idealize.ShloMosaic
open Idealize.ShloMosaic.TcCoe Idealize.SL.Sem

variable (m : (ℓ : Loc nD τ sig) → Buf (Elt Ideal) ℓ) (c : Dev nD)

/-- The three products of a block. -/
def blockMix (first : Bool) (x3 x4 x5 : Vec Ideal S1x256x384 .f32) (x6 : Vec Ideal S1x256x256 .f32) (x7 : Vec Ideal S1024x1024 .bf16)
    (r : Fin 256) (n : Fin 1024) : EReal :=
  ∑ k : Fin 384, x3 (ix3 0 r k) * x7 (ix2 (⟨k.val, by omega⟩ : Fin 1024) n)
    + ∑ k : Fin 384, (if first then x5 (ix3 0 r k) else x4 (ix3 0 r k)) * x7 (ix2 (⟨384 + k.val, by omega⟩ : Fin 1024) n)
    + ∑ k : Fin 256, x6 (ix3 0 r k) * x7 (ix2 (⟨768 + k.val, by omega⟩ : Fin 1024) n)

/-- The block of the residual stream. -/
def blockStream (first : Bool) (x0 : Vec Ideal S1x256x1024 .f32) (x1 : Vec Ideal S1x1x6x1024 .f32) (x3 x4 x5 : Vec Ideal S1x256x384 .f32)
    (x6 : Vec Ideal S1x256x256 .f32) (x7 : Vec Ideal S1024x1024 .bf16) (r : Fin 256) (n : Fin 1024) : EReal :=
  x0 (ix3 0 r n) + x1 (ix4 0 0 2 n) * blockMix first x3 x4 x5 x6 x7 r n

/-- The first block of a batch is the context's. -/
def isFirst (i : grid0.Coords) : Bool := decide ((i 1).val = 0)

theorem first_bit (i : grid0.Coords) : Scalar.cmpi .eq (BitVec.ofNat 32 (i 1).val) 0#32 = BitVec.ofBool (isFirst i) := by
  unfold isFirst
  have h : (i 1).val < 33 := (i 1).isLt
  generalize (i 1).val = n at *
  interval_cases n <;> rfl

theorem mix_row (i : grid0.Coords) (x0 : Vec Ideal S1x256x1024 .f32) (x1 : Vec Ideal S1x1x6x1024 .f32) (x2 : Vec Ideal S1x1024 .f32)
    (x3 x4 x5 : Vec Ideal S1x256x384 .f32) (x6 : Vec Ideal S1x256x256 .f32) (x7 : Vec Ideal S1024x1024 .bf16) (r : Fin 256) (n : Fin 1024) :
    (k0_pay8 (F := Ideal) i x0 x1 x2 x3 x4 x5 x6 x7 : S256x1024.Idx → EReal) (ix2 r n) = blockMix (isFirst i) x3 x4 x5 x6 x7 r n := by
  unfold k0_pay8 k0_pay4
  rw [first_bit]
  generalize isFirst i = f
  unfold blockMix
  pointwise
  cases f
  · simp only [Bool.false_eq_true, if_false]
    pointwise
  · simp only [if_true]
    pointwise

theorem norm_pay (v23 v27 : FVec Ideal S256x1024 .f32) (v25 : FVec Ideal S6x1024 .f32) (v28 v45 : FVec Ideal S1x1024 .f32) (r : Fin 256) (n : Fin 1024) :
    (k0_pay3 (F := Ideal) v23 v25 v27 v28 v45 : S1024x256.Idx → EReal) (ix2 n r)
      = modulated (fun j => v27 (ix2 r j) + v28 (ix2 0 j) * v23 (ix2 r j)) (fun j => v45 (ix2 0 j)) (fun j => v25 (ix2 3 j)) (fun j => v25 (ix2 4 j)) n := by
  unfold modulated rowNorm
  pointwise [k0_pay3, k0_pay1]

theorem idx : ∀ t : Fin cfg0.N, win0_0.index t = ![t.val / 33, t.val % 33, 0] ∧ win0_1.index t = ![t.val / 33, min (t.val % 33) 1, 0, 0]
    ∧ win0_2.index t = ![0, 0] ∧ win0_3.index t = ![t.val / 33, t.val % 33, 0] ∧ win0_4.index t = ![t.val / 33, t.val % 33 - 1, 0]
    ∧ win0_5.index t = ![t.val / 33, 0, 0] ∧ win0_6.index t = ![t.val / 33, t.val % 33, 0] ∧ win0_7.index t = ![0, 0]
    ∧ win0_8.index t = ![t.val / 33, t.val % 33, 0] ∧ win0_9.index t = ![0, t.val] :=
  (by decide +kernel : ∀ t : Fin grid0.N, _)

theorem first_iff (t : Fin cfg0.N) : isFirst (grid0.coords t) = decide (t.val % 33 = 0) :=
  (by decide +kernel : ∀ t : Fin grid0.N, isFirst (grid0.coords t) = decide (t.val % 33 = 0)) t

theorem read_s (t : Fin cfg0.N) (x : S1x256x1024.Idx) (j : S2x8448x1024.Idx) (h0 : (j 0).val = t.val / 33 + (x 0).val)
    (h1 : (j 1).val = t.val % 33 * 256 + (x 1).val) (h2 : (j 2).val = (x 2).val) :
    (iblk m c 0 t : S1x256x1024.Idx → EReal) x = V m c main_arg0 j := by
  blk_ext! [iblk, idx t]

theorem read_mod (t : Fin cfg0.N) (x : S1x1x6x1024.Idx) (j : S2x2x6x1024.Idx) (h0 : (j 0).val = t.val / 33 + (x 0).val)
    (h1 : (j 1).val = min (t.val % 33) 1 + (x 1).val) (h2 : (j 2).val = (x 2).val) (h3 : (j 3).val = (x 3).val) :
    (iblk m c 1 t : S1x1x6x1024.Idx → EReal) x = V m c main_arg1 j := by
  blk_ext! [iblk, idx t]

theorem read_g (t : Fin cfg0.N) (x j : S1x1024.Idx) (h0 : (j 0).val = (x 0).val) (h1 : (j 1).val = (x 1).val) :
    (iblk m c 2 t : S1x1024.Idx → EReal) x = V m c main_v0 j := by
  blk_ext! [iblk, idx t]

theorem read_ya (t : Fin cfg0.N) (x : S1x256x384.Idx) (j : S2x8448x384.Idx) (h0 : (j 0).val = t.val / 33 + (x 0).val)
    (h1 : (j 1).val = t.val % 33 * 256 + (x 1).val) (h2 : (j 2).val = (x 2).val) :
    (iblk m c 3 t : S1x256x384.Idx → EReal) x = V m c main_arg3 j := by
  blk_ext! [iblk, idx t]

theorem read_ybx (t : Fin cfg0.N) (x : S1x256x384.Idx) (j : S2x8192x384.Idx) (h0 : (j 0).val = t.val / 33 + (x 0).val)
    (h1 : (j 1).val = (t.val % 33 - 1) * 256 + (x 1).val) (h2 : (j 2).val = (x 2).val) :
    (iblk m c 4 t : S1x256x384.Idx → EReal) x = V m c main_arg4 j := by
  blk_ext! [iblk, idx t]

theorem read_ybc (t : Fin cfg0.N) (x : S1x256x384.Idx) (j : S2x256x384.Idx) (h0 : (j 0).val = t.val / 33 + (x 0).val)
    (h1 : (j 1).val = (x 1).val) (h2 : (j 2).val = (x 2).val) :
    (iblk m c 5 t : S1x256x384.Idx → EReal) x = V m c main_arg5 j := by
  blk_ext! [iblk, idx t]

theorem read_yc (t : Fin cfg0.N) (x : S1x256x256.Idx) (j : S2x8448x256.Idx) (h0 : (j 0).val = t.val / 33 + (x 0).val)
    (h1 : (j 1).val = t.val % 33 * 256 + (x 1).val) (h2 : (j 2).val = (x 2).val) :
    (iblk m c 6 t : S1x256x256.Idx → EReal) x = V m c main_arg6 j := by
  blk_ext! [iblk, idx t]

theorem read_w (t : Fin cfg0.N) (x j : S1024x1024.Idx) (h0 : (j 0).val = (x 0).val) (h1 : (j 1).val = (x 1).val) :
    (iblk m c 7 t : S1024x1024.Idx → EReal) x = V m c main_v1 j := by
  blk_ext! [iblk, idx t]

theorem g_apply (k : Fin 1024) : (V m c main_v0 : S1x1024.Idx → EReal) (ix2 0 k)
    = (m ((c : Thread nD τ).loc main_arg2) : S1024.Idx → EReal) (ix1 k) := by
  unfold V
  after_reads_at

theorem w_apply (k n : Fin 1024) : (V m c main_v1 : S1024x1024.Idx → EReal) (ix2 k n)
    = (m ((c : Thread nD τ).loc main_arg7) : S1024x1024.Idx → EReal) (ix2 k n) := by
  unfold V
  after_reads_at

theorem stream_row (i : grid0.Coords) (x0 : Vec Ideal S1x256x1024 .f32) (x1 : Vec Ideal S1x1x6x1024 .f32) (x2 : Vec Ideal S1x1024 .f32)
    (x3 x4 x5 : Vec Ideal S1x256x384 .f32) (x6 : Vec Ideal S1x256x256 .f32) (x7 : Vec Ideal S1024x1024 .bf16) (r : Fin 256) (n : Fin 1024) :
    (k0_pay9 (F := Ideal) i x0 x1 x2 x3 x4 x5 x6 x7 : S256x1024.Idx → EReal) (ix2 r n)
      + (k0_pay10 (F := Ideal) i x0 x1 x2 x3 x4 x5 x6 x7 : S1x1024.Idx → EReal) (ix2 0 n)
        * (k0_pay8 (F := Ideal) i x0 x1 x2 x3 x4 x5 x6 x7 : S256x1024.Idx → EReal) (ix2 r n)
      = blockStream (isFirst i) x0 x1 x3 x4 x5 x6 x7 r n := by
  rw [mix_row]
  unfold k0_pay9 k0_pay10 blockStream
  generalize blockMix (isFirst i) x3 x4 x5 x6 x7 r n = z
  pointwise [k0_pay6, k0_pay7, k0_pay5]

theorem out_row8 (i : grid0.Coords) (x0 : Vec Ideal S1x256x1024 .f32) (x1 : Vec Ideal S1x1x6x1024 .f32) (x2 : Vec Ideal S1x1024 .f32)
    (x3 x4 x5 : Vec Ideal S1x256x384 .f32) (x6 : Vec Ideal S1x256x256 .f32) (x7 : Vec Ideal S1024x1024 .bf16) (y : S1x256x1024.Idx) :
    (out0_8 (F := Ideal) i x0 x1 x2 x3 x4 x5 x6 x7 : S1x256x1024.Idx → EReal) y = blockStream (isFirst i) x0 x1 x3 x4 x5 x6 x7 (y 1) (y 2) := by
  refine Eq.trans ?_ (stream_row i x0 x1 x2 x3 x4 x5 x6 x7 (y 1) (y 2))
  unfold out0_8
  generalize k0_pay8 (F := Ideal) i x0 x1 x2 x3 x4 x5 x6 x7 = p8
  generalize k0_pay9 (F := Ideal) i x0 x1 x2 x3 x4 x5 x6 x7 = p9
  generalize k0_pay10 (F := Ideal) i x0 x1 x2 x3 x4 x5 x6 x7 = p10
  canon_tiles x h
  all_goals
    obtain e1 : y 1 = x 1 := Fin.ext h1
    obtain e2 : y 2 = x 2 := Fin.ext h2
    rw [e1, e2]
    pointwise [k0_pay2, k0_pay1]

theorem out_row9 (i : grid0.Coords) (x0 : Vec Ideal S1x256x1024 .f32) (x1 : Vec Ideal S1x1x6x1024 .f32) (x2 : Vec Ideal S1x1024 .f32)
    (x3 x4 x5 : Vec Ideal S1x256x384 .f32) (x6 : Vec Ideal S1x256x256 .f32) (x7 : Vec Ideal S1024x1024 .bf16) (y : S1024x256.Idx) :
    (out0_9 (F := Ideal) i x0 x1 x2 x3 x4 x5 x6 x7 : S1024x256.Idx → EReal) y
      = modulated (blockStream (isFirst i) x0 x1 x3 x4 x5 x6 x7 (y 1)) (fun j => x2 (ix2 0 j)) (fun j => x1 (ix4 0 0 3 j))
          (fun j => x1 (ix4 0 0 4 j)) (y 0) := by
  have hs : blockStream (isFirst i) x0 x1 x3 x4 x5 x6 x7 (y 1) = _ :=
    funext fun n => (stream_row i x0 x1 x2 x3 x4 x5 x6 x7 (y 1) n).symm
  rw [hs]
  unfold out0_9
  generalize k0_pay8 (F := Ideal) i x0 x1 x2 x3 x4 x5 x6 x7 = p8
  generalize k0_pay9 (F := Ideal) i x0 x1 x2 x3 x4 x5 x6 x7 = p9
  generalize k0_pay10 (F := Ideal) i x0 x1 x2 x3 x4 x5 x6 x7 = p10
  have l1 : View.ld x1 r0_5 = x1 := View.ld_unit_zero (by decide) _ _
  have l2 : View.ld x2 r0_7 = x2 := View.ld_unit_zero (by decide) _ _
  rw [l1, l2]
  have hm : ∀ (a : Fin 6) (j : Fin 1024), (k0_pay5 (F := Ideal) x1 : S6x1024.Idx → EReal) (ix2 a j) = x1 (ix4 0 0 a j) := by
    intro a j
    pointwise [k0_pay5]
  generalize k0_pay5 (F := Ideal) x1 = p5 at *
  canon_tiles x h
  all_goals
    obtain e0 : y 0 = x 0 := Fin.ext h0
    obtain e1 : y 1 = x 1 := Fin.ext h1
    rw [e0, e1, eq_ix2 x]
    refine (norm_pay p8 p9 p5 p10 x2 (x 1) (x 0)).trans ?_
    simp only [hm]
    rfl

theorem block_stream (t : Fin cfg0.N) (r : Fin 256) (n : Fin 1024) (b : Fin 2) (i : Fin 8448) (hb : b.val = t.val / 33)
    (hi : i.val = t.val % 33 * 256 + r.val) :
    blockStream (isFirst (grid0.coords t)) (iblk m c 0 t) (iblk m c 1 t) (iblk m c 3 t) (iblk m c 4 t) (iblk m c 5 t) (iblk m c 6 t) (iblk m c 7 t) r n
      = stream (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) b i n := by
  have hr := r.isLt
  have hs : (seg i).val = min (t.val % 33) 1 := by
    unfold seg
    by_cases h : i.val < 256
    · rw [if_pos h]; show 0 = _; omega
    · rw [if_neg h]; show 1 = _; omega
  rw [first_iff]
  unfold blockStream stream
  have hS := (read_s m c t (ix3 0 r n) (ix3 b i n) (by exact hb) (by exact hi) rfl).trans (congrFun (V_main_arg0 m c) _)
  have hM := (read_mod m c t (ix4 0 0 2 n) (ix4 b (seg i) 2 n) (by exact hb) (by exact hs) rfl rfl).trans (congrFun (V_main_arg1 m c) _)
  have hW : ∀ k : Fin 1024, (iblk m c 7 t : S1024x1024.Idx → EReal) (ix2 k n)
      = (m ((c : Thread nD τ).loc main_arg7) : S1024x1024.Idx → EReal) (ix2 k n) := fun k =>
    (read_w m c t (ix2 k n) (ix2 k n) rfl rfl).trans (w_apply m c k n)
  refine congrArg₂ (· + ·) hS (congrArg₂ (· * ·) hM ?_)
  unfold blockMix mix
  refine congrArg₂ (· + ·) (congrArg₂ (· + ·) ?_ ?_) ?_
  · refine Finset.sum_congr rfl fun k _ => congrArg₂ (· * ·) ?_ (hW _)
    exact (read_ya m c t (ix3 0 r k) (ix3 b i k) (by exact hb) (by exact hi) rfl).trans (congrFun (V_main_arg3 m c) _)
  · refine Finset.sum_congr rfl fun k _ => congrArg₂ (· * ·) ?_ (hW _)
    unfold attended
    by_cases h : t.val % 33 = 0
    · rw [dif_pos (show i.val < 256 by omega), if_pos (decide_eq_true h)]
      exact (read_ybc m c t (ix3 0 r k) (ix3 b _ k) (by exact hb) (by show i.val = r.val; omega) rfl).trans (congrFun (V_main_arg5 m c) _)
    · rw [dif_neg (show ¬ i.val < 256 by omega), if_neg (by simpa using h)]
      exact (read_ybx m c t (ix3 0 r k) (ix3 b _ k) (by exact hb) (by show i.val - 256 = (t.val % 33 - 1) * 256 + r.val; omega) rfl).trans
        (congrFun (V_main_arg4 m c) _)
  · refine Finset.sum_congr rfl fun k _ => congrArg₂ (· * ·) ?_ (hW _)
    exact (read_yc m c t (ix3 0 r k) (ix3 b i k) (by exact hb) (by exact hi) rfl).trans (congrFun (V_main_arg6 m c) _)

theorem block_normed (t : Fin cfg0.N) (r : Fin 256) (n : Fin 1024) (b : Fin 2) (i : Fin 8448) (n' : Fin 1024) (hb : b.val = t.val / 33)
    (hi : i.val = t.val % 33 * 256 + r.val) (hn : n' = n) :
    modulated (blockStream (isFirst (grid0.coords t)) (iblk m c 0 t) (iblk m c 1 t) (iblk m c 3 t) (iblk m c 4 t) (iblk m c 5 t) (iblk m c 6 t)
        (iblk m c 7 t) r) (fun j => (iblk m c 2 t : S1x1024.Idx → EReal) (ix2 0 j)) (fun j => (iblk m c 1 t : S1x1x6x1024.Idx → EReal) (ix4 0 0 3 j))
        (fun j => (iblk m c 1 t : S1x1x6x1024.Idx → EReal) (ix4 0 0 4 j)) n
      = normed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b i n' := by
  subst hn
  unfold normed
  have hr := r.isLt
  have hs : (seg i).val = min (t.val % 33) 1 := by
    unfold seg
    by_cases h : i.val < 256
    · rw [if_pos h]; show 0 = _; omega
    · rw [if_neg h]; show 1 = _; omega
  have hT := funext fun n => block_stream m c t r n b i hb hi
  have hM : ∀ a : Fin 6, (fun j => (iblk m c 1 t : S1x1x6x1024.Idx → EReal) (ix4 0 0 a j))
      = fun j => (m ((c : Thread nD τ).loc main_arg1) : S2x2x6x1024.Idx → EReal) (ix4 b (seg i) a j) := fun a => funext fun j =>
    (read_mod m c t _ (ix4 b (seg i) a j) (by exact hb) (by exact hs) rfl rfl).trans (congrFun (V_main_arg1 m c) _)
  have hG : (fun j => (iblk m c 2 t : S1x1024.Idx → EReal) (ix2 0 j))
      = fun j => (m ((c : Thread nD τ).loc main_arg2) : S1024.Idx → EReal) (ix1 j) := funext fun j =>
    (read_g m c t _ (ix2 0 j) rfl rfl).trans (g_apply m c j)
  rw [hM 3, hM 4, hG]
  exact congrArg (modulated · _ _ _ _) hT

/-- The residual stream. -/
theorem array8 : (dats m 0 c).arrAt 8 cfg0.N = fun j : S2x8448x1024.Idx =>
    stream (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6))
      (m ((c : Thread nD τ).loc main_arg7)) (j 0) (j 1) (j 2) := by
  refine (dats m 0 c).arrAt_eq_of_covers 8 _ (by decide +kernel) fun t hf y => ?_
  blk_simp
  rw [after0_8]
  have y0 : (y 0).val < 1 := (y 0).isLt
  refine (out_row8 _ _ _ _ _ _ _ _ _ _).trans ((block_stream m c t _ _ _ _ ?_ ?_).trans (congrArg (stream _ _ _ _ _ _ _ _ _) (Fin.ext ?_)))
  all_goals blk_simp [idx t]

/-- The normed stream, transposed. -/
theorem array9 : (dats m 0 c).arrAt 9 cfg0.N = fun j : S1024x16896.Idx =>
    normed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (batchOf (j 1)) (tokenOf (j 1)) (j 0) := by
  refine (dats m 0 c).arrAt_eq_of_covers 9 _ (by decide +kernel) fun t hf y => ?_
  blk_simp
  rw [after0_9]
  have y1 : (y 1).val < 256 := (y 1).isLt
  refine (out_row9 _ _ _ _ _ _ _ _ _ _).trans (block_normed m c t _ _ _ _ _ ?_ ?_ (Fin.ext ?_))
  · have hc : ((win0_9.blk t).view.emb y 1).val = t.val * 256 + (y 1).val := by blk_simp [idx t]
    show ((win0_9.blk t).view.emb y 1).val / 8448 = _
    omega
  · have hc : ((win0_9.blk t).view.emb y 1).val = t.val * 256 + (y 1).val := by blk_simp [idx t]
    show ((win0_9.blk t).view.emb y 1).val % 8448 = _
    omega
  · blk_simp [idx t]

end Cert.Kernel3Ideal.OutProj
-- ==== Proof.OutReference.lean ====
/- The output projection in the reference: its two results over the arguments. -/
module

public import proofs.«01_k».proof.Proof.OutSpec
public import proofs.«01_k».proof.Proof.Gen.Reference3Ideal.Read

@[expose] public section

set_option maxRecDepth 16384

noncomputable section

namespace Cert.Reference3Ideal.OutProj

open Cert.Reference3Ideal Cert.Reference3Ideal.Gen Cert.Reference3Ideal.Read Cert.Norm Cert.InProj Cert.OutProj Idealize.ShloMosaic

variable (x0 : S2x8448x1024.Idx → EReal) (x1 : S2x2x6x1024.Idx → EReal) (x2 : S1024.Idx → EReal) (x3 : S2x8448x384.Idx → EReal)
  (x4 : S2x8192x384.Idx → EReal) (x5 : S2x256x384.Idx → EReal) (x6 : S2x8448x256.Idx → EReal) (x7 : S1024x1024.Idx → EReal)

theorem latent_mix (b : Fin 2) (i : Fin 8192) (k : Fin 1024) : (val_main_v5 (F := Ideal) x3 x4 x6 x7 : S2x8192x1024.Idx → EReal) (ix3 b i k)
    = mix x3 x4 x5 x6 x7 b ⟨256 + i.val, by omega⟩ k := by
  refine (val_main_v5_apply x3 x4 x6 x7 _).trans ?_
  have el : ∀ l, lidx_main_v5 (ix3 b i k) l = ix3 b i l := fun l => eq_ix3 _
  have er : ∀ l, ridx_main_v5 (ix3 b i k) l = ix2 l k := fun l => eq_ix2 _
  simp only [el, er]
  refine (sum_split _).trans ?_
  unfold mix
  have ea : ∀ l : Fin 384, (val_main_v2 (F := Ideal) x3 : S2x8192x384.Idx → EReal) (ix3 b i l) = x3 (ix3 b (⟨256 + i.val, by omega⟩ : Fin 8448) l) := fun l =>
    (val_main_v2_apply (F := Ideal) x3 _).trans (congrArg x3 (eq_ix3 _))
  have ec : ∀ l : Fin 256, (val_main_v3 (F := Ideal) x6 : S2x8192x256.Idx → EReal) (ix3 b i l) = x6 (ix3 b (⟨256 + i.val, by omega⟩ : Fin 8448) l) := fun l =>
    (val_main_v3_apply (F := Ideal) x6 _).trans (congrArg x6 (eq_ix3 _))
  have eb : ∀ l : Fin 384, attended x4 x5 b ⟨256 + i.val, by omega⟩ l = x4 (ix3 b i l) := fun l => by
    unfold attended
    rw [dif_neg (by show ¬ 256 + i.val < 256; omega)]
    exact congrArg x4 (congrArg (ix3 b · l) (Fin.ext (by show 256 + i.val - 256 = i.val; omega)))
  have c1 : ∀ l : Fin 384, (val_main_v4 (F := Ideal) x3 x4 x6 : S2x8192x1024.Idx → EReal) (ix3 b i (⟨l.val, by omega⟩ : Fin 1024))
      = x3 (ix3 b (⟨256 + i.val, by omega⟩ : Fin 8448) l) := fun l => by
    rw [← ea l]
    unfold val_main_v4
    generalize val_main_v2 (F := Ideal) x3 = y1
    generalize val_main_v3 (F := Ideal) x6 = y2
    pointwise
  have c2 : ∀ l : Fin 384, (val_main_v4 (F := Ideal) x3 x4 x6 : S2x8192x1024.Idx → EReal) (ix3 b i (⟨384 + l.val, by omega⟩ : Fin 1024))
      = x4 (ix3 b i l) := fun l => by
    unfold val_main_v4
    generalize val_main_v2 (F := Ideal) x3 = y1
    generalize val_main_v3 (F := Ideal) x6 = y2
    pointwise
  have c3 : ∀ l : Fin 256, (val_main_v4 (F := Ideal) x3 x4 x6 : S2x8192x1024.Idx → EReal) (ix3 b i (⟨768 + l.val, by omega⟩ : Fin 1024))
      = x6 (ix3 b (⟨256 + i.val, by omega⟩ : Fin 8448) l) := fun l => by
    rw [← ec l]
    unfold val_main_v4
    generalize val_main_v2 (F := Ideal) x3 = y1
    generalize val_main_v3 (F := Ideal) x6 = y2
    pointwise
    rw [dif_neg (by omega), dif_neg (by omega)]
    exact congrArg y2 (congrArg (ix3 b i) (Fin.ext (by show 768 + l.val - 384 - 384 = l.val; omega)))
  simp only [c1, c2, c3, eb]

theorem latent_stream (b : Fin 2) (i : Fin 8192) (k : Fin 1024) : (val_main_v14 (F := Ideal) x0 x1 x3 x4 x6 x7 : S2x8192x1024.Idx → EReal) (ix3 b i k)
    = stream x0 x1 x3 x4 x5 x6 x7 b ⟨256 + i.val, by omega⟩ k := by
  have hs : seg ⟨256 + i.val, by omega⟩ = 1 := by unfold seg; rw [if_neg (by show ¬ 256 + i.val < 256; omega)]
  have e0 : idx_main_v1 (ix3 b i k) = ix3 b (⟨256 + i.val, by omega⟩ : Fin 8448) k := eq_ix3 _
  have e1 : idx_main_v10 (idx_main_v11 (idx_main_v12 (ix3 b i k))) = ix4 b 1 2 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  unfold stream
  rw [val_main_v14_apply, val_main_v1_apply, val_main_v13_apply, val_main_v12_apply, val_main_v11_apply,
    val_main_v10_apply, e0, e1, latent_mix, hs]
  rfl

theorem latent_normed (b : Fin 2) (i : Fin 8192) (k : Fin 1024) : (val_main_v42 (F := Ideal) x0 x1 x2 x3 x4 x6 x7 : S2x8192x1024.Idx → EReal) (ix3 b i k)
    = normed x0 x1 x2 x3 x4 x5 x6 x7 b ⟨256 + i.val, by omega⟩ k := by
  have hst := latent_stream x0 x1 x3 x4 x5 x6 x7 b i
  have hs : seg ⟨256 + i.val, by omega⟩ = 1 := by unfold seg; rw [if_neg (by show ¬ 256 + i.val < 256; omega)]
  have e1 : ∀ j : Fin 1024, idx_main_v25 (idx_main_v26 (idx_main_v32 (ix3 b i k))) j = ix3 b i j := fun j => eq_ix3 _
  have e2 : idx_main_v34 (idx_main_v35 (ix3 b i k)) = ix1 k := eq_ix1 _
  have e3 : idx_main_v20 (idx_main_v21 (idx_main_v41 (ix3 b i k))) = ix4 b 1 3 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  have e4 : idx_main_v22 (idx_main_v23 (idx_main_v39 (ix3 b i k))) = ix4 b 1 4 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  simp only [val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply,
    val_main_cst_apply, val_main_cst_0_apply, val_main_cst_1_apply, val_main_cst_2_apply]
  simp only [e1, e2, e3, e4, hst]
  unfold normed
  rw [hs]
  unfold modulated
  exact congrArg₂ (· + ·) (congrArg₂ (· * ·) (norm_host (stream x0 x1 x3 x4 x5 x6 x7 b ⟨256 + i.val, by omega⟩) (fun j => x2 (ix1 j)) k) rfl) rfl

theorem context_mix (b : Fin 2) (i : Fin 256) (k : Fin 1024) : (val_main_v9 (F := Ideal) x3 x5 x6 x7 : S2x256x1024.Idx → EReal) (ix3 b i k)
    = mix x3 x4 x5 x6 x7 b ⟨i.val, by omega⟩ k := by
  refine (val_main_v9_apply x3 x5 x6 x7 _).trans ?_
  have el : ∀ l, lidx_main_v9 (ix3 b i k) l = ix3 b i l := fun l => eq_ix3 _
  have er : ∀ l, ridx_main_v9 (ix3 b i k) l = ix2 l k := fun l => eq_ix2 _
  simp only [el, er]
  refine (sum_split _).trans ?_
  unfold mix
  have ea : ∀ l : Fin 384, (val_main_v6 (F := Ideal) x3 : S2x256x384.Idx → EReal) (ix3 b i l) = x3 (ix3 b (⟨i.val, by omega⟩ : Fin 8448) l) := fun l =>
    (val_main_v6_apply (F := Ideal) x3 _).trans (congrArg x3 (eq_ix3 _))
  have ec : ∀ l : Fin 256, (val_main_v7 (F := Ideal) x6 : S2x256x256.Idx → EReal) (ix3 b i l) = x6 (ix3 b (⟨i.val, by omega⟩ : Fin 8448) l) := fun l =>
    (val_main_v7_apply (F := Ideal) x6 _).trans (congrArg x6 (eq_ix3 _))
  have eb : ∀ l : Fin 384, attended x4 x5 b ⟨i.val, by omega⟩ l = x5 (ix3 b i l) := fun l => by
    unfold attended
    rw [dif_pos (by show i.val < 256; omega)]

  have c1 : ∀ l : Fin 384, (val_main_v8 (F := Ideal) x3 x5 x6 : S2x256x1024.Idx → EReal) (ix3 b i (⟨l.val, by omega⟩ : Fin 1024))
      = x3 (ix3 b (⟨i.val, by omega⟩ : Fin 8448) l) := fun l => by
    rw [← ea l]
    unfold val_main_v8
    generalize val_main_v6 (F := Ideal) x3 = y1
    generalize val_main_v7 (F := Ideal) x6 = y2
    pointwise
  have c2 : ∀ l : Fin 384, (val_main_v8 (F := Ideal) x3 x5 x6 : S2x256x1024.Idx → EReal) (ix3 b i (⟨384 + l.val, by omega⟩ : Fin 1024))
      = x5 (ix3 b i l) := fun l => by
    unfold val_main_v8
    generalize val_main_v6 (F := Ideal) x3 = y1
    generalize val_main_v7 (F := Ideal) x6 = y2
    pointwise
  have c3 : ∀ l : Fin 256, (val_main_v8 (F := Ideal) x3 x5 x6 : S2x256x1024.Idx → EReal) (ix3 b i (⟨768 + l.val, by omega⟩ : Fin 1024))
      = x6 (ix3 b (⟨i.val, by omega⟩ : Fin 8448) l) := fun l => by
    rw [← ec l]
    unfold val_main_v8
    generalize val_main_v6 (F := Ideal) x3 = y1
    generalize val_main_v7 (F := Ideal) x6 = y2
    pointwise
    rw [dif_neg (by omega), dif_neg (by omega)]
    exact congrArg y2 (congrArg (ix3 b i) (Fin.ext (by show 768 + l.val - 384 - 384 = l.val; omega)))
  simp only [c1, c2, c3, eb]

theorem context_stream (b : Fin 2) (i : Fin 256) (k : Fin 1024) : (val_main_v19 (F := Ideal) x0 x1 x3 x5 x6 x7 : S2x256x1024.Idx → EReal) (ix3 b i k)
    = stream x0 x1 x3 x4 x5 x6 x7 b ⟨i.val, by omega⟩ k := by
  have hs : seg ⟨i.val, by omega⟩ = 0 := by unfold seg; rw [if_pos (by show i.val < 256; omega)]
  have e0 : idx_main_v0 (ix3 b i k) = ix3 b (⟨i.val, by omega⟩ : Fin 8448) k := eq_ix3 _
  have e1 : idx_main_v15 (idx_main_v16 (idx_main_v17 (ix3 b i k))) = ix4 b 0 2 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  unfold stream
  rw [val_main_v19_apply, val_main_v0_apply, val_main_v18_apply, val_main_v17_apply, val_main_v16_apply,
    val_main_v15_apply, e0, e1, context_mix, hs]
  rfl

theorem context_normed (b : Fin 2) (i : Fin 256) (k : Fin 1024) : (val_main_v65 (F := Ideal) x0 x1 x2 x3 x5 x6 x7 : S2x256x1024.Idx → EReal) (ix3 b i k)
    = normed x0 x1 x2 x3 x4 x5 x6 x7 b ⟨i.val, by omega⟩ k := by
  have hst := context_stream x0 x1 x3 x4 x5 x6 x7 b i
  have hs : seg ⟨i.val, by omega⟩ = 0 := by unfold seg; rw [if_pos (by show i.val < 256; omega)]
  have e1 : ∀ j : Fin 1024, idx_main_v48 (idx_main_v49 (idx_main_v55 (ix3 b i k))) j = ix3 b i j := fun j => eq_ix3 _
  have e2 : idx_main_v57 (idx_main_v58 (ix3 b i k)) = ix1 k := eq_ix1 _
  have e3 : idx_main_v43 (idx_main_v44 (idx_main_v64 (ix3 b i k))) = ix4 b 0 3 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  have e4 : idx_main_v45 (idx_main_v46 (idx_main_v62 (ix3 b i k))) = ix4 b 0 4 k := by
    funext a
    refine Fin.ext ?_
    match a with
    | ⟨0, _⟩ => show ((b.val * 1 + 0) * 1024 + k.val) / 1024 = b.val; omega
    | ⟨1, _⟩ => rfl
    | ⟨2, _⟩ => rfl
    | ⟨3, _⟩ => show ((b.val * 1 + 0) * 1024 + k.val) % 1024 = k.val; omega
  simp only [val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply,
    val_main_cst_3_apply, val_main_cst_4_apply, val_main_cst_5_apply, val_main_cst_6_apply]
  simp only [e1, e2, e3, e4, hst]
  unfold normed
  rw [hs]
  unfold modulated
  exact congrArg₂ (· + ·) (congrArg₂ (· * ·) (norm_host (stream x0 x1 x3 x4 x5 x6 x7 b ⟨i.val, by omega⟩) (fun j => x2 (ix1 j)) k) rfl) rfl

/-- The reference's residual stream. -/
theorem out67 : (val_main_v67 (F := Ideal) x0 x1 x3 x4 x5 x6 x7 : S2x8448x1024.Idx → EReal)
    = fun j => stream x0 x1 x3 x4 x5 x6 x7 (j 0) (j 1) (j 2) := by
  funext j
  have hl := latent_stream x0 x1 x3 x4 x5 x6 x7
  have hc := context_stream x0 x1 x3 x4 x5 x6 x7
  unfold val_main_v67
  generalize val_main_v19 (F := Ideal) x0 x1 x3 x5 x6 x7 = y1 at *
  generalize val_main_v14 (F := Ideal) x0 x1 x3 x4 x6 x7 = y2 at *
  pointwise
  by_cases h : (j 1).val < 256
  · rw [dif_pos h]
    exact hc _ _ _
  · rw [dif_neg h]
    refine (hl _ _ _).trans (congrArg (stream x0 x1 x3 x4 x5 x6 x7 (j 0) · (j 2)) (Fin.ext ?_))
    show 256 + ((j 1).val - 256) = (j 1).val
    omega

theorem whole (b : Fin 2) (i : Fin 8448) (k : Fin 1024) : (val_main_v66 (F := Ideal) x0 x1 x2 x3 x4 x5 x6 x7 : S2x8448x1024.Idx → EReal) (ix3 b i k)
    = normed x0 x1 x2 x3 x4 x5 x6 x7 b i k := by
  have hl := latent_normed x0 x1 x2 x3 x4 x5 x6 x7
  have hc := context_normed x0 x1 x2 x3 x4 x5 x6 x7
  unfold val_main_v66
  generalize val_main_v65 (F := Ideal) x0 x1 x2 x3 x5 x6 x7 = y1 at *
  generalize val_main_v42 (F := Ideal) x0 x1 x2 x3 x4 x6 x7 = y2 at *
  pointwise
  by_cases h : i.val < 256
  · rw [dif_pos h]
    exact hc _ _ _
  · rw [dif_neg h]
    refine (hl _ _ _).trans (congrArg (normed x0 x1 x2 x3 x4 x5 x6 x7 b · k) (Fin.ext ?_))
    show 256 + (i.val - 256) = i.val
    omega

/-- The reference's normed stream, transposed. -/
theorem out70 : (val_main_v70 (F := Ideal) x0 x1 x2 x3 x4 x5 x6 x7 : S1024x16896.Idx → EReal)
    = fun j => normed x0 x1 x2 x3 x4 x5 x6 x7 (batchOf (j 1)) (tokenOf (j 1)) (j 0) := by
  funext j
  have h0 : (j 0).val < 1024 := (j 0).isLt
  have h1 : (j 1).val < 16896 := (j 1).isLt
  have e : idx_main_v68 (idx_main_v69 j) = ix3 (batchOf (j 1)) (tokenOf (j 1)) (j 0) := by
    funext a
    refine Fin.ext ?_
    match a with
    | ⟨0, _⟩ => show ((j 1).val * 1024 + (j 0).val) / 8650752 = (j 1).val / 8448; omega
    | ⟨1, _⟩ => show ((j 1).val * 1024 + (j 0).val) / 1024 % 8448 = (j 1).val % 8448; omega
    | ⟨2, _⟩ => show ((j 1).val * 1024 + (j 0).val) % 1024 = (j 0).val; omega
  rw [val_main_v70_apply, val_main_v69_apply, val_main_v68_apply, e]
  exact whole x0 x1 x2 x3 x4 x5 x6 x7 (batchOf (j 1)) (tokenOf (j 1)) (j 0)

end Cert.Reference3Ideal.OutProj
-- ==== Proof.Final.lean ====
/- The final norm: the kernel's array and the reference's. -/
module

public import proofs.«01_k».proof.Proof.Norm
public import proofs.«01_k».proof.Proof.Gen.Kernel4Ideal.Value
public import proofs.«01_k».proof.Proof.Gen.Reference4Ideal.Read
public import Idealize.ShloMosaic.Lib.StableHlo.ReadAt

@[expose] public section

set_option maxRecDepth 16384

noncomputable section

namespace Cert.Final

open Cert.Norm Idealize.ShloMosaic

/-- The token row `i` of the result is row `256 + i` of the stream. -/
abbrev token (i : Fin 8192) : Fin 8448 := ⟨256 + i.val, by omega⟩

/-- The result over the arguments. -/
def result (x : (⟨3, ![2, 8448, 1024]⟩ : Shape).Idx → EReal) (g : (⟨1, ![1024]⟩ : Shape).Idx → EReal) (b : Fin 2) (i : Fin 8192) (k : Fin 1024) : EReal :=
  rowNorm (fun j => x (ix3 b (token i) j)) (fun j => g (ix1 j)) k

end Cert.Final

namespace Cert.Kernel4Ideal.Final

open Cert.Kernel4Ideal Cert.Kernel4Ideal.Gen Cert.Norm Cert.Final Idealize.ShloMosaic
open Idealize.ShloMosaic.TcCoe Idealize.SL.Sem

variable (m : (ℓ : Loc nD τ sig) → Buf (Elt Ideal) ℓ) (c : Dev nD)

/-- One row of one block. -/
theorem pay_row (x0 : Vec Ideal S1x256x1024 .f32) (x1 : Vec Ideal S1x1024 .f32) (r : Fin 256) (k : Fin 1024) :
    (k0_pay1 (F := Ideal) x0 x1 : _ → EReal) (ix3 0 r k) = rowNorm (fun j => x0 (ix3 0 r j)) (fun j => x1 (ix2 0 j)) k := by
  unfold rowNorm
  pointwise [k0_pay1]

theorem idx : ∀ t : Fin cfg0.N, win0_0.index t = ![t.val / 32, t.val % 32 + 1, 0] ∧ win0_1.index t = ![0, 0]
    ∧ win0_2.index t = ![t.val / 32, t.val % 32, 0] :=
  (by decide +kernel : ∀ t : Fin grid0.N, _)

theorem read_x (t : Fin cfg0.N) (x : S1x256x1024.Idx) (j : S2x8448x1024.Idx) (h0 : (j 0).val = t.val / 32 + (x 0).val)
    (h1 : (j 1).val = (t.val % 32 + 1) * 256 + (x 1).val) (h2 : (j 2).val = (x 2).val) :
    (iblk m c 0 t : S1x256x1024.Idx → EReal) x = V m c main_arg0 j := by
  blk_ext! [iblk, idx t]

theorem read_g (t : Fin cfg0.N) (x j : S1x1024.Idx) (h0 : (j 0).val = (x 0).val) (h1 : (j 1).val = (x 1).val) :
    (iblk m c 1 t : S1x1024.Idx → EReal) x = V m c main_v0 j := by
  blk_ext! [iblk, idx t]

theorem g_apply (k : Fin 1024) : (V m c main_v0 : S1x1024.Idx → EReal) (ix2 0 k)
    = (m ((c : Thread nD τ).loc main_arg1) : S1024.Idx → EReal) (ix1 k) := by
  unfold V
  after_reads_at

theorem out_row (x0 : Vec Ideal S1x256x1024 .f32) (x1 : Vec Ideal S1x1024 .f32) (y : S1x256x1024.Idx) :
    (out0_2 (F := Ideal) x0 x1 : S1x256x1024.Idx → EReal) y = rowNorm (fun j => x0 (ix3 0 (y 1) j)) (fun j => x1 (ix2 0 j)) (y 2) := by
  unfold out0_2
  canon_tiles x h
  all_goals
    open_payloads
    pointwise [rowNorm]
    have e1 : y 1 = x 1 := Fin.ext h1
    have e2 : y 2 = x 2 := Fin.ext h2
    rw [e1, e2]
    exact congrArg₂ (· * ·) (congrArg₂ (· * ·) (congrArg x0 (eq_row x)) rfl) rfl

theorem row (t : Fin cfg0.N) (y : S1x256x1024.Idx) (b : Fin 2) (i : Fin 8192) (k : Fin 1024) (hb : b.val = t.val / 32)
    (hi : i.val = t.val % 32 * 256 + (y 1).val) (hk : k.val = (y 2).val) :
    (out0_2 (F := Ideal) (iblk m c 0 t) (iblk m c 1 t) : S1x256x1024.Idx → EReal) y
      = result (m ((c : Thread nD τ).loc main_arg0)) (m ((c : Thread nD τ).loc main_arg1)) b i k := by
  refine (out_row _ _ y).trans ?_
  obtain rfl : k = y 2 := Fin.ext hk
  unfold result
  have hX : (fun j => (iblk m c 0 t : S1x256x1024.Idx → EReal) (ix3 0 (y 1) j))
      = fun j => (m ((c : Thread nD τ).loc main_arg0) : S2x8448x1024.Idx → EReal) (ix3 b (token i) j) := funext fun j =>
    (read_x m c t _ (ix3 b (token i) j) (by exact hb) (by show 256 + i.val = (t.val % 32 + 1) * 256 + (y 1).val; omega) rfl).trans
      (congrFun (V_main_arg0 m c) _)
  have hG : (fun j => (iblk m c 1 t : S1x1024.Idx → EReal) (ix2 0 j))
      = fun j => (m ((c : Thread nD τ).loc main_arg1) : S1024.Idx → EReal) (ix1 j) := funext fun j =>
    (read_g m c t _ (ix2 0 j) rfl rfl).trans (g_apply m c j)
  rw [hX, hG]

/-- The kernel's array. -/
theorem array : (dats m 0 c).arrAt 2 cfg0.N = fun j : S2x8192x1024.Idx =>
    result (m ((c : Thread nD τ).loc main_arg0)) (m ((c : Thread nD τ).loc main_arg1)) (j 0) (j 1) (j 2) := by
  refine (dats m 0 c).arrAt_eq_of_covers 2 _ (by decide +kernel) fun t hf y => ?_
  blk_simp
  rw [after0_2]
  have y0 : (y 0).val < 1 := (y 0).isLt
  refine row m c t _ _ _ _ ?_ ?_ ?_
  all_goals blk_simp [idx t]

end Cert.Kernel4Ideal.Final

namespace Cert.Reference4Ideal.Final

open Cert.Reference4Ideal Cert.Reference4Ideal.Gen Cert.Reference4Ideal.Read Cert.Norm Cert.Final Idealize.ShloMosaic

/-- The reference's array. -/
theorem out (x0 : S2x8448x1024.Idx → EReal) (x1 : S1024.Idx → EReal) :
    (val_main_v13 (F := Ideal) x0 x1 : S2x8192x1024.Idx → EReal) = fun i => result x0 x1 (i 0) (i 1) (i 2) := by
  funext i
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply]
  refine Eq.trans ?_ (norm_host _ _ _)
  have e0 : idx_main_v0 i = ix3 (i 0) (token (i 1)) (i 2) := eq_ix3 _
  have e1 : ∀ j : Fin 1024, idx_main_v0 (idx_main_v2 (idx_main_v3 (idx_main_v9 i)) j) = ix3 (i 0) (token (i 1)) j := fun j => eq_ix3 _
  have e2 : idx_main_v11 (idx_main_v12 i) = ix1 (i 2) := eq_ix1 _
  simp only [e0, e1, e2]
  rfl

end Cert.Reference4Ideal.Final
-- ==== Proof.RouteSpec.lean ====
/- The key scores of the expert routing over its arguments: what both sides compute. -/
module

public import Idealize.ShloMosaic.PureOps.Ideal.Laws
public import Idealize.ShloMosaic.Lib.Pipeline.ValueKit
public import Idealize.ShloMosaic.Lib.Pointwise.Index

@[expose] public section

noncomputable section

namespace Cert.Route

open Idealize.ShloMosaic

variable (hT : (⟨2, ![1024, 16896]⟩ : Shape).Idx → EReal) (wq : (⟨2, ![1024, 2048]⟩ : Shape).Idx → EReal)
  (keys : (⟨3, ![2, 128, 128]⟩ : Shape).Idx → EReal)

/-- A lane of the routing queries of a token. -/
def query (n : Fin 2048) (t : Fin 16896) : EReal := ∑ d : Fin 1024, wq (ix2 d n) * hT (ix2 d t)

/-- The lane of the second half of a head's query. -/
def lane (h : Fin 8) (j : Fin 128) : Fin 2048 := ⟨h.val * 256 + 128 + j.val, by omega⟩

/-- The score of a key of the second table for a head of a token. -/
def score (h : Fin 8) (k : Fin 128) (t : Fin 16896) : EReal := ∑ j : Fin 128, keys (ix3 1 k j) * query hT wq (lane h j) t

/-- Against its column's largest score, exponentiated. -/
def weight {n : ℕ} (s : Fin n → EReal) (k : Fin n) : EReal := Ideal.exp (s k - (Finset.univ : Finset (Fin n)).fold max (⊥ : EReal) s)

end Cert.Route
-- ==== Proof.RouteKernel.lean ====
/- The expert routing call: its key scores over the arguments. -/
module

public import Idealize.ShloMosaic.Lib.StableHlo.ReadAt
public import proofs.«01_k».proof.Proof.RouteSpec
public import proofs.«01_k».proof.Proof.Gen.Kernel5Ideal.Value
public import proofs.«01_k».proof.Proof.Softmax
public import Idealize.ShloMosaic.Lib.Pipeline.ReadBack

@[expose] public section

set_option maxRecDepth 16384

noncomputable section

namespace Cert.Kernel5Ideal.Route

open Cert.Kernel5Ideal Cert.Kernel5Ideal.Gen Cert.Route Idealize.ShloMosaic Idealize.ShloMosaic.TcCoe

/-- A column's largest score. -/
theorem max_pay (v : Vec Ideal S128x128 .f32) (c : Fin 128) :
    (k0_pay57 (F := Ideal) v : S1x128.Idx → EReal) (ix2 0 c) = (Finset.univ : Finset (Fin 128)).fold max (⊥ : EReal) fun k => v (ix2 k c) := by
  refine Eq.trans (b := (multiReduction (F := Ideal) .maximumf [0] S128 v 0xFF800000#32 reduces_S128x128_S128 (.inl rfl) rfl : S128.Idx → EReal) (ix1 c)) ?_ ?_
  · pointwise [k0_pay57]
  · refine (Ideal.multiReduction_maximumf_single _ _ _ _ _ _).trans ?_
    rw [show (FloatOps.ofBits .f32 0xFF800000#32 : Ideal .f32) = ⊥ from Cert.Attn.ofBits_neg_inf]
    refine congrArg (fun f => (Finset.univ : Finset (Fin 128)).fold max (⊥ : EReal) f) (funext fun k => ?_)
    exact congrArg v (eq_ix2 _)

/-- The first of the stacked rows of maxima. -/
theorem rows_pay (r0 r1 r2 r3 r4 r5 r6 r7 r8 r9 r10 r11 r12 r13 r14 r15 : FVec Ideal S1x128 .f32) (c : Fin 128) :
    (k0_pay110 (F := Ideal) r0 r1 r2 r3 r4 r5 r6 r7 r8 r9 r10 r11 r12 r13 r14 r15 : S16x128.Idx → EReal) (ix2 0 c) = r0 (ix2 0 c) := by
  unfold k0_pay110
  pointwise

/-- What is stored, over the scores and the stacked maxima. -/
theorem weight_pay (v : Vec Ideal S128x128 .f32) (r : FVec Ideal S16x128 .f32) (j : S1x128x128.Idx) :
    (k0_pay175 (F := Ideal) v r : S1x128x128.Idx → EReal) j = Ideal.exp (v (ix2 (j 1) (j 2)) - r (ix2 0 (j 2))) := by
  pointwise [k0_pay175]

/-- The query product of a block. -/
theorem query_pay (w : Vec Ideal S2048x1024 .bf16) (h : Vec Ideal S1024x768 .bf16) (n : Fin 2048) (t : Fin 768) :
    (k0_pay1 (F := Ideal) w h : S2048x768.Idx → EReal) (ix2 n t) = ∑ d : Fin 1024, w (ix2 n d) * h (ix2 d t) := by
  pointwise [k0_pay1]

/-- The key scores of a block. -/
theorem score_pay (q : Vec Ideal S128x768 .f32) (u : Vec Ideal S1x128x128 .bf16) (k : Fin 128) (t : Fin 768) :
    (k0_pay3 (F := Ideal) q u : S128x768.Idx → EReal) (ix2 k t) = ∑ j : Fin 128, u (ix3 0 k j) * q (ix2 j t) := by
  pointwise [k0_pay3]

/-- The columns that a trip loads. -/
theorem off3 : ∀ k : Fin k0_t1_loop.trips, k0_off3 k = ![0, 128 * k.val] := by decide +kernel

/-- The columns that a trip stores. -/
theorem off4 : ∀ k : Fin k0_t1_loop.trips, k0_off4 k = ![0, 0, 128 * k.val] := by decide +kernel

/-- The rows of the second half of a head's query. -/
theorem off2 : ∀ i : grid0.Coords, k0_off2 i = ![(i 1).val * 256 + 128, 0] := by decide +kernel

/-- A block of the result over the block of the scores. -/
def weights (s : Vec Ideal S128x768 .f32) : S1x128x768.Idx → EReal := fun y => weight (fun k : Fin 128 => s (ix2 k (y 2))) (y 1)

/-- What a trip stores, over the scores that it loads. -/
theorem trip_value (arg11 : Memref sig .tc .vmem S128x768 .f32) (X_arg11 : BufTy.Contents (Elt Ideal) arg11.view.ty) (k : Fin k0_t1_loop.trips)
    (x : S1x128x128.Idx) :
    (k0_pay175 (F := Ideal) (trip_k0_t1.sl.r_1 arg11 X_arg11 k) (trip_k0_t1.sl.r_53 arg11 X_arg11 k) : S1x128x128.Idx → EReal) x
      = weight (fun a : Fin 128 => (trip_k0_t1.sl.r_1 (F := Ideal) arg11 X_arg11 k : S128x128.Idx → EReal) (ix2 a (x 2))) (x 1) := by
  refine (weight_pay _ _ x).trans ?_
  unfold trip_k0_t1.sl.r_53
  refine congrArg (fun b : EReal => Ideal.exp ((trip_k0_t1.sl.r_1 (F := Ideal) arg11 X_arg11 k : S128x128.Idx → EReal) (ix2 (x 1) (x 2)) - b))
    ((rows_pay _ _ _ _ _ _ _ _ _ _ _ _ _ _ _ _ (x 2)).trans ?_)
  unfold trip_k0_t1.sl.r_28
  exact max_pay _ (x 2)

/-- The same over all the scores. -/
theorem piece_value (arg11 : Memref sig .tc .vmem S128x768 .f32) (X_arg11 : BufTy.Contents (Elt Ideal) arg11.view.ty) (k : Fin k0_t1_loop.trips)
    (x : S1x128x128.Idx) (y : S1x128x768.Idx) (h1 : (y 1).val = (x 1).val) (h2 : (y 2).val = 128 * k.val + (x 2).val) :
    weight (fun a : Fin 128 => (trip_k0_t1.sl.r_1 (F := Ideal) arg11 X_arg11 k : S128x128.Idx → EReal) (ix2 a (x 2))) (x 1)
      = weights (arg11.view.read (Elt Ideal) X_arg11) y := by
  refine congrArg₂ weight (funext fun a => ?_) (Fin.ext h1.symm)
  unfold trip_k0_t1.sl.r_1
  refine congrArg (arg11.view.read (Elt Ideal) X_arg11) (funext fun d => Fin.ext ?_)
  have h3 := off3 k
  match d with
  | ⟨0, _⟩ => show k0_off3 k 0 + 1 * a.val = a.val; rw [h3]; show 0 + 1 * a.val = a.val; omega
  | ⟨1, _⟩ => show k0_off3 k 1 + 1 * (x 2).val = (y 2).val; rw [h3, h2]; show 128 * k.val + 1 * (x 2).val = _; omega

section
variable (𝒱 : Variants) (c : Dev nD) (bd : Option 𝒱.V) (i : grid0.Coords) (arg2 : Memref sig .tc .vmem S1024x768 .bf16) (harg2 : arg2.IsWhole) (arg3 : Memref sig .tc .vmem S2048x1024 .bf16) (harg3 : arg3.IsWhole) (arg4 : Memref sig .tc .vmem S2x128x128 .bf16) (harg4 : arg4.IsWhole) (arg5 : Memref sig .tc .vmem S1x128x768 .bf16) (harg5 : arg5.IsWhole) (arg6 : Memref sig .tc .vmem S1x128x768 .bf16) (harg6 : arg6.IsWhole) (arg7 : Memref sig .tc .vmem S1x128x768 .f32) (harg7 : arg7.IsWhole) (arg8 : Memref sig .tc .vmem S1x128x768 .f32) (harg8 : arg8.IsWhole) (arg9 : Memref sig .tc .vmem S2048x768 .f32) (harg9 : arg9.IsWhole) (arg10 : Memref sig .tc .vmem S128x768 .f32) (harg10 : arg10.IsWhole) (arg11 : Memref sig .tc .vmem S128x768 .f32) (harg11 : arg11.IsWhole)
  (X_arg10 : BufTy.Contents (Elt Ideal) arg10.view.ty) (X_arg11 : BufTy.Contents (Elt Ideal) arg11.view.ty)

/-- A trip stores a block of the weights. -/
theorem trip_pieces (k : Fin k0_t1_loop.trips) :
    View.PiecesOf (weights (arg11.view.read (Elt Ideal) X_arg11)) (trip_k0_t1 (F := Ideal) 𝒱 c bd i arg2 harg2 arg3 harg3 arg4 harg4 arg5 harg5 arg6 harg6 arg7 harg7 arg8 harg8 arg9 harg9 arg10 harg10 arg11 harg11 X_arg10 X_arg11 k).2.1 := by
  unfold trip_k0_t1
  refine ⟨fun (x : S1x128x128.Idx) => ?_, trivial⟩
  refine (trip_value arg11 X_arg11 k x).trans ?_
  refine piece_value arg11 X_arg11 k x _ ?_ ?_
  · show k0_off4 k 1 + 1 * (x 1).val = _
    rw [off4 k]; show 0 + 1 * (x 1).val = _; omega
  · show k0_off4 k 2 + 1 * (x 2).val = _
    rw [off4 k]; show 128 * k.val + 1 * (x 2).val = _; omega

/-- So do the trips before any. -/
theorem loop_pieces : ∀ n : ℕ, n ≤ k0_t1_loop.trips →
    ∀ p ∈ (pb_k0_t1 (F := Ideal) 𝒱 c bd i arg2 harg2 arg3 harg3 arg4 harg4 arg5 harg5 arg6 harg6 arg7 harg7 arg8 harg8 arg9 harg9 arg10 harg10 arg11 harg11 X_arg10 X_arg11 n).2.1, ∀ x : p.1.shape.Idx,
      p.2 x = weights (arg11.view.read (Elt Ideal) X_arg11) (p.1.emb x)
  | 0, _ => fun p hp => absurd hp List.not_mem_nil
  | n + 1, hn => by
    intro p hp
    rw [pb_k0_t1_succ (F := Ideal) 𝒱 c bd i arg2 harg2 arg3 harg3 arg4 harg4 arg5 harg5 arg6 harg6 arg7 harg7 arg8 harg8 arg9 harg9 arg10 harg10 arg11 harg11 X_arg10 X_arg11 ⟨n, hn⟩] at hp
    rcases List.mem_append.1 hp with h | h
    · exact (trip_pieces 𝒱 c bd i arg2 harg2 arg3 harg3 arg4 harg4 arg5 harg5 arg6 harg6 arg7 harg7 arg8 harg8 arg9 harg9 arg10 harg10 arg11 harg11 X_arg10 X_arg11 ⟨n, hn⟩).mem p h
    · exact loop_pieces n (Nat.le_of_succ_le hn) p h

end

/-- The block of the scores over the queries and the keys. -/
def scores (i : grid0.Coords) (q : Vec Ideal S2048x768 .f32) (u : Vec Ideal S2x128x128 .bf16) : Vec Ideal S128x768 .f32 :=
  fun y => ∑ j : Fin 128, u (ix3 1 (y 0) j) * q (ix2 (lane (i 1) j) (y 1))

/-- The stored scores are these. -/
theorem scores_eq (i : grid0.Coords) (q : Vec Ideal S2048x768 .f32) (u : Vec Ideal S2x128x128 .bf16) :
    k0_pay3 (F := Ideal) (View.ld q (Rect.unit (s := S2048x768) (k0_off2 i) S128x768.size (k0_off2_inb i)))
      (View.ld u (Rect.unit (s := S2x128x128) ![1, 0, 0] S1x128x128.size inb_S2x128x128_S1x128x128_1_0_0)) = scores i q u := by
  funext y
  obtain ⟨k, t, rfl⟩ : ∃ (k : Fin 128) (t : Fin 768), y = ix2 k t := ⟨y 0, y 1, eq_ix2 y⟩
  refine (score_pay _ _ k t).trans ?_
  refine Finset.sum_congr rfl fun j _ => ?_
  have h2 := off2 i
  refine congrArg₂ (· * ·) (congrArg u (funext fun d => Fin.ext ?_)) (congrArg q (funext fun d => Fin.ext ?_))
  · match d with
    | ⟨0, _⟩ => rfl
    | ⟨1, _⟩ => show 0 + 1 * k.val = k.val; omega
    | ⟨2, _⟩ => show 0 + 1 * j.val = j.val; omega
  · match d with
    | ⟨0, _⟩ => show k0_off2 i 0 + 1 * j.val = (i 1).val * 256 + 128 + j.val; rw [h2]; show (i 1).val * 256 + 128 + 1 * j.val = _; omega
    | ⟨1, _⟩ => show k0_off2 i 1 + 1 * t.val = t.val; rw [h2]; show 0 + 1 * t.val = _; omega

/-- What the first head of a block keeps: the query product. -/
theorem sout_A (c : Dev nD) (i : grid0.Coords) (arg2 : Memref sig .tc .vmem S1024x768 .bf16) (harg2 : arg2.IsWhole) (arg3 : Memref sig .tc .vmem S2048x1024 .bf16) (harg3 : arg3.IsWhole) (arg4 : Memref sig .tc .vmem S2x128x128 .bf16) (harg4 : arg4.IsWhole) (arg5 : Memref sig .tc .vmem S1x128x768 .bf16) (harg5 : arg5.IsWhole) (arg6 : Memref sig .tc .vmem S1x128x768 .bf16) (harg6 : arg6.IsWhole) (arg7 : Memref sig .tc .vmem S1x128x768 .f32) (harg7 : arg7.IsWhole) (arg8 : Memref sig .tc .vmem S1x128x768 .f32) (harg8 : arg8.IsWhole) (arg9 : Memref sig .tc .vmem S2048x768 .f32) (harg9 : arg9.IsWhole) (arg10 : Memref sig .tc .vmem S128x768 .f32) (harg10 : arg10.IsWhole) (arg11 : Memref sig .tc .vmem S128x768 .f32) (harg11 : arg11.IsWhole) (hc0 : cond0_0 i) (x0 : Vec Ideal S1024x768 .bf16) (x1 : Vec Ideal S2048x1024 .bf16) (x2 : Vec Ideal S2x128x128 .bf16) :
    sout0_A_0 (F := Ideal) c i arg2 harg2 arg3 harg3 arg4 harg4 arg5 harg5 arg6 harg6 arg7 harg7 arg8 harg8 arg9 harg9 arg10 harg10 arg11 harg11 hc0 x0 x1 x2 = k0_pay1 (F := Ideal) x1 x0 := by
  unfold sout0_A_0 kernelRun0_A
  dsimp only
  sl_unfold_words
  rw [View.read_writes_junk_eq_canon, View.canon_unit_zero (by decide), View.readAt_eq_ld, View.readAt_eq_ld, harg2.read_unread, harg3.read_unread,
    View.ld_unit_zero (by decide), View.ld_unit_zero (by decide)]

/-- The result's block at the first head of a block of tokens. -/
theorem out_A (c : Dev nD) (i : grid0.Coords) (arg2 : Memref sig .tc .vmem S1024x768 .bf16) (harg2 : arg2.IsWhole) (arg3 : Memref sig .tc .vmem S2048x1024 .bf16) (harg3 : arg3.IsWhole) (arg4 : Memref sig .tc .vmem S2x128x128 .bf16) (harg4 : arg4.IsWhole) (arg5 : Memref sig .tc .vmem S1x128x768 .bf16) (harg5 : arg5.IsWhole) (arg6 : Memref sig .tc .vmem S1x128x768 .bf16) (harg6 : arg6.IsWhole) (arg7 : Memref sig .tc .vmem S1x128x768 .f32) (harg7 : arg7.IsWhole) (arg8 : Memref sig .tc .vmem S1x128x768 .f32) (harg8 : arg8.IsWhole) (arg9 : Memref sig .tc .vmem S2048x768 .f32) (harg9 : arg9.IsWhole) (arg10 : Memref sig .tc .vmem S128x768 .f32) (harg10 : arg10.IsWhole) (arg11 : Memref sig .tc .vmem S128x768 .f32) (harg11 : arg11.IsWhole) (hc0 : cond0_0 i) (x0 : Vec Ideal S1024x768 .bf16) (x1 : Vec Ideal S2048x1024 .bf16) (x2 : Vec Ideal S2x128x128 .bf16) (y : S1x128x768.Idx) :
    out0_A_4 (F := Ideal) c i arg2 harg2 arg3 harg3 arg4 harg4 arg5 harg5 arg6 harg6 arg7 harg7 arg8 harg8 arg9 harg9 arg10 harg10 arg11 harg11 hc0 x0 x1 x2 y = weights (scores i (k0_pay1 (F := Ideal) x1 x0) x2) y := by
  unfold out0_A_4
  rw [View.read_writes_junk_eq_canon]
  refine (View.canon_apply_of_pieces (weights (scores i (k0_pay1 (F := Ideal) x1 x0) x2)) _ ?_ y
    (cover0_A_4 c i arg2 harg2 arg3 harg3 arg4 harg4 arg5 harg5 arg6 harg6 arg7 harg7 arg8 harg8 arg9 harg9 arg10 harg10 arg11 harg11 hc0 x0 x1 x2 y))
  unfold kernelRun0_A
  intro p hp x
  refine (loop_pieces _ c _ i arg2 harg2 arg3 harg3 arg4 harg4 arg5 harg5 arg6 harg6 arg7 harg7 arg8 harg8 arg9 harg9 arg10 harg10 arg11 harg11 _ _ _ (by decide) p hp x).trans ?_
  sl_unfold_words
  refine congrArg (fun s => weights s (p.1.emb x)) (Eq.trans ?_ (scores_eq i (k0_pay1 (F := Ideal) x1 x0) x2))
  rw [View.read_writes_junk_eq_canon, View.canon_unit_zero (by decide), View.readAt_eq_ld, View.readAt_eq_ld, View.readAt_eq_ld, View.readAt_eq_ld,
    harg2.read_unread, harg3.read_unread, harg4.read_unread, View.ld_unit_zero (by decide), View.ld_unit_zero (by decide),
    View.read_writes_junk_eq_canon, View.canon_unit_zero (by decide)]
  rfl

/-- The result's block at a later head, over the kept queries. -/
theorem out_B (c : Dev nD) (i : grid0.Coords) (arg2 : Memref sig .tc .vmem S1024x768 .bf16) (harg2 : arg2.IsWhole) (arg3 : Memref sig .tc .vmem S2048x1024 .bf16) (harg3 : arg3.IsWhole) (arg4 : Memref sig .tc .vmem S2x128x128 .bf16) (harg4 : arg4.IsWhole) (arg5 : Memref sig .tc .vmem S1x128x768 .bf16) (harg5 : arg5.IsWhole) (arg6 : Memref sig .tc .vmem S1x128x768 .bf16) (harg6 : arg6.IsWhole) (arg7 : Memref sig .tc .vmem S1x128x768 .f32) (harg7 : arg7.IsWhole) (arg8 : Memref sig .tc .vmem S1x128x768 .f32) (harg8 : arg8.IsWhole) (arg9 : Memref sig .tc .vmem S2048x768 .f32) (harg9 : arg9.IsWhole) (arg10 : Memref sig .tc .vmem S128x768 .f32) (harg10 : arg10.IsWhole) (arg11 : Memref sig .tc .vmem S128x768 .f32) (harg11 : arg11.IsWhole) (hc0 : ¬cond0_0 i) (x0 : Vec Ideal S1024x768 .bf16) (x1 : Vec Ideal S2048x1024 .bf16) (x2 : Vec Ideal S2x128x128 .bf16) (xs0 : Vec Ideal S2048x768 .f32) (y : S1x128x768.Idx) :
    out0_B_4 (F := Ideal) c i arg2 harg2 arg3 harg3 arg4 harg4 arg5 harg5 arg6 harg6 arg7 harg7 arg8 harg8 arg9 harg9 arg10 harg10 arg11 harg11 hc0 x0 x1 x2 xs0 y = weights (scores i xs0 x2) y := by
  unfold out0_B_4
  rw [View.read_writes_junk_eq_canon]
  refine (View.canon_apply_of_pieces (weights (scores i xs0 x2)) _ ?_ y (cover0_B_4 c i arg2 harg2 arg3 harg3 arg4 harg4 arg5 harg5 arg6 harg6 arg7 harg7 arg8 harg8 arg9 harg9 arg10 harg10 arg11 harg11 hc0 x0 x1 x2 xs0 y))
  unfold kernelRun0_B
  intro p hp x
  refine (loop_pieces _ c _ i arg2 harg2 arg3 harg3 arg4 harg4 arg5 harg5 arg6 harg6 arg7 harg7 arg8 harg8 arg9 harg9 arg10 harg10 arg11 harg11 _ _ _ (by decide) p hp x).trans ?_
  sl_unfold_words
  refine congrArg (fun s => weights s (p.1.emb x)) (Eq.trans ?_ (scores_eq i xs0 x2))
  rw [View.read_writes_junk_eq_canon, View.canon_unit_zero (by decide), View.readAt_eq_ld, View.readAt_eq_ld,
    harg9.read_unread, harg4.read_unread]
  rfl

variable (m : (ℓ : Loc nD τ sig) → Buf (Elt Ideal) ℓ) (c : Dev nD)

/-- The blocks of a point. -/
theorem idx : ∀ t : Fin cfg0.N, win0_0.index t = ![0, t.val / 8] ∧ win0_1.index t = ![0, 0] ∧ win0_2.index t = ![0, 0, 0]
    ∧ win0_4.index t = ![t.val % 8, 0, t.val / 8] ∧ (grid0.coords t 1).val = t.val % 8 :=
  (by decide +kernel : ∀ t : Fin grid0.N, _)

theorem read_h (t : Fin cfg0.N) (x : S1024x768.Idx) (j : S1024x16896.Idx) (h0 : (j 0).val = (x 0).val)
    (h1 : (j 1).val = t.val / 8 * 768 + (x 1).val) : (iblk m c 0 t : S1024x768.Idx → EReal) x = V m c main_arg0 j := by
  blk_ext! [iblk, idx t]

theorem read_w (t : Fin cfg0.N) (x j : S2048x1024.Idx) (h0 : (j 0).val = (x 0).val) (h1 : (j 1).val = (x 1).val) :
    (iblk m c 1 t : S2048x1024.Idx → EReal) x = V m c main_v1 j := by
  blk_ext! [iblk, idx t]

theorem read_k (t : Fin cfg0.N) (x j : S2x128x128.Idx) (h0 : (j 0).val = (x 0).val) (h1 : (j 1).val = (x 1).val)
    (h2 : (j 2).val = (x 2).val) : (iblk m c 2 t : S2x128x128.Idx → EReal) x = V m c main_v2 j := by
  blk_ext! [iblk, idx t]

theorem w_apply (n : Fin 2048) (d : Fin 1024) : (V m c main_v1 : S2048x1024.Idx → EReal) (ix2 n d)
    = (m ((c : Thread nD τ).loc main_arg1) : S1024x2048.Idx → EReal) (ix2 d n) := by
  unfold V
  after_reads_at

theorem k_apply (a : Fin 2) (k j : Fin 128) : (V m c main_v2 : S2x128x128.Idx → EReal) (ix3 a k j)
    = (m ((c : Thread nD τ).loc main_arg2) : S2x128x128.Idx → EReal) (ix3 a k j) := by
  unfold V
  after_reads_at

/-- The queries of a block of tokens, which the kernel keeps between a block's heads. -/
def held (g : ℕ) : Vec Ideal S2048x768 .f32 := fun y =>
  if h : g < 22 then query (m ((c : Thread nD τ).loc main_arg0)) (m ((c : Thread nD τ).loc main_arg1)) (y 0)
    (⟨g * 768 + (y 1).val, by have := (y 1).isLt; change (y 1).val < 768 at this; omega⟩ : Fin 16896) else 0

theorem group_lt (t : Fin cfg0.N) : t.val / 8 < 22 := by
  have h : t.val < 176 := t.isLt
  omega

/-- The query product of a point's blocks. -/
theorem held_block (t : Fin cfg0.N) : k0_pay1 (F := Ideal) (iblk m c 1 t) (iblk m c 0 t) = held m c (t.val / 8) := by
  funext y
  obtain ⟨n, u, rfl⟩ : ∃ (n : Fin 2048) (u : Fin 768), y = ix2 n u := ⟨y 0, y 1, eq_ix2 y⟩
  refine (query_pay _ _ n u).trans ?_
  unfold held
  rw [dif_pos (group_lt t)]
  refine Finset.sum_congr rfl fun d _ => congrArg₂ (· * ·) ?_ ?_
  · exact (read_w m c t _ (ix2 n d) rfl rfl).trans (w_apply m c n d)
  · exact (read_h m c t _ (ix2 d _) rfl rfl).trans (congrFun (V_main_arg0 m c) _)

/-- The first head of a block keeps the query product. -/
theorem held_A (t : Fin cfg0.N) (h0 : t.val % 8 = 0) : (outsAt0 m c t.val t.isLt).2.2.2.2 = held m c (t.val / 8) := by
  rw [outsAt0_A m c t h0]
  dsimp only
  exact (sout_A ..).trans (held_block m c t)

/-- A later head keeps what the head before kept. -/
theorem held_B (t : Fin cfg0.N) (h0 : ¬t.val % 8 = 0) : (outsAt0 m c t.val t.isLt).2.2.2.2
    = (outsAt0 m c (t.val - 1) (Nat.lt_of_le_of_lt (Nat.sub_le _ _) t.isLt)).2.2.2.2 := by
  rw [outsAt0_B m c t h0]
  dsimp only
  unfold sout0_B_0
  rfl

/-- What the kernel keeps after a point. -/
theorem held_at : ∀ (n : ℕ) (hn : n < cfg0.N), (outsAt0 m c n hn).2.2.2.2 = held m c (n / 8)
  | 0, hn => (held_A m c ⟨0, hn⟩ rfl).trans rfl
  | n + 1, hn => by
    by_cases h0 : (n + 1) % 8 = 0
    · exact held_A m c ⟨n + 1, hn⟩ h0
    · refine (held_B m c ⟨n + 1, hn⟩ h0).trans ?_
      simp only [Nat.add_sub_cancel]
      rw [held_at n, show n / 8 = (n + 1) / 8 by omega]

/-- What a point leaves in the result's block. -/
theorem out_at (t : Fin cfg0.N) (y : S1x128x768.Idx) :
    ((outsAt0 m c t.val t.isLt).2.1 : S1x128x768.Idx → EReal) y = weights (scores (grid0.coords t) (held m c (t.val / 8)) (iblk m c 2 t)) y := by
  by_cases h0 : t.val % 8 = 0
  · rw [outsAt0_A m c t h0]
    dsimp only
    refine (out_A (y := y) ..).trans ?_
    rw [held_block m c t]
  · rw [outsAt0_B m c t h0]
    dsimp only
    refine (out_B (y := y) ..).trans ?_
    rw [held_at m c (t.val - 1) _, show (t.val - 1) / 8 = t.val / 8 by omega]

/-- The scores of a point over the arguments. -/
theorem block_scores (t : Fin cfg0.N) (k : Fin 128) (u : Fin 768) (h : Fin 8) (s : Fin 16896) (hh : h.val = t.val % 8)
    (hs : s.val = t.val / 8 * 768 + u.val) :
    (scores (grid0.coords t) (held m c (t.val / 8)) (iblk m c 2 t) : S128x768.Idx → EReal) (ix2 k u)
      = score (m ((c : Thread nD τ).loc main_arg0)) (m ((c : Thread nD τ).loc main_arg1)) (m ((c : Thread nD τ).loc main_arg2)) h k s := by
  have hi : (grid0.coords t 1 : Fin 8) = h := Fin.ext ((idx t).2.2.2.2.trans hh.symm)
  refine Finset.sum_congr rfl fun j _ => congrArg₂ (· * ·) ?_ ?_
  · exact (read_k m c t _ (ix3 1 k j) rfl rfl rfl).trans (k_apply m c 1 k j)
  · unfold held
    rw [dif_pos (group_lt t)]
    exact congrArg₂ (query _ _) (congrArg (lane · j) hi) (Fin.ext hs.symm)

/-- The second result of the call. -/
theorem array4 : (dats m 0 c).arrAt 4 cfg0.N = fun j : S8x128x16896.Idx =>
    weight (fun k => score (m ((c : Thread nD τ).loc main_arg0)) (m ((c : Thread nD τ).loc main_arg1)) (m ((c : Thread nD τ).loc main_arg2))
      (j 0) k (j 2)) (j 1) := by
  refine (dats m 0 c).arrAt_eq_of_covers 4 _ (by decide +kernel) fun t hf y => ?_
  blk_simp
  rw [after0_4]
  have y0 : (y 0).val < 1 := (y 0).isLt
  refine (out_at m c t _).trans ?_
  refine congrArg₂ weight (funext fun k => block_scores m c t k _ _ _ ?_ ?_) (Fin.ext ?_)
  all_goals blk_simp [idx t]

end Cert.Kernel5Ideal.Route
-- ==== Proof.RouteReference.lean ====
/- The key scores of the expert routing in the reference: its result over the arguments. -/
module

public import proofs.«01_k».proof.Proof.RouteSpec
public import proofs.«01_k».proof.Proof.Softmax
public import Idealize.ShloMosaic.Lib.KernelVsHost
public import proofs.«01_k».proof.Proof.Gen.Reference5Ideal.Read

@[expose] public section

set_option maxRecDepth 16384

noncomputable section

namespace Cert.Reference5Ideal.Route

open Cert.Reference5Ideal Cert.Reference5Ideal.Gen Cert.Reference5Ideal.Read Cert.Route Idealize.ShloMosaic

variable (x0 : S1024x16896.Idx → EReal) (x1 : S1024x2048.Idx → EReal) (x2 : S2x128x128.Idx → EReal)

theorem query_apply (t : Fin 16896) (n : Fin 2048) : (val_main_v2 (F := Ideal) x0 x1 : S16896x2048.Idx → EReal) (ix2 t n) = query x0 x1 n t := by
  refine (val_main_v2_apply x0 x1 _).trans ?_
  refine Finset.sum_congr rfl fun d _ => ?_
  refine (mul_comm _ _).trans (congrArg₂ (· * ·) (congrArg x1 (eq_ix2 _)) ?_)
  refine (val_main_v1_apply (F := Ideal) x0 _).trans ?_
  exact (val_main_v0_apply (F := Ideal) x0 _).trans (congrArg x0 (eq_ix2 _))

theorem half_apply (t : Fin 16896) (h : Fin 8) (j : Fin 128) :
    (val_main_v4 (F := Ideal) x0 x1 : S16896x8x128.Idx → EReal) (ix3 t h j) = query x0 x1 (lane h j) t := by
  refine Eq.trans ?_ (query_apply x0 x1 t (lane h j))
  refine (val_main_v4_apply (F := Ideal) x0 x1 _).trans ((val_main_v3_apply (F := Ideal) x0 x1 _).trans (congrArg _ ?_))
  funext a
  refine Fin.ext ?_
  have hh := h.isLt
  have hj := j.isLt
  match a with
  | ⟨0, _⟩ => show ((t.val * 8 + h.val) * 256 + (128 + j.val)) / 2048 = t.val; omega
  | ⟨1, _⟩ => show ((t.val * 8 + h.val) * 256 + (128 + j.val)) % 2048 = h.val * 256 + 128 + j.val; omega

theorem keys_apply (k j : Fin 128) : (val_main_v6 (F := Ideal) x2 : S128x128.Idx → EReal) (ix2 k j) = x2 (ix3 1 k j) := by
  refine (val_main_v6_apply (F := Ideal) x2 _).trans ((val_main_v5_apply (F := Ideal) x2 _).trans (congrArg x2 ?_))
  funext a
  refine Fin.ext ?_
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

theorem score_apply (t : Fin 16896) (h : Fin 8) (k : Fin 128) :
    (val_main_v7 (F := Ideal) x0 x1 x2 : S16896x8x128.Idx → EReal) (ix3 t h k) = score x0 x1 x2 h k t := by
  refine (val_main_v7_apply x0 x1 x2 _).trans ?_
  refine Finset.sum_congr rfl fun j _ => ?_
  refine (mul_comm _ _).trans (congrArg₂ (· * ·) ?_ ?_)
  · exact (congrArg _ (eq_ix2 _)).trans (keys_apply x2 k j)
  · exact (congrArg _ (eq_ix3 _)).trans (half_apply x0 x1 t h j)

theorem top_apply (t : Fin 16896) (h : Fin 8) : (val_main_v8 (F := Ideal) x0 x1 x2 : S16896x8.Idx → EReal) (ix2 t h)
    = (Finset.univ : Finset (Fin 128)).fold max (⊥ : EReal) fun k => score x0 x1 x2 h k t := by
  have hr : S16896x8x128.Reduces [2] S16896x8 := ⟨rfl, by decide, reducesTo_S16896x8x128_S16896x8_d2.2⟩
  unfold val_main_v8
  refine (congrFun (hostReduce_maximumf_eq_multiReduction (F := Ideal) (φ := .f32) (s := S16896x8x128)
    (val_main_v7 (F := Ideal) x0 x1 x2) 0xFF800000#32 reducesTo_S16896x8x128_S16896x8_d2 h_S_ hr (.inl rfl) rfl) (ix2 t h)).trans ?_
  refine (Ideal.multiReduction_maximumf_single _ _ _ _ _ _).trans ?_
  rw [show (FloatOps.ofBits .f32 0xFF800000#32 : Ideal .f32) = ⊥ from Cert.Attn.ofBits_neg_inf]
  refine congrArg (fun f => (Finset.univ : Finset (Fin 128)).fold max (⊥ : EReal) f) (funext fun k => ?_)
  exact (congrArg _ (eq_ix3 _)).trans (score_apply x0 x1 x2 t h k)

/-- The reference's result. -/
theorem out : (val_main_v14 (F := Ideal) x0 x1 x2 : S8x128x16896.Idx → EReal)
    = fun j => weight (fun k => score x0 x1 x2 (j 0) k (j 2)) (j 1) := by
  funext j
  refine (val_main_v14_apply (F := Ideal) x0 x1 x2 j).trans ((val_main_v13_apply (F := Ideal) x0 x1 x2 j).trans
    ((val_main_v12_apply (F := Ideal) x0 x1 x2 _).trans ?_))
  refine congrArg Ideal.exp ((val_main_v11_apply (F := Ideal) x0 x1 x2 _).trans ?_)
  refine congrArg₂ (fun a b : EReal => a - b) ((congrArg _ (eq_ix3 _)).trans (score_apply x0 x1 x2 (j 2) (j 0) (j 1))) ?_
  refine (val_main_v10_apply (F := Ideal) x0 x1 x2 _).trans ((val_main_v9_apply (F := Ideal) x0 x1 x2 _).trans ?_)
  exact (congrArg _ (eq_ix2 _)).trans (top_apply x0 x1 x2 (j 2) (j 0))

end Cert.Reference5Ideal.Route
-- ==== Proof.Claims.lean ====
/- The claims of the projections around the branches, of the final norm and of the expert routing's second result. -/
module

public import proofs.«01_k».proof.Defs
public import proofs.«01_k».proof.Proof.InKernel
public import proofs.«01_k».proof.Proof.InReference
public import proofs.«01_k».proof.Proof.OutKernel
public import proofs.«01_k».proof.Proof.OutReference
public import proofs.«01_k».proof.Proof.Final
public import proofs.«01_k».proof.Proof.RouteKernel
public import proofs.«01_k».proof.Proof.RouteReference
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run

@[expose] public section

set_option maxRecDepth 16384

noncomputable section

open Idealize.ShloMosaic Idealize.ShloMosaic.TcCoe Idealize.SL.Sem

namespace Cert.InProj

attribute [local instance] Cert.Kernel2Ideal.Gen.facts Cert.Reference2Ideal.Gen.facts

/-- The reference of the input projection ends without a fault, its arguments as launched and its counters at zero. -/
theorem reference_frame : Cert.quiescent_Reference2Ideal := fun m ρ _ =>
  (θ_run _ _ _).mono (fun r h => ⟨fun c => (h c).2.2.2.2.2.2, sem_eq_zero_of_no_sems (by decide) r.2⟩) (Cert.Reference2Ideal.Value.run m ρ)

/-- From the same arguments, whatever they are, the input projection ends with the reference's arrays. -/
theorem algebraic : Cert.algebraic_Kernel2Ideal_Reference2Ideal := by
  intro m ρ m' ρ' _ hargs
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N, fun c => (Cert.Kernel2Ideal.Gen.dats m 0 c).arrAt 6 Cert.Kernel2Ideal.cfg0.N, fun c => (Cert.Kernel2Ideal.Gen.dats m 0 c).arrAt 7 Cert.Kernel2Ideal.cfg0.N, fun c => (Cert.Kernel2Ideal.Gen.dats m 0 c).arrAt 8 Cert.Kernel2Ideal.cfg0.N, fun c => (Cert.Kernel2Ideal.Gen.dats m 0 c).arrAt 9 Cert.Kernel2Ideal.cfg0.N,
    Cert.Kernel2Ideal.Value.run_blocks m ρ, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.Reference2Ideal.Value.run (F := Ideal) m' ρ')
  all_goals obtain ⟨a0, a1, a2, a3⟩ := hargs c
  · refine (Cert.Reference2Ideal.Read.val_main_v51_eq _ _ _ _).trans ?_
    rw [a0, a1, a2, a3]
    exact (Cert.Reference2Ideal.InProj.out51 _ _ _ _).trans (Cert.Kernel2Ideal.InProj.array4 m c).symm
  · refine (Cert.Reference2Ideal.Read.val_main_v52_eq _ _ _ _).trans ?_
    rw [a0, a1, a2, a3]
    exact (Cert.Reference2Ideal.InProj.out52 _ _ _ _).trans (Cert.Kernel2Ideal.InProj.array5 m c).symm
  · refine (Cert.Reference2Ideal.Read.val_main_v53_eq _ _ _ _).trans ?_
    rw [a0, a1, a2, a3]
    exact (Cert.Reference2Ideal.InProj.out53 _ _ _ _).trans (Cert.Kernel2Ideal.InProj.array6 m c).symm
  · refine (Cert.Reference2Ideal.Read.val_main_v54_eq _ _ _ _).trans ?_
    rw [a0, a1, a2, a3]
    exact (Cert.Reference2Ideal.InProj.out54 _ _ _ _).trans (Cert.Kernel2Ideal.InProj.array7 m c).symm
  · refine (Cert.Reference2Ideal.Read.val_main_v56_eq _ _ _ _).trans ?_
    rw [a0, a1, a2, a3]
    exact (Cert.Reference2Ideal.InProj.out56 _ _ _ _).trans (Cert.Kernel2Ideal.InProj.array8 m c).symm
  · refine (Cert.Reference2Ideal.Read.val_main_v61_eq _ _).trans ?_
    rw [a0, a1, a2, a3]
    exact (Cert.Reference2Ideal.InProj.out61 _ _ _ _).trans (Cert.Kernel2Ideal.InProj.array9 m c).symm

end Cert.InProj

namespace Cert.OutProj

attribute [local instance] Cert.Kernel3Ideal.Gen.facts Cert.Reference3Ideal.Gen.facts

/-- The reference of the output projection ends without a fault, its arguments as launched and its counters at zero. -/
theorem reference_frame : Cert.quiescent_Reference3Ideal := fun m ρ _ =>
  (θ_run _ _ _).mono (fun r h => ⟨fun c => (h c).2.2, sem_eq_zero_of_no_sems (by decide) r.2⟩) (Cert.Reference3Ideal.Value.run m ρ)

/-- From the same arguments, whatever they are, the output projection ends with the reference's arrays. -/
theorem algebraic : Cert.algebraic_Kernel3Ideal_Reference3Ideal := by
  intro m ρ m' ρ' _ hargs
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N,
    Cert.Kernel3Ideal.Value.run_blocks m ρ, ?_⟩
  refine (θ_run _ _ _).mono (fun r h c => ⟨(h c).1.trans ?_, (h c).2.1.trans ?_, (h c).2.2⟩)
    (Cert.Reference3Ideal.Value.run (F := Ideal) m' ρ')
  all_goals obtain ⟨a0, a1, a2, a3, a4, a5, a6, a7⟩ := hargs c
  · refine (Cert.Reference3Ideal.Read.val_main_v67_eq _ _ _ _ _ _ _).trans ?_
    rw [a0, a1, a3, a4, a5, a6, a7]
    exact (Cert.Reference3Ideal.OutProj.out67 _ _ _ _ _ _ _).trans (Cert.Kernel3Ideal.OutProj.array8 m c).symm
  · refine (Cert.Reference3Ideal.Read.val_main_v70_eq _ _).trans ?_
    rw [a0, a1, a2, a3, a4, a5, a6, a7]
    exact (Cert.Reference3Ideal.OutProj.out70 _ _ _ _ _ _ _ _).trans (Cert.Kernel3Ideal.OutProj.array9 m c).symm

end Cert.OutProj

namespace Cert.Final

attribute [local instance] Cert.Kernel4Ideal.Gen.facts Cert.Reference4Ideal.Gen.facts

/-- The reference of the final norm ends without a fault, its arguments as launched and its counters at zero. -/
theorem reference_frame : Cert.quiescent_Reference4Ideal := fun m ρ _ =>
  (θ_run _ _ _).mono (fun r h => ⟨fun c => (h c).2, sem_eq_zero_of_no_sems (by decide) r.2⟩) (Cert.Reference4Ideal.Value.run m ρ)

/-- From the same arguments, whatever they are, the final norm ends with the reference's arrays. -/
theorem algebraic : Cert.algebraic_Kernel4Ideal_Reference4Ideal := by
  intro m ρ m' ρ' _ hargs
  refine ⟨fun c => (Cert.Kernel4Ideal.Gen.dats m 0 c).arrAt 2 Cert.Kernel4Ideal.cfg0.N,
    Cert.Kernel4Ideal.Value.run_blocks m ρ, ?_⟩
  refine (θ_run _ _ _).mono (fun r h c => ⟨(h c).1.trans ?_, (h c).2⟩)
    (Cert.Reference4Ideal.Value.run (F := Ideal) m' ρ')
  all_goals obtain ⟨a0, a1⟩ := hargs c
  · refine (Cert.Reference4Ideal.Read.val_main_v13_eq _ _).trans ?_
    rw [a0, a1]
    exact (Cert.Reference4Ideal.Final.out _ _).trans (Cert.Kernel4Ideal.Final.array m c).symm

end Cert.Final

namespace Cert.Route

attribute [local instance] Cert.Kernel5Ideal.Gen.facts Cert.Reference5Ideal.Gen.facts

/-- The reference of the expert routing ends without a fault, its arguments as launched and its counters at zero. -/
theorem reference_frame : Cert.quiescent_Reference5Ideal := fun m ρ _ =>
  (θ_run _ _ _).mono (fun r h => ⟨fun c => (h c).2, sem_eq_zero_of_no_sems (by decide) r.2⟩) (Cert.Reference5Ideal.Value.run m ρ)

/-- From the same arguments, whatever they are, the second result of the expert routing is the reference's array. -/
theorem algebraic : Cert.algebraic_Kernel5Ideal_Reference5Ideal := by
  intro m ρ m' ρ' _ hargs
  refine ⟨fun c => (Cert.Kernel5Ideal.Gen.dats m 0 c).arrAt 4 Cert.Kernel5Ideal.cfg0.N,
    (θ_run _ _ _).mono (fun r h c => ⟨(h c).2.1, (h c).2.2.2.2⟩) (Cert.Kernel5Ideal.Value.run_blocks m ρ), ?_⟩
  refine (θ_run _ _ _).mono (fun r h c => ⟨(h c).1.trans ?_, (h c).2⟩)
    (Cert.Reference5Ideal.Value.run (F := Ideal) m' ρ')
  obtain ⟨a0, a1, a2⟩ := hargs c
  refine (Cert.Reference5Ideal.Read.val_main_v14_eq _ _ _).trans ?_
  rw [a0, a1, a2]
  exact (Cert.Reference5Ideal.Route.out _ _ _).trans (Cert.Kernel5Ideal.Route.array4 m c).symm

end Cert.Route
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Main
public import proofs.«01_k».proof.Proof.Claims

@[expose] public section

noncomputable section

namespace Cert.Proof

open Idealize.ShloMosaic Idealize.SL.Sem

attribute [local instance] Cert.Kernel.Gen.facts Cert.KernelIdeal.Gen.facts Cert.ReferenceIdeal.Gen.facts Cert.Finite.facts
  Cert.Kernel2.Gen.facts Cert.Kernel2Ideal.Gen.facts Cert.Reference2Ideal.Gen.facts Cert.Kernel3.Gen.facts Cert.Kernel3Ideal.Gen.facts
  Cert.Reference3Ideal.Gen.facts Cert.Kernel4.Gen.facts Cert.Kernel4Ideal.Gen.facts Cert.Reference4Ideal.Gen.facts
  Cert.Kernel5.Gen.facts Cert.Kernel5Ideal.Gen.facts Cert.Reference5Ideal.Gen.facts

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Finite.facts,
    fun m ρ _ => Cert.Kernel.Gen.frame m ρ,
    fun m ρ _ => Cert.KernelIdeal.Gen.frame m ρ,
    fun m ρ _ => Cert.KernelIdeal.Gen.frame m ρ,
    Cert.Latent.reference_frame,
    fun m ρ _ => Cert.Latent.reference_frame m ρ trivial,
    fun m ρ _ => Cert.Kernel2.Gen.frame m ρ,
    fun m ρ _ => Cert.Kernel2Ideal.Gen.frame m ρ,
    Cert.InProj.reference_frame,
    fun m ρ _ => Cert.Kernel3.Gen.frame m ρ,
    fun m ρ _ => Cert.Kernel3Ideal.Gen.frame m ρ,
    Cert.OutProj.reference_frame,
    fun m ρ _ => Cert.Kernel4.Gen.frame m ρ,
    fun m ρ _ => Cert.Kernel4Ideal.Gen.frame m ρ,
    Cert.Final.reference_frame,
    fun m ρ _ => Cert.Kernel5.Gen.frame m ρ,
    fun m ρ _ => Cert.Kernel5Ideal.Gen.frame m ρ,
    Cert.Route.reference_frame,
    trivial, Cert.Latent.algebraic,
    trivial, Cert.InProj.algebraic,
    trivial, Cert.OutProj.algebraic,
    trivial, Cert.Final.algebraic,
    trivial, Cert.Route.algebraic⟩

end Cert.Proof
